-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_ties [hPre_finite_no_ties : Cert.Pre_finite_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_ties [hPre_finite_no_ties : Cert.Pre_finite_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_no_ties [hKernelIdeal : Cert.KernelIdeal.Facts] [hPre_finite_no_ties : Cert.Pre_finite_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_no_ties [hReferenceIdeal : Cert.ReferenceIdeal.Facts] [hPre_finite_no_ties : Cert.Pre_finite_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_no_ties [hKernelIdeal : Cert.KernelIdeal.Facts] [hReferenceIdeal : Cert.ReferenceIdeal.Facts] [hPre_finite_no_ties : Cert.Pre_finite_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_no_ties : Cert.Pre_finite_no_ties.Facts),
    quiescent_Kernel (hKernel := hKernel)
    ∧ quiescent_KernelIdeal (hKernelIdeal := hKernelIdeal)
    ∧ quiescent_KernelIdeal_pre_finite_no_ties (hKernelIdeal := hKernelIdeal) (hPre_finite_no_ties := hPre_finite_no_ties)
    ∧ quiescent_ReferenceIdeal (hReferenceIdeal := hReferenceIdeal)
    ∧ quiescent_ReferenceIdeal_pre_finite_no_ties (hReferenceIdeal := hReferenceIdeal) (hPre_finite_no_ties := hPre_finite_no_ties)
    ∧ preserves_Kernel_KernelIdeal
    ∧ algebraic_KernelIdeal_ReferenceIdeal_pre_finite_no_ties (hKernelIdeal := hKernelIdeal) (hReferenceIdeal := hReferenceIdeal) (hPre_finite_no_ties := hPre_finite_no_ties)
-- ==== Pre_finite_no_ties.lean ====
abbrev S1x384x224x224 : Shape := ⟨4, ![1, 384, 224, 224]⟩
abbrev S1152x384x1x1 : Shape := ⟨4, ![1152, 384, 1, 1]⟩
abbrev S1152x1x3x3 : Shape := ⟨4, ![1152, 1, 3, 3]⟩
abbrev S384x384x1x1 : Shape := ⟨4, ![384, 384, 1, 1]⟩
abbrev S8x1x1 : Shape := ⟨3, ![8, 1, 1]⟩
abbrev S1152x384 : Shape := ⟨2, ![1152, 384]⟩
abbrev S384x224x224 : Shape := ⟨3, ![384, 224, 224]⟩
abbrev S1152x224x224 : Shape := ⟨3, ![1152, 224, 224]⟩
abbrev S_ : Shape := ⟨0, ![]⟩
abbrev S1152x226x226 : Shape := ⟨3, ![1152, 226, 226]⟩
abbrev S1152x3x3 : Shape := ⟨3, ![1152, 3, 3]⟩
abbrev S1152x1x1 : Shape := ⟨3, ![1152, 1, 1]⟩
abbrev S1152 : Shape := ⟨1, ![1152]⟩
abbrev S8x48x224x224 : Shape := ⟨4, ![8, 48, 224, 224]⟩
abbrev S8x48 : Shape := ⟨2, ![8, 48]⟩
abbrev S8x48x1x1 : Shape := ⟨4, ![8, 48, 1, 1]⟩
abbrev S8x48x48 : Shape := ⟨3, ![8, 48, 48]⟩
abbrev S8x48x48x48 : Shape := ⟨4, ![8, 48, 48, 48]⟩
abbrev S8x48x48x1 : Shape := ⟨4, ![8, 48, 48, 1]⟩
abbrev S8x48x1x48 : Shape := ⟨4, ![8, 48, 1, 48]⟩

class Facts : Prop where
  shapeCasts_S1152x384x1x1_S1152x384 : S1152x384x1x1.ShapeCasts S1152x384
  shapeCasts_S1x384x224x224_S384x224x224 : S1x384x224x224.ShapeCasts S384x224x224
  pads_S1152x224x224_S1152x226x226_000_110_110 : S1152x224x224.Pads (![0, 1, 1] : Fin 3 → Nat) ![0, 1, 1] ![0, 0, 0] S1152x226x226
  h_S_ : 0 < S_.numel
  shapeCasts_S1152x1x3x3_S1152x3x3 : S1152x1x3x3.ShapeCasts S1152x3x3
  slices_S1152x3x3_S1152x1x1_0_0_0 : S1152x3x3.Slices ![0, 0, 0] S1152x1x1
  shapeCasts_S1152x1x1_S1152 : S1152x1x1.ShapeCasts S1152
  bcast_S1152_S1152x1x1_0 : S1152.BroadcastsInDim S1152x1x1 (![0] : Fin 1 → Fin S1152x1x1.rank)
  slices_S1152x226x226_S1152x224x224_0_0_0 : S1152x226x226.Slices ![0, 0, 0] S1152x224x224
  bcast_S1152x1x1_S1152x224x224_0_1_2 : S1152x1x1.BroadcastsInDim S1152x224x224 (![0, 1, 2] : Fin 3 → Fin S1152x224x224.rank)
  bcast_S_S1152x224x224 : S_.BroadcastsInDim S1152x224x224 (![] : Fin 0 → Fin S1152x224x224.rank)
  slices_S1152x3x3_S1152x1x1_0_0_1 : S1152x3x3.Slices ![0, 0, 1] S1152x1x1
  slices_S1152x226x226_S1152x224x224_0_0_1 : S1152x226x226.Slices ![0, 0, 1] S1152x224x224
  slices_S1152x3x3_S1152x1x1_0_0_2 : S1152x3x3.Slices ![0, 0, 2] S1152x1x1
  slices_S1152x226x226_S1152x224x224_0_0_2 : S1152x226x226.Slices ![0, 0, 2] S1152x224x224
  slices_S1152x3x3_S1152x1x1_0_1_0 : S1152x3x3.Slices ![0, 1, 0] S1152x1x1
  slices_S1152x226x226_S1152x224x224_0_1_0 : S1152x226x226.Slices ![0, 1, 0] S1152x224x224
  slices_S1152x3x3_S1152x1x1_0_1_1 : S1152x3x3.Slices ![0, 1, 1] S1152x1x1
  slices_S1152x226x226_S1152x224x224_0_1_1 : S1152x226x226.Slices ![0, 1, 1] S1152x224x224
  slices_S1152x3x3_S1152x1x1_0_1_2 : S1152x3x3.Slices ![0, 1, 2] S1152x1x1
  slices_S1152x226x226_S1152x224x224_0_1_2 : S1152x226x226.Slices ![0, 1, 2] S1152x224x224
  slices_S1152x3x3_S1152x1x1_0_2_0 : S1152x3x3.Slices ![0, 2, 0] S1152x1x1
  slices_S1152x226x226_S1152x224x224_0_2_0 : S1152x226x226.Slices ![0, 2, 0] S1152x224x224
  slices_S1152x3x3_S1152x1x1_0_2_1 : S1152x3x3.Slices ![0, 2, 1] S1152x1x1
  slices_S1152x226x226_S1152x224x224_0_2_1 : S1152x226x226.Slices ![0, 2, 1] S1152x224x224
  slices_S1152x3x3_S1152x1x1_0_2_2 : S1152x3x3.Slices ![0, 2, 2] S1152x1x1
  slices_S1152x226x226_S1152x224x224_0_2_2 : S1152x226x226.Slices ![0, 2, 2] S1152x224x224
  slices_S1152x224x224_S384x224x224_0_0_0 : S1152x224x224.Slices ![0, 0, 0] S384x224x224
  slices_S1152x224x224_S384x224x224_384_0_0 : S1152x224x224.Slices ![384, 0, 0] S384x224x224
  slices_S1152x224x224_S384x224x224_768_0_0 : S1152x224x224.Slices ![768, 0, 0] S384x224x224
  shapeCasts_S384x224x224_S8x48x224x224 : S384x224x224.ShapeCasts S8x48x224x224
  reducesTo_S8x48x224x224_S8x48_d2_3 : S8x48x224x224.ReducesTo [2, 3] S8x48
  bcast_S8x48_S8x48x1x1_0_1 : S8x48.BroadcastsInDim S8x48x1x1 (![0, 1] : Fin 2 → Fin S8x48x1x1.rank)
  bcast_S_S8x48x1x1 : S_.BroadcastsInDim S8x48x1x1 (![] : Fin 0 → Fin S8x48x1x1.rank)
  bcast_S8x48x1x1_S8x48x224x224_0_1_2_3 : S8x48x1x1.BroadcastsInDim S8x48x224x224 (![0, 1, 2, 3] : Fin 4 → Fin S8x48x224x224.rank)
  bcast_S8x1x1_S8x48x48_0_1_2 : S8x1x1.BroadcastsInDim S8x48x48 (![0, 1, 2] : Fin 3 → Fin S8x48x48.rank)
  bcast_S_S1x384x224x224 : S_.BroadcastsInDim S1x384x224x224 (![] : Fin 0 → Fin S1x384x224x224.rank)
  bcast_S_S1152x384x1x1 : S_.BroadcastsInDim S1152x384x1x1 (![] : Fin 0 → Fin S1152x384x1x1.rank)
  bcast_S_S1152x1x3x3 : S_.BroadcastsInDim S1152x1x3x3 (![] : Fin 0 → Fin S1152x1x3x3.rank)
  bcast_S_S384x384x1x1 : S_.BroadcastsInDim S384x384x1x1 (![] : Fin 0 → Fin S384x384x1x1.rank)
  bcast_S_S8x1x1 : S_.BroadcastsInDim S8x1x1 (![] : Fin 0 → Fin S8x1x1.rank)
  bcast_S8x48x48_S8x48x48x1_0_1_2 : S8x48x48.BroadcastsInDim S8x48x48x1 (![0, 1, 2] : Fin 3 → Fin S8x48x48x1.rank)
  bcast_S8x48x48_S8x48x1x48_0_1_3 : S8x48x48.BroadcastsInDim S8x48x1x48 (![0, 1, 3] : Fin 3 → Fin S8x48x1x48.rank)
  bcast_S8x48x48x1_S8x48x48x48_0_1_2_3 : S8x48x48x1.BroadcastsInDim S8x48x48x48 (![0, 1, 2, 3] : Fin 4 → Fin S8x48x48x48.rank)
  bcast_S8x48x1x48_S8x48x48x48_0_1_2_3 : S8x48x1x48.BroadcastsInDim S8x48x48x48 (![0, 1, 2, 3] : Fin 4 → Fin S8x48x48x48.rank)
  dot_S1152x384_S384x224x224_S1152x224x224_1_0_0_12_n_n_wf : DotDims.WF S1152x384 S384x224x224 S1152x224x224 [1] [0] [0] [1, 2] [] []
  dot_S8x48x224x224_S8x48x224x224_S8x48x48_23_23_1_1_0_0_wf : DotDims.WF S8x48x224x224 S8x48x224x224 S8x48x48 [2, 3] [2, 3] [1] [1] [0] [0]

variable [Facts]

def dot_S1152x384_S384x224x224_S1152x224x224_1_0_0_12_n_n : DotDims S1152x384 S384x224x224 S1152x224x224 where
  lhsContracting := [1]
  rhsContracting := [0]
  lhsNonContracting := [0]
  rhsNonContracting := [1, 2]
  lhsBatch := []
  rhsBatch := []
  wf := dot_S1152x384_S384x224x224_S1152x224x224_1_0_0_12_n_n_wf
def dot_S8x48x224x224_S8x48x224x224_S8x48x48_23_23_1_1_0_0 : DotDims S8x48x224x224 S8x48x224x224 S8x48x48 where
  lhsContracting := [2, 3]
  rhsContracting := [2, 3]
  lhsNonContracting := [1]
  rhsNonContracting := [1]
  lhsBatch := [0]
  rhsBatch := [0]
  wf := dot_S8x48x224x224_S8x48x224x224_S8x48x48_23_23_1_1_0_0_wf
def fn_pad {F : FTy → Type} [FloatOps F] (arg0 : FVec F S1152x224x224 .f32) (arg1 : IVec S_ 32) : FVec F S1152x226x226 .f32 :=
  let v0 : FVec F S_ .f32 := sitofp .f32 arg1
  let v1 : FVec F S1152x226x226 .f32 := (fun x v => pad S1152x226x226 ![0, 1, 1] ![0, 1, 1] ![0, 0, 0] x v pads_S1152x224x224_S1152x226x226_000_110_110 h_S_) arg0 v0
  v1

def fn_part5 {F : FTy → Type} [FloatOps F] (main_v93 : FVec F S8x48x48 .f32) (main_v94 : IVec S8x48x48x48 32) (main_v95 : IVec S8x48x48x48 32) (main_v98 : IVec S1x384x224x224 1) (main_v101 : IVec S1152x384x1x1 1) (main_v104 : IVec S1152x1x3x3 1) (main_v107 : IVec S384x384x1x1 1) (main_v108 : FVec F S8x1x1 .f32) (main_cst_8 : FVec F S_ .f32) : IVec S1x384x224x224 1 × IVec S1152x384x1x1 1 × IVec S1152x1x3x3 1 × IVec S384x384x1x1 1 × IVec S8x1x1 1 × IVec S8x48x48x48 1 :=
  let main_v109 : FVec F S8x1x1 .f32 := broadcastInDim S8x1x1 ![] bcast_S_S8x1x1 main_cst_8
  let main_v110 : IVec S8x1x1 1 := cmpf .olt main_v108 main_v109
  let main_v111 : IVec S8x48x48x48 1 := cmpi .eq main_v94 main_v95
  let main_v112 : FVec F S8x48x48x1 .f32 := broadcastInDim S8x48x48x1 ![0, 1, 2] bcast_S8x48x48_S8x48x48x1_0_1_2 main_v93
  let main_v113 : FVec F S8x48x1x48 .f32 := broadcastInDim S8x48x1x48 ![0, 1, 3] bcast_S8x48x48_S8x48x1x48_0_1_3 main_v93
  let main_v114 : FVec F S8x48x48x48 .f32 := broadcastInDim S8x48x48x48 ![0, 1, 2, 3] bcast_S8x48x48x1_S8x48x48x48_0_1_2_3 main_v112
  let main_v115 : FVec F S8x48x48x48 .f32 := broadcastInDim S8x48x48x48 ![0, 1, 2, 3] bcast_S8x48x1x48_S8x48x48x48_0_1_2_3 main_v113
  let main_v116 : IVec S8x48x48x48 1 := cmpf .une main_v114 main_v115
  let main_v117 : IVec S8x48x48x48 1 := ori main_v111 main_v116
  (main_v98, main_v101, main_v104, main_v107, main_v110, main_v117)

def fn_part4 {F : FTy → Type} [FloatOps F] (main_arg0 : FVec F S1x384x224x224 .f32) (main_arg1 : FVec F S1152x384x1x1 .f32) (main_arg2 : FVec F S1152x1x3x3 .f32) (main_arg3 : FVec F S384x384x1x1 .f32) (main_arg4 : FVec F S8x1x1 .f32) (main_v73 : FVec F S8x48x224x224 .f32) (main_v82 : FVec F S8x48x224x224 .f32) (main_v89 : FVec F S8x48x224x224 .f32) : IVec S1x384x224x224 1 × IVec S1152x384x1x1 1 × IVec S1152x1x3x3 1 × IVec S384x384x1x1 1 × IVec S8x1x1 1 × IVec S8x48x48x48 1 :=
  let main_v90 : FVec F S8x48x224x224 .f32 := Host.divf main_v73 main_v89
  let main_v91 : FVec F S8x48x48 .f32 := (fun l r => Host.dotGeneral dot_S8x48x224x224_S8x48x224x224_S8x48x48_23_23_1_1_0_0 none l r) main_v82 main_v90
  let main_v92 : FVec F S8x48x48 .f32 := broadcastInDim S8x48x48 ![0, 1, 2] bcast_S8x1x1_S8x48x48_0_1_2 main_arg4
  let main_v93 : FVec F S8x48x48 .f32 := mulf main_v91 main_v92
  let main_v94 : IVec S8x48x48x48 32 := iotaInDim S8x48x48x48 32 2
  let main_v95 : IVec S8x48x48x48 32 := iotaInDim S8x48x48x48 32 3
  let main_v96 : FVec F S1x384x224x224 .f32 := Host.absf main_arg0
  let main_cst_4 : FVec F S_ .f32 := constant S_ .f32 0x7F800000#32
  let main_v97 : FVec F S1x384x224x224 .f32 := broadcastInDim S1x384x224x224 ![] bcast_S_S1x384x224x224 main_cst_4
  let main_v98 : IVec S1x384x224x224 1 := cmpf .olt main_v96 main_v97
  let main_v99 : FVec F S1152x384x1x1 .f32 := Host.absf main_arg1
  let main_cst_5 : FVec F S_ .f32 := constant S_ .f32 0x7F800000#32
  let main_v100 : FVec F S1152x384x1x1 .f32 := broadcastInDim S1152x384x1x1 ![] bcast_S_S1152x384x1x1 main_cst_5
  let main_v101 : IVec S1152x384x1x1 1 := cmpf .olt main_v99 main_v100
  let main_v102 : FVec F S1152x1x3x3 .f32 := Host.absf main_arg2
  let main_cst_6 : FVec F S_ .f32 := constant S_ .f32 0x7F800000#32
  let main_v103 : FVec F S1152x1x3x3 .f32 := broadcastInDim S1152x1x3x3 ![] bcast_S_S1152x1x3x3 main_cst_6
  let main_v104 : IVec S1152x1x3x3 1 := cmpf .olt main_v102 main_v103
  let main_v105 : FVec F S384x384x1x1 .f32 := Host.absf main_arg3
  let main_cst_7 : FVec F S_ .f32 := constant S_ .f32 0x7F800000#32
  let main_v106 : FVec F S384x384x1x1 .f32 := broadcastInDim S384x384x1x1 ![] bcast_S_S384x384x1x1 main_cst_7
  let main_v107 : IVec S384x384x1x1 1 := cmpf .olt main_v105 main_v106
  let main_v108 : FVec F S8x1x1 .f32 := Host.absf main_arg4
  let main_cst_8 : FVec F S_ .f32 := constant S_ .f32 0x7F800000#32
  fn_part5 (F := F) main_v93 main_v94 main_v95 main_v98 main_v101 main_v104 main_v107 main_v108 main_cst_8

def fn_part3 {F : FTy → Type} [FloatOps F] (main_arg0 : FVec F S1x384x224x224 .f32) (main_arg1 : FVec F S1152x384x1x1 .f32) (main_arg2 : FVec F S1152x1x3x3 .f32) (main_arg3 : FVec F S384x384x1x1 .f32) (main_arg4 : FVec F S8x1x1 .f32) (main_v68 : FVec F S1152x224x224 .f32) (main_v69 : FVec F S384x224x224 .f32) : IVec S1x384x224x224 1 × IVec S1152x384x1x1 1 × IVec S1152x1x3x3 1 × IVec S384x384x1x1 1 × IVec S8x1x1 1 × IVec S8x48x48x48 1 :=
  let main_v70 : FVec F S384x224x224 .f32 := (extractStridedSlice S384x224x224 ![384, 0, 0] · slices_S1152x224x224_S384x224x224_384_0_0) main_v68
  let main_v71 : FVec F S384x224x224 .f32 := (extractStridedSlice S384x224x224 ![768, 0, 0] · slices_S1152x224x224_S384x224x224_768_0_0) main_v68
  let main_v72 : FVec F S8x48x224x224 .f32 := shapeCast S8x48x224x224 main_v69 shapeCasts_S384x224x224_S8x48x224x224
  let main_v73 : FVec F S8x48x224x224 .f32 := shapeCast S8x48x224x224 main_v70 shapeCasts_S384x224x224_S8x48x224x224
  let main_v74 : FVec F S8x48x224x224 .f32 := shapeCast S8x48x224x224 main_v71 shapeCasts_S384x224x224_S8x48x224x224
  let main_v75 : FVec F S8x48x224x224 .f32 := mulf main_v72 main_v72
  let main_cst_0 : FVec F S_ .f32 := constant S_ .f32 0x00000000#32
  let main_v76 : FVec F S8x48 .f32 := (fun x v => Host.reduceAdd x v reducesTo_S8x48x224x224_S8x48_d2_3 h_S_) main_v75 main_cst_0
  let main_v77 : FVec F S8x48x1x1 .f32 := broadcastInDim S8x48x1x1 ![0, 1] bcast_S8x48_S8x48x1x1_0_1 main_v76
  let main_v78 : FVec F S8x48x1x1 .f32 := Host.sqrt main_v77
  let main_cst_1 : FVec F S_ .f32 := constant S_ .f32 0x2B8CBCCC#32
  let main_v79 : FVec F S8x48x1x1 .f32 := broadcastInDim S8x48x1x1 ![] bcast_S_S8x48x1x1 main_cst_1
  let main_v80 : FVec F S8x48x1x1 .f32 := maximumf main_v78 main_v79
  let main_v81 : FVec F S8x48x224x224 .f32 := broadcastInDim S8x48x224x224 ![0, 1, 2, 3] bcast_S8x48x1x1_S8x48x224x224_0_1_2_3 main_v80
  let main_v82 : FVec F S8x48x224x224 .f32 := Host.divf main_v72 main_v81
  let main_v83 : FVec F S8x48x224x224 .f32 := mulf main_v73 main_v73
  let main_cst_2 : FVec F S_ .f32 := constant S_ .f32 0x00000000#32
  let main_v84 : FVec F S8x48 .f32 := (fun x v => Host.reduceAdd x v reducesTo_S8x48x224x224_S8x48_d2_3 h_S_) main_v83 main_cst_2
  let main_v85 : FVec F S8x48x1x1 .f32 := broadcastInDim S8x48x1x1 ![0, 1] bcast_S8x48_S8x48x1x1_0_1 main_v84
  let main_v86 : FVec F S8x48x1x1 .f32 := Host.sqrt main_v85
  let main_cst_3 : FVec F S_ .f32 := constant S_ .f32 0x2B8CBCCC#32
  let main_v87 : FVec F S8x48x1x1 .f32 := broadcastInDim S8x48x1x1 ![] bcast_S_S8x48x1x1 main_cst_3
  let main_v88 : FVec F S8x48x1x1 .f32 := maximumf main_v86 main_v87
  let main_v89 : FVec F S8x48x224x224 .f32 := broadcastInDim S8x48x224x224 ![0, 1, 2, 3] bcast_S8x48x1x1_S8x48x224x224_0_1_2_3 main_v88
  fn_part4 (F := F) main_arg0 main_arg1 main_arg2 main_arg3 main_arg4 main_v73 main_v82 main_v89

def fn_part2 {F : FTy → Type} [FloatOps F] (main_arg0 : FVec F S1x384x224x224 .f32) (main_arg1 : FVec F S1152x384x1x1 .f32) (main_arg2 : FVec F S1152x1x3x3 .f32) (main_arg3 : FVec F S384x384x1x1 .f32) (main_arg4 : FVec F S8x1x1 .f32) (main_v3 : FVec F S1152x226x226 .f32) (main_v4 : FVec F S1152x3x3 .f32) (main_v40 : FVec F S1152x224x224 .f32) (main_v44 : FVec F S1152x224x224 .f32) (main_v45 : FVec F S1152x224x224 .f32) : IVec S1x384x224x224 1 × IVec S1152x384x1x1 1 × IVec S1152x1x3x3 1 × IVec S384x384x1x1 1 × IVec S8x1x1 1 × IVec S8x48x48x48 1 :=
  let main_v46 : FVec F S1152x224x224 .f32 := mulf main_v45 main_v44
  let main_v47 : FVec F S1152x224x224 .f32 := addf main_v40 main_v46
  let main_v48 : FVec F S1152x1x1 .f32 := (extractStridedSlice S1152x1x1 ![0, 2, 0] · slices_S1152x3x3_S1152x1x1_0_2_0) main_v4
  let main_v49 : FVec F S1152 .f32 := shapeCast S1152 main_v48 shapeCasts_S1152x1x1_S1152
  let main_v50 : FVec F S1152x1x1 .f32 := broadcastInDim S1152x1x1 ![0] bcast_S1152_S1152x1x1_0 main_v49
  let main_v51 : FVec F S1152x224x224 .f32 := (extractStridedSlice S1152x224x224 ![0, 2, 0] · slices_S1152x226x226_S1152x224x224_0_2_0) main_v3
  let main_v52 : FVec F S1152x224x224 .f32 := broadcastInDim S1152x224x224 ![0, 1, 2] bcast_S1152x1x1_S1152x224x224_0_1_2 main_v50
  let main_v53 : FVec F S1152x224x224 .f32 := mulf main_v52 main_v51
  let main_v54 : FVec F S1152x224x224 .f32 := addf main_v47 main_v53
  let main_v55 : FVec F S1152x1x1 .f32 := (extractStridedSlice S1152x1x1 ![0, 2, 1] · slices_S1152x3x3_S1152x1x1_0_2_1) main_v4
  let main_v56 : FVec F S1152 .f32 := shapeCast S1152 main_v55 shapeCasts_S1152x1x1_S1152
  let main_v57 : FVec F S1152x1x1 .f32 := broadcastInDim S1152x1x1 ![0] bcast_S1152_S1152x1x1_0 main_v56
  let main_v58 : FVec F S1152x224x224 .f32 := (extractStridedSlice S1152x224x224 ![0, 2, 1] · slices_S1152x226x226_S1152x224x224_0_2_1) main_v3
  let main_v59 : FVec F S1152x224x224 .f32 := broadcastInDim S1152x224x224 ![0, 1, 2] bcast_S1152x1x1_S1152x224x224_0_1_2 main_v57
  let main_v60 : FVec F S1152x224x224 .f32 := mulf main_v59 main_v58
  let main_v61 : FVec F S1152x224x224 .f32 := addf main_v54 main_v60
  let main_v62 : FVec F S1152x1x1 .f32 := (extractStridedSlice S1152x1x1 ![0, 2, 2] · slices_S1152x3x3_S1152x1x1_0_2_2) main_v4
  let main_v63 : FVec F S1152 .f32 := shapeCast S1152 main_v62 shapeCasts_S1152x1x1_S1152
  let main_v64 : FVec F S1152x1x1 .f32 := broadcastInDim S1152x1x1 ![0] bcast_S1152_S1152x1x1_0 main_v63
  let main_v65 : FVec F S1152x224x224 .f32 := (extractStridedSlice S1152x224x224 ![0, 2, 2] · slices_S1152x226x226_S1152x224x224_0_2_2) main_v3
  let main_v66 : FVec F S1152x224x224 .f32 := broadcastInDim S1152x224x224 ![0, 1, 2] bcast_S1152x1x1_S1152x224x224_0_1_2 main_v64
  let main_v67 : FVec F S1152x224x224 .f32 := mulf main_v66 main_v65
  let main_v68 : FVec F S1152x224x224 .f32 := addf main_v61 main_v67
  let main_v69 : FVec F S384x224x224 .f32 := (extractStridedSlice S384x224x224 ![0, 0, 0] · slices_S1152x224x224_S384x224x224_0_0_0) main_v68
  fn_part3 (F := F) main_arg0 main_arg1 main_arg2 main_arg3 main_arg4 main_v68 main_v69

def fn_part1 {F : FTy → Type} [FloatOps F] (main_arg0 : FVec F S1x384x224x224 .f32) (main_arg1 : FVec F S1152x384x1x1 .f32) (main_arg2 : FVec F S1152x1x3x3 .f32) (main_arg3 : FVec F S384x384x1x1 .f32) (main_arg4 : FVec F S8x1x1 .f32) (main_v3 : FVec F S1152x226x226 .f32) (main_v4 : FVec F S1152x3x3 .f32) (main_v19 : FVec F S1152x224x224 .f32) (main_v21 : FVec F S1152 .f32) : IVec S1x384x224x224 1 × IVec S1152x384x1x1 1 × IVec S1152x1x3x3 1 × IVec S384x384x1x1 1 × IVec S8x1x1 1 × IVec S8x48x48x48 1 :=
  let main_v22 : FVec F S1152x1x1 .f32 := broadcastInDim S1152x1x1 ![0] bcast_S1152_S1152x1x1_0 main_v21
  let main_v23 : FVec F S1152x224x224 .f32 := (extractStridedSlice S1152x224x224 ![0, 0, 2] · slices_S1152x226x226_S1152x224x224_0_0_2) main_v3
  let main_v24 : FVec F S1152x224x224 .f32 := broadcastInDim S1152x224x224 ![0, 1, 2] bcast_S1152x1x1_S1152x224x224_0_1_2 main_v22
  let main_v25 : FVec F S1152x224x224 .f32 := mulf main_v24 main_v23
  let main_v26 : FVec F S1152x224x224 .f32 := addf main_v19 main_v25
  let main_v27 : FVec F S1152x1x1 .f32 := (extractStridedSlice S1152x1x1 ![0, 1, 0] · slices_S1152x3x3_S1152x1x1_0_1_0) main_v4
  let main_v28 : FVec F S1152 .f32 := shapeCast S1152 main_v27 shapeCasts_S1152x1x1_S1152
  let main_v29 : FVec F S1152x1x1 .f32 := broadcastInDim S1152x1x1 ![0] bcast_S1152_S1152x1x1_0 main_v28
  let main_v30 : FVec F S1152x224x224 .f32 := (extractStridedSlice S1152x224x224 ![0, 1, 0] · slices_S1152x226x226_S1152x224x224_0_1_0) main_v3
  let main_v31 : FVec F S1152x224x224 .f32 := broadcastInDim S1152x224x224 ![0, 1, 2] bcast_S1152x1x1_S1152x224x224_0_1_2 main_v29
  let main_v32 : FVec F S1152x224x224 .f32 := mulf main_v31 main_v30
  let main_v33 : FVec F S1152x224x224 .f32 := addf main_v26 main_v32
  let main_v34 : FVec F S1152x1x1 .f32 := (extractStridedSlice S1152x1x1 ![0, 1, 1] · slices_S1152x3x3_S1152x1x1_0_1_1) main_v4
  let main_v35 : FVec F S1152 .f32 := shapeCast S1152 main_v34 shapeCasts_S1152x1x1_S1152
  let main_v36 : FVec F S1152x1x1 .f32 := broadcastInDim S1152x1x1 ![0] bcast_S1152_S1152x1x1_0 main_v35
  let main_v37 : FVec F S1152x224x224 .f32 := (extractStridedSlice S1152x224x224 ![0, 1, 1] · slices_S1152x226x226_S1152x224x224_0_1_1) main_v3
  let main_v38 : FVec F S1152x224x224 .f32 := broadcastInDim S1152x224x224 ![0, 1, 2] bcast_S1152x1x1_S1152x224x224_0_1_2 main_v36
  let main_v39 : FVec F S1152x224x224 .f32 := mulf main_v38 main_v37
  let main_v40 : FVec F S1152x224x224 .f32 := addf main_v33 main_v39
  let main_v41 : FVec F S1152x1x1 .f32 := (extractStridedSlice S1152x1x1 ![0, 1, 2] · slices_S1152x3x3_S1152x1x1_0_1_2) main_v4
  let main_v42 : FVec F S1152 .f32 := shapeCast S1152 main_v41 shapeCasts_S1152x1x1_S1152
  let main_v43 : FVec F S1152x1x1 .f32 := broadcastInDim S1152x1x1 ![0] bcast_S1152_S1152x1x1_0 main_v42
  let main_v44 : FVec F S1152x224x224 .f32 := (extractStridedSlice S1152x224x224 ![0, 1, 2] · slices_S1152x226x226_S1152x224x224_0_1_2) main_v3
  let main_v45 : FVec F S1152x224x224 .f32 := broadcastInDim S1152x224x224 ![0, 1, 2] bcast_S1152x1x1_S1152x224x224_0_1_2 main_v43
  fn_part2 (F := F) main_arg0 main_arg1 main_arg2 main_arg3 main_arg4 main_v3 main_v4 main_v40 main_v44 main_v45

def fn {F : FTy → Type} [FloatOps F] (main_arg0 : FVec F S1x384x224x224 .f32) (main_arg1 : FVec F S1152x384x1x1 .f32) (main_arg2 : FVec F S1152x1x3x3 .f32) (main_arg3 : FVec F S384x384x1x1 .f32) (main_arg4 : FVec F S8x1x1 .f32) : IVec S1x384x224x224 1 × IVec S1152x384x1x1 1 × IVec S1152x1x3x3 1 × IVec S384x384x1x1 1 × IVec S8x1x1 1 × IVec S8x48x48x48 1 :=
  let main_v0 : FVec F S1152x384 .f32 := shapeCast S1152x384 main_arg1 shapeCasts_S1152x384x1x1_S1152x384
  let main_v1 : FVec F S384x224x224 .f32 := shapeCast S384x224x224 main_arg0 shapeCasts_S1x384x224x224_S384x224x224
  let main_v2 : FVec F S1152x224x224 .f32 := (fun l r => Host.dotGeneral dot_S1152x384_S384x224x224_S1152x224x224_1_0_0_12_n_n none l r) main_v0 main_v1
  let main_c : IVec S_ 32 := constantI S_ 32 0#32
  let main_v3 : FVec F S1152x226x226 .f32 := fn_pad (F := F) main_v2 main_c
  let main_v4 : FVec F S1152x3x3 .f32 := shapeCast S1152x3x3 main_arg2 shapeCasts_S1152x1x3x3_S1152x3x3
  let main_v5 : FVec F S1152x1x1 .f32 := (extractStridedSlice S1152x1x1 ![0, 0, 0] · slices_S1152x3x3_S1152x1x1_0_0_0) main_v4
  let main_v6 : FVec F S1152 .f32 := shapeCast S1152 main_v5 shapeCasts_S1152x1x1_S1152
  let main_v7 : FVec F S1152x1x1 .f32 := broadcastInDim S1152x1x1 ![0] bcast_S1152_S1152x1x1_0 main_v6
  let main_v8 : FVec F S1152x224x224 .f32 := (extractStridedSlice S1152x224x224 ![0, 0, 0] · slices_S1152x226x226_S1152x224x224_0_0_0) main_v3
  let main_v9 : FVec F S1152x224x224 .f32 := broadcastInDim S1152x224x224 ![0, 1, 2] bcast_S1152x1x1_S1152x224x224_0_1_2 main_v7
  let main_v10 : FVec F S1152x224x224 .f32 := mulf main_v9 main_v8
  let main_cst : FVec F S_ .f32 := constant S_ .f32 0x00000000#32
  let main_v11 : FVec F S1152x224x224 .f32 := broadcastInDim S1152x224x224 ![] bcast_S_S1152x224x224 main_cst
  let main_v12 : FVec F S1152x224x224 .f32 := addf main_v11 main_v10
  let main_v13 : FVec F S1152x1x1 .f32 := (extractStridedSlice S1152x1x1 ![0, 0, 1] · slices_S1152x3x3_S1152x1x1_0_0_1) main_v4
  let main_v14 : FVec F S1152 .f32 := shapeCast S1152 main_v13 shapeCasts_S1152x1x1_S1152
  let main_v15 : FVec F S1152x1x1 .f32 := broadcastInDim S1152x1x1 ![0] bcast_S1152_S1152x1x1_0 main_v14
  let main_v16 : FVec F S1152x224x224 .f32 := (extractStridedSlice S1152x224x224 ![0, 0, 1] · slices_S1152x226x226_S1152x224x224_0_0_1) main_v3
  let main_v17 : FVec F S1152x224x224 .f32 := broadcastInDim S1152x224x224 ![0, 1, 2] bcast_S1152x1x1_S1152x224x224_0_1_2 main_v15
  let main_v18 : FVec F S1152x224x224 .f32 := mulf main_v17 main_v16
  let main_v19 : FVec F S1152x224x224 .f32 := addf main_v12 main_v18
  let main_v20 : FVec F S1152x1x1 .f32 := (extractStridedSlice S1152x1x1 ![0, 0, 2] · slices_S1152x3x3_S1152x1x1_0_0_2) main_v4
  let main_v21 : FVec F S1152 .f32 := shapeCast S1152 main_v20 shapeCasts_S1152x1x1_S1152
  fn_part1 (F := F) main_arg0 main_arg1 main_arg2 main_arg3 main_arg4 main_v3 main_v4 main_v19 main_v21
-- ==== Kernel.lean ====
abbrev S1x384x224x224 : Shape := ⟨4, ![1, 384, 224, 224]⟩
abbrev S1152x384x1x1 : Shape := ⟨4, ![1152, 384, 1, 1]⟩
abbrev S1152x1x3x3 : Shape := ⟨4, ![1152, 1, 3, 3]⟩
abbrev S384x384x1x1 : Shape := ⟨4, ![384, 384, 1, 1]⟩
abbrev S8x1x1 : Shape := ⟨3, ![8, 1, 1]⟩
abbrev S384x50176 : Shape := ⟨2, ![384, 50176]⟩
abbrev S50176x384 : Shape := ⟨2, ![50176, 384]⟩
abbrev S1152x384 : Shape := ⟨2, ![1152, 384]⟩
abbrev S1152x9 : Shape := ⟨2, ![1152, 9]⟩
abbrev S9x1152 : Shape := ⟨2, ![9, 1152]⟩
abbrev S9x1x1152 : Shape := ⟨3, ![9, 1, 1152]⟩
abbrev S9x8x1152 : Shape := ⟨3, ![9, 8, 1152]⟩
abbrev S72x1152 : Shape := ⟨2, ![72, 1152]⟩
abbrev S8 : Shape := ⟨1, ![8]⟩
abbrev S8x48 : Shape := ⟨2, ![8, 48]⟩
abbrev S384 : Shape := ⟨1, ![384]⟩
abbrev S1x384 : Shape := ⟨2, ![1, 384]⟩
abbrev S384x384 : Shape := ⟨2, ![384, 384]⟩
abbrev S8x384 : Shape := ⟨2, ![8, 384]⟩
abbrev S1792x384 : Shape := ⟨2, ![1792, 384]⟩
abbrev S2x2304x384 : Shape := ⟨3, ![2, 2304, 384]⟩
abbrev S2 : Shape := ⟨1, ![2]⟩
abbrev S256x384 : Shape := ⟨2, ![256, 384]⟩
abbrev S1x256x384 : Shape := ⟨3, ![1, 256, 384]⟩
abbrev S1 : Shape := ⟨1, ![1]⟩
abbrev S_ : Shape := ⟨0, ![]⟩
abbrev S1x2048x384 : Shape := ⟨3, ![1, 2048, 384]⟩
abbrev S2048x384 : Shape := ⟨2, ![2048, 384]⟩
abbrev S1x2304x384 : Shape := ⟨3, ![1, 2304, 384]⟩
abbrev S2304x384 : Shape := ⟨2, ![2304, 384]⟩
abbrev S1792x1 : Shape := ⟨2, ![1792, 1]⟩
abbrev S72x384 : Shape := ⟨2, ![72, 384]⟩
abbrev S288x8x384 : Shape := ⟨3, ![288, 8, 384]⟩
abbrev S9x8x384 : Shape := ⟨3, ![9, 8, 384]⟩
abbrev S1x8x384 : Shape := ⟨3, ![1, 8, 384]⟩
abbrev S224x8x384 : Shape := ⟨3, ![224, 8, 384]⟩
abbrev S225x8x384 : Shape := ⟨3, ![225, 8, 384]⟩
abbrev S1800x384 : Shape := ⟨2, ![1800, 384]⟩
abbrev S3584x384 : Shape := ⟨2, ![3584, 384]⟩

abbrev nBuf : Space → Nat
  | .hbm => 27
  | .vmem => 24
  | .smem => 0
  | _ => 0

abbrev bufTy : (tb : Table) → Fin (tcTables nBuf tb) → BufTy
  | .hbm, ⟨0, _⟩ => ⟨S1x384x224x224, .f32⟩
  | .hbm, ⟨1, _⟩ => ⟨S1152x384x1x1, .f32⟩
  | .hbm, ⟨2, _⟩ => ⟨S1152x1x3x3, .f32⟩
  | .hbm, ⟨3, _⟩ => ⟨S384x384x1x1, .f32⟩
  | .hbm, ⟨4, _⟩ => ⟨S8x1x1, .f32⟩
  | .hbm, ⟨5, _⟩ => ⟨S384x50176, .f32⟩
  | .hbm, ⟨6, _⟩ => ⟨S50176x384, .f32⟩
  | .hbm, ⟨7, _⟩ => ⟨S1152x384, .f32⟩
  | .hbm, ⟨8, _⟩ => ⟨S1152x384, .bf16⟩
  | .hbm, ⟨9, _⟩ => ⟨S1152x9, .f32⟩
  | .hbm, ⟨10, _⟩ => ⟨S9x1152, .f32⟩
  | .hbm, ⟨11, _⟩ => ⟨S9x1x1152, .f32⟩
  | .hbm, ⟨12, _⟩ => ⟨S9x8x1152, .f32⟩
  | .hbm, ⟨13, _⟩ => ⟨S72x1152, .f32⟩
  | .hbm, ⟨14, _⟩ => ⟨S8, .f32⟩
  | .hbm, ⟨15, _⟩ => ⟨S8x48, .f32⟩
  | .hbm, ⟨16, _⟩ => ⟨S384, .f32⟩
  | .hbm, ⟨17, _⟩ => ⟨S1x384, .f32⟩
  | .hbm, ⟨18, _⟩ => ⟨S384x384, .f32⟩
  | .hbm, ⟨19, _⟩ => ⟨S384x384, .bf16⟩
  | .hbm, ⟨20, _⟩ => ⟨S50176x384, .f32⟩
  | .hbm, ⟨21, _⟩ => ⟨S50176x384, .f32⟩
  | .hbm, ⟨22, _⟩ => ⟨S50176x384, .bf16⟩
  | .hbm, ⟨23, _⟩ => ⟨S8x384, .f32⟩
  | .hbm, ⟨24, _⟩ => ⟨S50176x384, .f32⟩
  | .hbm, ⟨25, _⟩ => ⟨S384x50176, .f32⟩
  | .hbm, ⟨26, _⟩ => ⟨S1x384x224x224, .f32⟩
  | .local _ .vmem, ⟨0, _⟩ => ⟨S1152x384, .bf16⟩
  | .local _ .vmem, ⟨1, _⟩ => ⟨S72x1152, .f32⟩
  | .local _ .vmem, ⟨2, _⟩ => ⟨S1792x384, .f32⟩
  | .local _ .vmem, ⟨3, _⟩ => ⟨S1792x384, .f32⟩
  | .local _ .vmem, ⟨4, _⟩ => ⟨S1792x384, .f32⟩
  | .local _ .vmem, ⟨5, _⟩ => ⟨S1792x384, .f32⟩
  | .local _ .vmem, ⟨6, _⟩ => ⟨S1792x384, .bf16⟩
  | .local _ .vmem, ⟨7, _⟩ => ⟨S1792x384, .bf16⟩
  | .local _ .vmem, ⟨8, _⟩ => ⟨S8x384, .f32⟩
  | .local _ .vmem, ⟨9, _⟩ => ⟨S2x2304x384, .f32⟩
  | .local _ .vmem, ⟨10, _⟩ => ⟨S3584x384, .f32⟩
  | .local _ .vmem, ⟨11, _⟩ => ⟨S3584x384, .f32⟩
  | .local _ .vmem, ⟨12, _⟩ => ⟨S3584x384, .f32⟩
  | .local _ .vmem, ⟨13, _⟩ => ⟨S3584x384, .f32⟩
  | .local _ .vmem, ⟨14, _⟩ => ⟨S8x384, .f32⟩
  | .local _ .vmem, ⟨15, _⟩ => ⟨S1x384, .f32⟩
  | .local _ .vmem, ⟨16, _⟩ => ⟨S384x384, .bf16⟩
  | .local _ .vmem, ⟨17, _⟩ => ⟨S3584x384, .bf16⟩
  | .local _ .vmem, ⟨18, _⟩ => ⟨S3584x384, .bf16⟩
  | .local _ .vmem, ⟨19, _⟩ => ⟨S3584x384, .f32⟩
  | .local _ .vmem, ⟨20, _⟩ => ⟨S3584x384, .f32⟩
  | .local _ .vmem, ⟨21, _⟩ => ⟨S8x384, .f32⟩
  | .local _ .vmem, ⟨22, _⟩ => ⟨S384x384, .f32⟩
  | .local _ .vmem, ⟨23, _⟩ => ⟨S384x384, .bf16⟩
  | _, _ => ⟨S1x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![28], ![false]⟩

def k0_cond2 (i : grid0.Coords) : BitVec 1 :=
  let arg0 : BitVec 32 := BitVec.ofNat 32 (i 0).val
  let c1_i32 : BitVec 32 := 1#32
  let v3 : BitVec 32 := Scalar.addi arg0 c1_i32
  let c28_i32 : BitVec 32 := 28#32
  let v4 : BitVec 1 := Scalar.cmpi .slt v3 c28_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg0 : BitVec 32 := BitVec.ofNat 32 (i 0).val
  let c1_i32_51 : BitVec 32 := 1#32
  let v271 : BitVec 32 := Scalar.addi arg0 c1_i32_51
  let c27_i32_52 : BitVec 32 := 27#32
  let v272 : BitVec 1 := Scalar.cmpi .slt v271 c27_i32_52
  let v273 : BitVec 32 := Scalar.extui v272
  let c0_i32_53 : BitVec 32 := 0#32
  let v274 : BitVec 1 := Scalar.cmpi .ne v273 c0_i32_53
  v274

def k0_off1 (i : grid0.Coords) : Fin 1 → Nat :=
  let arg0 : BitVec 32 := BitVec.ofNat 32 (i 0).val
  let c1_i32_44 : BitVec 32 := 1#32
  let v260 : BitVec 32 := Scalar.addi arg0 c1_i32_44
  let c2_i32_45 : BitVec 32 := 2#32
  let c0_i32_46 : BitVec 32 := 0#32
  let v261 : BitVec 1 := Scalar.cmpi .eq c2_i32_45 c0_i32_46
  let c1_i32_47 : BitVec 32 := 1#32
  let v262 : BitVec 32 := Scalar.select v261 c1_i32_47 c2_i32_45
  let v263 : BitVec 32 := Scalar.remsi v260 v262
  let c0_i32_49 : BitVec 32 := 0#32
  let v265 : BitVec 1 := Scalar.cmpi .slt v263 c0_i32_49
  let c0_i32_50 : BitVec 32 := 0#32
  let v266 : BitVec 1 := Scalar.cmpi .slt v262 c0_i32_50
  let v267 : BitVec 1 := Scalar.xori v265 v266
  let c0_i32_48 : BitVec 32 := 0#32
  let v264 : BitVec 1 := Scalar.cmpi .ne v263 c0_i32_48
  let v268 : BitVec 1 := Scalar.andi v267 v264
  let v269 : BitVec 32 := Scalar.addi v263 v262
  let v270 : BitVec 32 := Scalar.select v268 v269 v263
  ![v270.toNat]
def k0_off2 (i : grid0.Coords) : Fin 3 → Nat :=
  let arg0 : BitVec 32 := BitVec.ofNat 32 (i 0).val
  let c1_i32_44 : BitVec 32 := 1#32
  let v260 : BitVec 32 := Scalar.addi arg0 c1_i32_44
  let c2_i32_45 : BitVec 32 := 2#32
  let c0_i32_46 : BitVec 32 := 0#32
  let v261 : BitVec 1 := Scalar.cmpi .eq c2_i32_45 c0_i32_46
  let c1_i32_47 : BitVec 32 := 1#32
  let v262 : BitVec 32 := Scalar.select v261 c1_i32_47 c2_i32_45
  let v263 : BitVec 32 := Scalar.remsi v260 v262
  let c0_i32_49 : BitVec 32 := 0#32
  let v265 : BitVec 1 := Scalar.cmpi .slt v263 c0_i32_49
  let c0_i32_50 : BitVec 32 := 0#32
  let v266 : BitVec 1 := Scalar.cmpi .slt v262 c0_i32_50
  let v267 : BitVec 1 := Scalar.xori v265 v266
  let c0_i32_48 : BitVec 32 := 0#32
  let v264 : BitVec 1 := Scalar.cmpi .ne v263 c0_i32_48
  let v268 : BitVec 1 := Scalar.andi v267 v264
  let v269 : BitVec 32 := Scalar.addi v263 v262
  let v270 : BitVec 32 := Scalar.select v268 v269 v263
  let c0_i32_56 : BitVec 32 := 0#32
  let c0_i32_57 : BitVec 32 := 0#32
  ![v270.toNat, 0, 0]
def k0_off3 (i : grid0.Coords) : Fin 2 → Nat :=
  let arg0 : BitVec 32 := BitVec.ofNat 32 (i 0).val
  let c1_i32_51 : BitVec 32 := 1#32
  let v271 : BitVec 32 := Scalar.addi arg0 c1_i32_51
  let c1792_i32 : BitVec 32 := 1792#32
  let v278 : BitVec 32 := Scalar.muli v271 c1792_i32
  let c256_i32 : BitVec 32 := 256#32
  let v279 : BitVec 32 := Scalar.subi v278 c256_i32
  let c0_i32_58 : BitVec 32 := 0#32
  ![v279.toNat, 0]
def k0_cond4 (i : grid0.Coords) : BitVec 1 :=
  let arg0 : BitVec 32 := BitVec.ofNat 32 (i 0).val
  let c1_i32_51 : BitVec 32 := 1#32
  let v271 : BitVec 32 := Scalar.addi arg0 c1_i32_51
  let c27_i32_54 : BitVec 32 := 27#32
  let v275 : BitVec 1 := Scalar.cmpi .eq v271 c27_i32_54
  let v276 : BitVec 32 := Scalar.extui v275
  let c0_i32_55 : BitVec 32 := 0#32
  let v277 : BitVec 1 := Scalar.cmpi .ne v276 c0_i32_55
  v277

def k0_off4 (i : grid0.Coords) : Fin 3 → Nat :=
  let arg0 : BitVec 32 := BitVec.ofNat 32 (i 0).val
  let c1_i32_44 : BitVec 32 := 1#32
  let v260 : BitVec 32 := Scalar.addi arg0 c1_i32_44
  let c2_i32_45 : BitVec 32 := 2#32
  let c0_i32_46 : BitVec 32 := 0#32
  let v261 : BitVec 1 := Scalar.cmpi .eq c2_i32_45 c0_i32_46
  let c1_i32_47 : BitVec 32 := 1#32
  let v262 : BitVec 32 := Scalar.select v261 c1_i32_47 c2_i32_45
  let v263 : BitVec 32 := Scalar.remsi v260 v262
  let c0_i32_49 : BitVec 32 := 0#32
  let v265 : BitVec 1 := Scalar.cmpi .slt v263 c0_i32_49
  let c0_i32_50 : BitVec 32 := 0#32
  let v266 : BitVec 1 := Scalar.cmpi .slt v262 c0_i32_50
  let v267 : BitVec 1 := Scalar.xori v265 v266
  let c0_i32_48 : BitVec 32 := 0#32
  let v264 : BitVec 1 := Scalar.cmpi .ne v263 c0_i32_48
  let v268 : BitVec 1 := Scalar.andi v267 v264
  let v269 : BitVec 32 := Scalar.addi v263 v262
  let v270 : BitVec 32 := Scalar.select v268 v269 v263
  let v279 : Index := Scalar.indexCast v270
  let c2048 : Index := 2048#32
  let c0_57 : Index := 0#32
  ![v279.toNat, 2048, 0]
def k0_off5 (i : grid0.Coords) : Fin 1 → Nat :=
  let arg0 : BitVec 32 := BitVec.ofNat 32 (i 0).val
  let c1_i32_44 : BitVec 32 := 1#32
  let v260 : BitVec 32 := Scalar.addi arg0 c1_i32_44
  let c2_i32_45 : BitVec 32 := 2#32
  let c0_i32_46 : BitVec 32 := 0#32
  let v261 : BitVec 1 := Scalar.cmpi .eq c2_i32_45 c0_i32_46
  let c1_i32_47 : BitVec 32 := 1#32
  let v262 : BitVec 32 := Scalar.select v261 c1_i32_47 c2_i32_45
  let v263 : BitVec 32 := Scalar.remsi v260 v262
  let c0_i32_49 : BitVec 32 := 0#32
  let v265 : BitVec 1 := Scalar.cmpi .slt v263 c0_i32_49
  let c0_i32_50 : BitVec 32 := 0#32
  let v266 : BitVec 1 := Scalar.cmpi .slt v262 c0_i32_50
  let v267 : BitVec 1 := Scalar.xori v265 v266
  let c0_i32_48 : BitVec 32 := 0#32
  let v264 : BitVec 1 := Scalar.cmpi .ne v263 c0_i32_48
  let v268 : BitVec 1 := Scalar.andi v267 v264
  let v269 : BitVec 32 := Scalar.addi v263 v262
  let v270 : BitVec 32 := Scalar.select v268 v269 v263
  ![v270.toNat]
def k0_off6 (i : grid0.Coords) : Fin 3 → Nat :=
  let arg0 : BitVec 32 := BitVec.ofNat 32 (i 0).val
  let c1_i32_44 : BitVec 32 := 1#32
  let v260 : BitVec 32 := Scalar.addi arg0 c1_i32_44
  let c2_i32_45 : BitVec 32 := 2#32
  let c0_i32_46 : BitVec 32 := 0#32
  let v261 : BitVec 1 := Scalar.cmpi .eq c2_i32_45 c0_i32_46
  let c1_i32_47 : BitVec 32 := 1#32
  let v262 : BitVec 32 := Scalar.select v261 c1_i32_47 c2_i32_45
  let v263 : BitVec 32 := Scalar.remsi v260 v262
  let c0_i32_49 : BitVec 32 := 0#32
  let v265 : BitVec 1 := Scalar.cmpi .slt v263 c0_i32_49
  let c0_i32_50 : BitVec 32 := 0#32
  let v266 : BitVec 1 := Scalar.cmpi .slt v262 c0_i32_50
  let v267 : BitVec 1 := Scalar.xori v265 v266
  let c0_i32_48 : BitVec 32 := 0#32
  let v264 : BitVec 1 := Scalar.cmpi .ne v263 c0_i32_48
  let v268 : BitVec 1 := Scalar.andi v267 v264
  let v269 : BitVec 32 := Scalar.addi v263 v262
  let v270 : BitVec 32 := Scalar.select v268 v269 v263
  let c0_i32_58 : BitVec 32 := 0#32
  let c0_i32_59 : BitVec 32 := 0#32
  ![v270.toNat, 0, 0]
def k0_cond5 (i : grid0.Coords) : BitVec 1 :=
  let arg0 : BitVec 32 := BitVec.ofNat 32 (i 0).val
  let c0_i32_7 : BitVec 32 := 0#32
  let v17 : BitVec 1 := Scalar.cmpi .eq arg0 c0_i32_7
  let v18 : BitVec 32 := Scalar.extui v17
  let c0_i32_8 : BitVec 32 := 0#32
  let v19 : BitVec 1 := Scalar.cmpi .ne v18 c0_i32_8
  v19

def k0_off7 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off8 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c256_i32 : BitVec 32 := 256#32
  let c0_i32_44 : BitVec 32 := 0#32
  ![v16.toNat, 256, 0]
def k0_cond6 (i : grid0.Coords) : BitVec 1 :=
  let arg0 : BitVec 32 := BitVec.ofNat 32 (i 0).val
  let c0_i32_9 : BitVec 32 := 0#32
  let v20 : BitVec 1 := Scalar.cmpi .sgt arg0 c0_i32_9
  let c27_i32 : BitVec 32 := 27#32
  let v21 : BitVec 1 := Scalar.cmpi .slt arg0 c27_i32
  let v22 : BitVec 1 := Scalar.andi v20 v21
  let v23 : BitVec 32 := Scalar.extui v22
  let c0_i32_10 : BitVec 32 := 0#32
  let v24 : BitVec 1 := Scalar.cmpi .ne v23 c0_i32_10
  v24

def k0_off9 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off10 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_44 : BitVec 32 := 0#32
  let c0_i32_45 : BitVec 32 := 0#32
  ![v16.toNat, 0, 0]
def k0_off11 (i : grid0.Coords) : Fin 2 → Nat :=
  let arg0 : BitVec 32 := BitVec.ofNat 32 (i 0).val
  let c1792_i32 : BitVec 32 := 1792#32
  let v260 : BitVec 32 := Scalar.muli arg0 c1792_i32
  let c256_i32 : BitVec 32 := 256#32
  let v261 : BitVec 32 := Scalar.subi v260 c256_i32
  let c0_i32_46 : BitVec 32 := 0#32
  ![v261.toNat, 0]
def k0_cond7 (i : grid0.Coords) : BitVec 1 :=
  let arg0 : BitVec 32 := BitVec.ofNat 32 (i 0).val
  let c27_i32_11 : BitVec 32 := 27#32
  let v25 : BitVec 1 := Scalar.cmpi .eq arg0 c27_i32_11
  let v26 : BitVec 32 := Scalar.extui v25
  let c0_i32_12 : BitVec 32 := 0#32
  let v27 : BitVec 1 := Scalar.cmpi .ne v26 c0_i32_12
  v27

def k0_off12 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off13 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_44 : BitVec 32 := 0#32
  let c0_i32_45 : BitVec 32 := 0#32
  ![v16.toNat, 0, 0]
def k0_off14 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v28 : Index := Scalar.indexCast v16
  let c0 : Index := 0#32
  let c0_13 : Index := 0#32
  ![v28.toNat, 0, 0]
def k0_cond8 (i : grid0.Coords) : BitVec 1 :=
  let arg0 : BitVec 32 := BitVec.ofNat 32 (i 0).val
  let c0_i32_40 : BitVec 32 := 0#32
  let v254 : BitVec 1 := Scalar.cmpi .eq arg0 c0_i32_40
  let v255 : BitVec 32 := Scalar.extui v254
  let c0_i32_41 : BitVec 32 := 0#32
  let v256 : BitVec 1 := Scalar.cmpi .ne v255 c0_i32_41
  v256

def k0_cond9 (i : grid0.Coords) : BitVec 1 :=
  let arg0 : BitVec 32 := BitVec.ofNat 32 (i 0).val
  let c0_i32_42 : BitVec 32 := 0#32
  let v257 : BitVec 1 := Scalar.cmpi .sgt arg0 c0_i32_42
  let v258 : BitVec 32 := Scalar.extui v257
  let c0_i32_43 : BitVec 32 := 0#32
  let v259 : BitVec 1 := Scalar.cmpi .ne v258 c0_i32_43
  v259

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1152x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S72x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1792x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1792x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![28], ![false]⟩

def k1_cond6 (i : grid1.Coords) : BitVec 1 :=
  let arg0 : BitVec 32 := BitVec.ofNat 32 (i 0).val
  let c14_i32_4 : BitVec 32 := 14#32
  let v9 : BitVec 1 := Scalar.cmpi .sge arg0 c14_i32_4
  let v10 : BitVec 32 := Scalar.extui v9
  let c0_i32_5 : BitVec 32 := 0#32
  let v11 : BitVec 1 := Scalar.cmpi .ne v10 c0_i32_5
  v11

def cc1_transform_0 (i : grid1.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_6 (i : grid1.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 2 → Memref sig .tc .vmem S3584x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3584x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384x384 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S3584x384 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S3584x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S1x384x224x224 : Shape := ⟨4, ![1, 384, 224, 224]⟩
abbrev S1152x384x1x1 : Shape := ⟨4, ![1152, 384, 1, 1]⟩
abbrev S1152x1x3x3 : Shape := ⟨4, ![1152, 1, 3, 3]⟩
abbrev S384x384x1x1 : Shape := ⟨4, ![384, 384, 1, 1]⟩
abbrev S8x1x1 : Shape := ⟨3, ![8, 1, 1]⟩
abbrev S1152x384 : Shape := ⟨2, ![1152, 384]⟩
abbrev S384x224x224 : Shape := ⟨3, ![384, 224, 224]⟩
abbrev S1152x224x224 : Shape := ⟨3, ![1152, 224, 224]⟩
abbrev S_ : Shape := ⟨0, ![]⟩
abbrev S1152x226x226 : Shape := ⟨3, ![1152, 226, 226]⟩
abbrev S1152x3x3 : Shape := ⟨3, ![1152, 3, 3]⟩
abbrev S1152x1x1 : Shape := ⟨3, ![1152, 1, 1]⟩
abbrev S1152 : Shape := ⟨1, ![1152]⟩
abbrev S8x48x224x224 : Shape := ⟨4, ![8, 48, 224, 224]⟩
abbrev S8x48 : Shape := ⟨2, ![8, 48]⟩
abbrev S8x48x1x1 : Shape := ⟨4, ![8, 48, 1, 1]⟩
abbrev S8x48x48 : Shape := ⟨3, ![8, 48, 48]⟩
abbrev S8x48x7 : Shape := ⟨3, ![8, 48, 7]⟩
abbrev S8x48x7x1 : Shape := ⟨4, ![8, 48, 7, 1]⟩
abbrev S1x1x1x48 : Shape := ⟨4, ![1, 1, 1, 48]⟩
abbrev S8x48x7x48 : Shape := ⟨4, ![8, 48, 7, 48]⟩
abbrev S8x48x1 : Shape := ⟨3, ![8, 48, 1]⟩
abbrev S384x384 : Shape := ⟨2, ![384, 384]⟩

abbrev nBuf : Space → Nat
  | .hbm => 141
  | .vmem => 0
  | .smem => 0
  | _ => 0

abbrev hbmTy0_0 (i : Nat) : BufTy := match i % 128 with
  | 0 => ⟨S1x384x224x224, .f32⟩
  | 1 => ⟨S1152x384x1x1, .f32⟩
  | 2 => ⟨S1152x1x3x3, .f32⟩
  | 3 => ⟨S384x384x1x1, .f32⟩
  | 4 => ⟨S8x1x1, .f32⟩
  | 5 => ⟨S1152x384, .f32⟩
  | 6 => ⟨S384x224x224, .f32⟩
  | 7 => ⟨S1152x224x224, .f32⟩
  | 8 => ⟨S_, .i32⟩
  | 9 => ⟨S_, .f32⟩
  | 10 => ⟨S1152x226x226, .f32⟩
  | 11 => ⟨S1152x3x3, .f32⟩
  | 12 => ⟨S1152x1x1, .f32⟩
  | 13 => ⟨S1152, .f32⟩
  | 14 => ⟨S1152x1x1, .f32⟩
  | 15 => ⟨S1152x224x224, .f32⟩
  | 16 => ⟨S1152x224x224, .f32⟩
  | 17 => ⟨S1152x224x224, .f32⟩
  | 18 => ⟨S_, .f32⟩
  | 19 => ⟨S1152x224x224, .f32⟩
  | 20 => ⟨S1152x224x224, .f32⟩
  | 21 => ⟨S1152x1x1, .f32⟩
  | 22 => ⟨S1152, .f32⟩
  | 23 => ⟨S1152x1x1, .f32⟩
  | 24 => ⟨S1152x224x224, .f32⟩
  | 25 => ⟨S1152x224x224, .f32⟩
  | 26 => ⟨S1152x224x224, .f32⟩
  | 27 => ⟨S1152x224x224, .f32⟩
  | 28 => ⟨S1152x1x1, .f32⟩
  | 29 => ⟨S1152, .f32⟩
  | 30 => ⟨S1152x1x1, .f32⟩
  | 31 => ⟨S1152x224x224, .f32⟩
  | 32 => ⟨S1152x224x224, .f32⟩
  | 33 => ⟨S1152x224x224, .f32⟩
  | 34 => ⟨S1152x224x224, .f32⟩
  | 35 => ⟨S1152x1x1, .f32⟩
  | 36 => ⟨S1152, .f32⟩
  | 37 => ⟨S1152x1x1, .f32⟩
  | 38 => ⟨S1152x224x224, .f32⟩
  | 39 => ⟨S1152x224x224, .f32⟩
  | 40 => ⟨S1152x224x224, .f32⟩
  | 41 => ⟨S1152x224x224, .f32⟩
  | 42 => ⟨S1152x1x1, .f32⟩
  | 43 => ⟨S1152, .f32⟩
  | 44 => ⟨S1152x1x1, .f32⟩
  | 45 => ⟨S1152x224x224, .f32⟩
  | 46 => ⟨S1152x224x224, .f32⟩
  | 47 => ⟨S1152x224x224, .f32⟩
  | 48 => ⟨S1152x224x224, .f32⟩
  | 49 => ⟨S1152x1x1, .f32⟩
  | 50 => ⟨S1152, .f32⟩
  | 51 => ⟨S1152x1x1, .f32⟩
  | 52 => ⟨S1152x224x224, .f32⟩
  | 53 => ⟨S1152x224x224, .f32⟩
  | 54 => ⟨S1152x224x224, .f32⟩
  | 55 => ⟨S1152x224x224, .f32⟩
  | 56 => ⟨S1152x1x1, .f32⟩
  | 57 => ⟨S1152, .f32⟩
  | 58 => ⟨S1152x1x1, .f32⟩
  | 59 => ⟨S1152x224x224, .f32⟩
  | 60 => ⟨S1152x224x224, .f32⟩
  | 61 => ⟨S1152x224x224, .f32⟩
  | 62 => ⟨S1152x224x224, .f32⟩
  | 63 => ⟨S1152x1x1, .f32⟩
  | 64 => ⟨S1152, .f32⟩
  | 65 => ⟨S1152x1x1, .f32⟩
  | 66 => ⟨S1152x224x224, .f32⟩
  | 67 => ⟨S1152x224x224, .f32⟩
  | 68 => ⟨S1152x224x224, .f32⟩
  | 69 => ⟨S1152x224x224, .f32⟩
  | 70 => ⟨S1152x1x1, .f32⟩
  | 71 => ⟨S1152, .f32⟩
  | 72 => ⟨S1152x1x1, .f32⟩
  | 73 => ⟨S1152x224x224, .f32⟩
  | 74 => ⟨S1152x224x224, .f32⟩
  | 75 => ⟨S1152x224x224, .f32⟩
  | 76 => ⟨S1152x224x224, .f32⟩
  | 77 => ⟨S384x224x224, .f32⟩
  | 78 => ⟨S384x224x224, .f32⟩
  | 79 => ⟨S384x224x224, .f32⟩
  | 80 => ⟨S8x48x224x224, .f32⟩
  | 81 => ⟨S8x48x224x224, .f32⟩
  | 82 => ⟨S8x48x224x224, .f32⟩
  | 83 => ⟨S8x48x224x224, .f32⟩
  | 84 => ⟨S_, .f32⟩
  | 85 => ⟨S8x48, .f32⟩
  | 86 => ⟨S8x48x1x1, .f32⟩
  | 87 => ⟨S8x48x1x1, .f32⟩
  | 88 => ⟨S_, .f32⟩
  | 89 => ⟨S8x48x1x1, .f32⟩
  | 90 => ⟨S8x48x1x1, .f32⟩
  | 91 => ⟨S8x48x224x224, .f32⟩
  | 92 => ⟨S8x48x224x224, .f32⟩
  | 93 => ⟨S8x48x224x224, .f32⟩
  | 94 => ⟨S_, .f32⟩
  | 95 => ⟨S8x48, .f32⟩
  | 96 => ⟨S8x48x1x1, .f32⟩
  | 97 => ⟨S8x48x1x1, .f32⟩
  | 98 => ⟨S_, .f32⟩
  | 99 => ⟨S8x48x1x1, .f32⟩
  | 100 => ⟨S8x48x1x1, .f32⟩
  | 101 => ⟨S8x48x224x224, .f32⟩
  | 102 => ⟨S8x48x224x224, .f32⟩
  | 103 => ⟨S8x48x48, .f32⟩
  | 104 => ⟨S8x48x48, .f32⟩
  | 105 => ⟨S8x48x48, .f32⟩
  | 106 => ⟨S8x48x7, .f32⟩
  | 107 => ⟨S8x48x7, .i32⟩
  | 108 => ⟨S8x48x7x1, .i32⟩
  | 109 => ⟨S1x1x1x48, .i32⟩
  | 110 => ⟨S8x48x7x48, .i32⟩
  | 111 => ⟨S8x48x7x48, .i32⟩
  | 112 => ⟨S8x48x7x48, .i1⟩
  | 113 => ⟨S8x48x7x48, .f32⟩
  | 114 => ⟨S_, .f32⟩
  | 115 => ⟨S8x48x48, .f32⟩
  | 116 => ⟨S_, .f32⟩
  | 117 => ⟨S8x48x48, .f32⟩
  | 118 => ⟨S8x48x48, .i1⟩
  | 119 => ⟨S_, .f32⟩
  | 120 => ⟨S8x48x48, .f32⟩
  | 121 => ⟨S8x48x48, .f32⟩
  | 122 => ⟨S_, .f32⟩
  | 123 => ⟨S8x48, .f32⟩
  | 124 => ⟨S_, .f32⟩
  | 125 => ⟨S8x48, .f32⟩
  | 126 => ⟨S8x48, .f32⟩
  | 127 => ⟨S8x48x1, .f32⟩
  | _ => ⟨S1x384x224x224, .f32⟩

abbrev hbmTy0_1 (i : Nat) : BufTy := match i % 128 with
  | 0 => ⟨S8x48x48, .f32⟩
  | 1 => ⟨S8x48x48, .f32⟩
  | 2 => ⟨S8x48x48, .f32⟩
  | 3 => ⟨S_, .f32⟩
  | 4 => ⟨S8x48, .f32⟩
  | 5 => ⟨S8x48x1, .f32⟩
  | 6 => ⟨S8x48x48, .f32⟩
  | 7 => ⟨S8x48x48, .f32⟩
  | 8 => ⟨S8x48x224x224, .f32⟩
  | 9 => ⟨S384x224x224, .f32⟩
  | 10 => ⟨S384x384, .f32⟩
  | 11 => ⟨S384x224x224, .f32⟩
  | 12 => ⟨S1x384x224x224, .f32⟩
  | _ => ⟨S1x384x224x224, .f32⟩

abbrev hbmTy (i : Nat) : BufTy := match i / 128 with
  | 0 => hbmTy0_0 i
  | 1 => hbmTy0_1 i
  | _ => ⟨S1x384x224x224, .f32⟩

abbrev bufTy : (tb : Table) → Fin (tcTables nBuf tb) → BufTy
  | .hbm, ⟨i, _⟩ => hbmTy i
  | _, _ => ⟨S1x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_cst_0 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_cst_1 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_cst_2 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_3 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_values : Ref sig .tc := ⟨.hbm, 106, rfl⟩
abbrev main_indices : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_v94 : Ref sig .tc := ⟨.hbm, 113, rfl⟩
abbrev main_cst_4 : Ref sig .tc := ⟨.hbm, 114, rfl⟩
abbrev main_v95 : Ref sig .tc := ⟨.hbm, 115, rfl⟩
abbrev main_cst_5 : Ref sig .tc := ⟨.hbm, 116, rfl⟩
abbrev main_v96 : Ref sig .tc := ⟨.hbm, 117, rfl⟩
abbrev main_v97 : Ref sig .tc := ⟨.hbm, 118, rfl⟩
abbrev main_cst_6 : Ref sig .tc := ⟨.hbm, 119, rfl⟩
abbrev main_v98 : Ref sig .tc := ⟨.hbm, 120, rfl⟩
abbrev main_v99 : Ref sig .tc := ⟨.hbm, 121, rfl⟩
abbrev main_cst_7 : Ref sig .tc := ⟨.hbm, 122, rfl⟩
abbrev main_v100 : Ref sig .tc := ⟨.hbm, 123, rfl⟩
abbrev main_cst_8 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_9 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩

abbrev nD : Nat := 1
abbrev τ : Topo := Topo.v7x

variable {F : FTy → Type} [FloatOps F]
-- ==== Proof.I.Pa.lean ====
/-
  The first kernel region of the program, run point by point.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.FrameBody
public import Idealize.ShloMosaic.Lib.VecWindow
public import Idealize.ShloMosaic.Lib.Tactic
public import Idealize.ShloMosaic.Lib.ValueLayout

@[expose] public section

set_option maxRecDepth 16384

noncomputable section

namespace Cert.KernelIdeal.Pa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

abbrev 𝒱₀ : Variants := Variants.none

/-! ## Names for the pieces the copies move between -/

abbrev xM : Memref sig .tc .hbm S50176x384 .f32 := Memref.whole main_v1
abbrev bM : Memref sig .tc .vmem S2x2304x384 .f32 := Memref.whole cc0_scratch0

theorem off3_inb (s : Fin 2) (k n : ℕ) (hkn : k + n ≤ 2304) : ∀ a, (![s.val, k, 0] : Fin 3 → ℕ) a + (![1, n, 384] : Fin 3 → ℕ) a ≤ S2x2304x384.size a := by
  have := s.isLt; intro a; fin_cases a
  · show s.val + 1 ≤ 2; omega
  · show k + n ≤ 2304; omega
  · show 0 + 384 ≤ 384; omega
theorem semOff_inb (s : Fin 2) : ∀ a, (![s.val] : Fin 1 → ℕ) a + S1.size a ≤ S2.size a := by
  have := s.isLt; intro a; fin_cases a; show s.val + 1 ≤ 2; omega
theorem rows_inb (o n : ℕ) (h : o + n ≤ 50176) : ∀ a, (![o, 0] : Fin 2 → ℕ) a + (![n, 384] : Fin 2 → ℕ) a ≤ S50176x384.size a := by
  intro a; fin_cases a
  · show o + n ≤ 50176; omega
  · show 0 + 384 ≤ 384; omega

/-- The cell a slot's copies signal. -/
def csm (s : Fin 2) : DmaSems sig S_ := (cc0_scratch1.slice (Rect.unit (s := S2) ![s.val] S1.size (semOff_inb s))).squeeze S_ squeezes_S1_S_
/-- A slot of the buffer, whole. -/
def slotW (s : Fin 2) : Memref sig .tc .vmem S2304x384 .f32 :=
  (bM.slice (Rect.unit (s := S2x2304x384) ![s.val, 0, 0] S1x2304x384.size (off3_inb s 0 2304 (by decide))) (fun _ => rfl)).squeeze S2304x384 squeezes_S1x2304x384_S2304x384
/-- The 2048 rows of a slot from row `k` on. -/
def partW (s : Fin 2) (k : ℕ) (hk : k + 2048 ≤ 2304) : Memref sig .tc .vmem S2048x384 .f32 :=
  (bM.slice (Rect.unit (s := S2x2304x384) ![s.val, k, 0] S1x2048x384.size (off3_inb s k 2048 hk)) (fun _ => rfl)).squeeze S2048x384 squeezes_S1x2048x384_S2048x384
/-- The rows of `x` a whole slot is filled from. -/
def xW (o : ℕ) (h : o + 2304 ≤ 50176) : Memref sig .tc .hbm S2304x384 .f32 :=
  xM.slice (Rect.unit (s := S50176x384) ![o, 0] S2304x384.size (rows_inb o 2304 h)) (fun _ => rfl)
/-- The rows of `x` the first and the last slot are filled from. -/
def xP (o : ℕ) (h : o + 2048 ≤ 50176) : Memref sig .tc .hbm S2048x384 .f32 :=
  xM.slice (Rect.unit (s := S50176x384) ![o, 0] S2048x384.size (rows_inb o 2048 h)) (fun _ => rfl)

section Canon
variable (i : grid0.Coords)

theorem csm_congr {off : Fin 1 → Nat} {s : Fin 2} (e : off = ![s.val]) (hh) :
    (cc0_scratch1.slice (Rect.unit (s := S2) off S1.size hh)).squeeze S_ squeezes_S1_S_ = csm s :=
  congrArg (fun A : DmaSems sig S1 => A.squeeze S_ squeezes_S1_S_) (SemArray.slice_unit_congr _ e _ _)
theorem slotW_congr {off : Fin 3 → Nat} {s : Fin 2} (e : off = ![s.val, 0, 0]) (hh hs) :
    (bM.slice (Rect.unit (s := S2x2304x384) off S1x2304x384.size hh) hs).squeeze S2304x384 squeezes_S1x2304x384_S2304x384 = slotW s :=
  congrArg (fun M : Memref sig .tc .vmem S1x2304x384 .f32 => M.squeeze S2304x384 squeezes_S1x2304x384_S2304x384) (Memref.slice_unit_congr _ e _ _ _ _)
theorem partW_congr {off : Fin 3 → Nat} {s : Fin 2} {k : ℕ} {hk} (e : off = ![s.val, k, 0]) (hh hs) :
    (bM.slice (Rect.unit (s := S2x2304x384) off S1x2048x384.size hh) hs).squeeze S2048x384 squeezes_S1x2048x384_S2048x384 = partW s k hk :=
  congrArg (fun M : Memref sig .tc .vmem S1x2048x384 .f32 => M.squeeze S2048x384 squeezes_S1x2048x384_S2048x384) (Memref.slice_unit_congr _ e _ _ _ _)
theorem xW_congr {off : Fin 2 → Nat} {o : ℕ} {h} (e : off = ![o, 0]) (hh hs) :
    xM.slice (Rect.unit (s := S50176x384) off S2304x384.size hh) hs = xW o h := Memref.slice_unit_congr _ e _ (rows_inb o 2304 h) hs (fun _ => rfl)
theorem xP_congr {off : Fin 2 → Nat} {o : ℕ} {h} (e : off = ![o, 0]) (hh hs) :
    xM.slice (Rect.unit (s := S50176x384) off S2048x384.size hh) hs = xP o h := Memref.slice_unit_congr _ e _ (rows_inb o 2048 h) hs (fun _ => rfl)

theorem off1_ev : (i 0).val % 2 = 0 → k0_off1 i = ![1] := by revert i; decide +kernel
theorem off1_od : (i 0).val % 2 = 1 → k0_off1 i = ![0] := by revert i; decide +kernel
theorem off2_ev : (i 0).val % 2 = 0 → k0_off2 i = ![1, 0, 0] := by revert i; decide +kernel
theorem off2_od : (i 0).val % 2 = 1 → k0_off2 i = ![0, 0, 0] := by revert i; decide +kernel
theorem off9_ev : (i 0).val % 2 = 0 → k0_off9 i = ![0] := by revert i; decide +kernel
theorem off9_od : (i 0).val % 2 = 1 → k0_off9 i = ![1] := by revert i; decide +kernel
theorem off10_ev : (i 0).val % 2 = 0 → k0_off10 i = ![0, 0, 0] := by revert i; decide +kernel
theorem off10_od : (i 0).val % 2 = 1 → k0_off10 i = ![1, 0, 0] := by revert i; decide +kernel
theorem off14_ev : (i 0).val % 2 = 0 → k0_off14 i = ![0, 0, 0] := by revert i; decide +kernel
theorem off14_od : (i 0).val % 2 = 1 → k0_off14 i = ![1, 0, 0] := by revert i; decide +kernel
theorem off11_eq : 0 < (i 0).val → k0_off11 i = ![1792 * ((i 0).val - 1) + 1536, 0] := by revert i; decide +kernel
theorem off7_eq : (i 0).val = 0 → k0_off7 i = ![0] := by revert i; decide +kernel
theorem off8_eq : (i 0).val = 0 → k0_off8 i = ![0, 256, 0] := by revert i; decide +kernel
theorem off4_eq : (i 0).val = 26 → k0_off4 i = ![1, 2048, 0] := by revert i; decide +kernel
theorem off5_eq : (i 0).val = 26 → k0_off5 i = ![1] := by revert i; decide +kernel
theorem off6_eq : (i 0).val = 26 → k0_off6 i = ![1, 0, 0] := by revert i; decide +kernel
theorem off12_eq : (i 0).val = 27 → k0_off12 i = ![1] := by revert i; decide +kernel
theorem off13_eq : (i 0).val = 27 → k0_off13 i = ![1, 0, 0] := by revert i; decide +kernel

@[sl_canon] theorem cn_sem0 (hh) : (cc0_scratch1.slice (Rect.unit (s := S2) ![0] S1.size hh)).squeeze S_ squeezes_S1_S_ = csm 0 := csm_congr (by decide) _
@[sl_canon] theorem cn_sem1 (hh) : (cc0_scratch1.slice (Rect.unit (s := S2) ![1] S1.size hh)).squeeze S_ squeezes_S1_S_ = csm 1 := csm_congr (by decide) _
@[sl_canon] theorem cn_off1_ev (h : (i 0).val % 2 = 0) (hh) : (cc0_scratch1.slice (Rect.unit (s := S2) (k0_off1 i) S1.size hh)).squeeze S_ squeezes_S1_S_ = csm 1 := csm_congr (off1_ev i h) _
@[sl_canon] theorem cn_off1_od (h : (i 0).val % 2 = 1) (hh) : (cc0_scratch1.slice (Rect.unit (s := S2) (k0_off1 i) S1.size hh)).squeeze S_ squeezes_S1_S_ = csm 0 := csm_congr (off1_od i h) _
@[sl_canon] theorem cn_off9_ev (h : (i 0).val % 2 = 0) (hh) : (cc0_scratch1.slice (Rect.unit (s := S2) (k0_off9 i) S1.size hh)).squeeze S_ squeezes_S1_S_ = csm 0 := csm_congr (off9_ev i h) _
@[sl_canon] theorem cn_off9_od (h : (i 0).val % 2 = 1) (hh) : (cc0_scratch1.slice (Rect.unit (s := S2) (k0_off9 i) S1.size hh)).squeeze S_ squeezes_S1_S_ = csm 1 := csm_congr (off9_od i h) _
@[sl_canon] theorem cn_off7 (h : (i 0).val = 0) (hh) : (cc0_scratch1.slice (Rect.unit (s := S2) (k0_off7 i) S1.size hh)).squeeze S_ squeezes_S1_S_ = csm 0 := csm_congr (off7_eq i h) _
@[sl_canon] theorem cn_off5 (h : (i 0).val = 26) (hh) : (cc0_scratch1.slice (Rect.unit (s := S2) (k0_off5 i) S1.size hh)).squeeze S_ squeezes_S1_S_ = csm 1 := csm_congr (off5_eq i h) _
@[sl_canon] theorem cn_off12 (h : (i 0).val = 27) (hh) : (cc0_scratch1.slice (Rect.unit (s := S2) (k0_off12 i) S1.size hh)).squeeze S_ squeezes_S1_S_ = csm 1 := csm_congr (off12_eq i h) _
@[sl_canon] theorem cn_off2_ev (h : (i 0).val % 2 = 0) (hh hs) : (bM.slice (Rect.unit (s := S2x2304x384) (k0_off2 i) S1x2304x384.size hh) hs).squeeze S2304x384 squeezes_S1x2304x384_S2304x384 = slotW 1 := slotW_congr (off2_ev i h) _ _
@[sl_canon] theorem cn_off2_od (h : (i 0).val % 2 = 1) (hh hs) : (bM.slice (Rect.unit (s := S2x2304x384) (k0_off2 i) S1x2304x384.size hh) hs).squeeze S2304x384 squeezes_S1x2304x384_S2304x384 = slotW 0 := slotW_congr (off2_od i h) _ _
@[sl_canon] theorem cn_off10_ev (h : (i 0).val % 2 = 0) (hh hs) : (bM.slice (Rect.unit (s := S2x2304x384) (k0_off10 i) S1x2304x384.size hh) hs).squeeze S2304x384 squeezes_S1x2304x384_S2304x384 = slotW 0 := slotW_congr (off10_ev i h) _ _
@[sl_canon] theorem cn_off10_od (h : (i 0).val % 2 = 1) (hh hs) : (bM.slice (Rect.unit (s := S2x2304x384) (k0_off10 i) S1x2304x384.size hh) hs).squeeze S2304x384 squeezes_S1x2304x384_S2304x384 = slotW 1 := slotW_congr (off10_od i h) _ _
@[sl_canon] theorem cn_head (hh hs) : (bM.slice (Rect.unit (s := S2x2304x384) ![0, 256, 0] S1x2048x384.size hh) hs).squeeze S2048x384 squeezes_S1x2048x384_S2048x384 = partW 0 256 (by decide) := partW_congr (by decide) _ _
@[sl_canon] theorem cn_off8 (h : (i 0).val = 0) (hh hs) : (bM.slice (Rect.unit (s := S2x2304x384) (k0_off8 i) S1x2048x384.size hh) hs).squeeze S2048x384 squeezes_S1x2048x384_S2048x384 = partW 0 256 (by decide) := partW_congr (off8_eq i h) _ _
@[sl_canon] theorem cn_off6 (h : (i 0).val = 26) (hh hs) : (bM.slice (Rect.unit (s := S2x2304x384) (k0_off6 i) S1x2048x384.size hh) hs).squeeze S2048x384 squeezes_S1x2048x384_S2048x384 = partW 1 0 (by decide) := partW_congr (off6_eq i h) _ _
@[sl_canon] theorem cn_off13 (h : (i 0).val = 27) (hh hs) : (bM.slice (Rect.unit (s := S2x2304x384) (k0_off13 i) S1x2048x384.size hh) hs).squeeze S2048x384 squeezes_S1x2048x384_S2048x384 = partW 1 0 (by decide) := partW_congr (off13_eq i h) _ _
@[sl_canon] theorem cn_x0 (hh hs) : xM.slice (Rect.unit (s := S50176x384) ![0, 0] S2048x384.size hh) hs = xP 0 (by decide) := rfl
@[sl_canon] theorem cn_xl (hh hs) : xM.slice (Rect.unit (s := S50176x384) ![48128, 0] S2048x384.size hh) hs = xP 48128 (by decide) := rfl
@[sl_canon] theorem cn_off3 (h : (i 0).val < 26) (hh hs) : xM.slice (Rect.unit (s := S50176x384) (k0_off3 i) S2304x384.size hh) hs = xW (1792 * (i 0).val + 1536) (by omega) := xW_congr (k0_off3_eq i) _ _
@[sl_canon] theorem cn_off11 (h : 0 < (i 0).val) (h' : (i 0).val < 27) (hh hs) :
    xM.slice (Rect.unit (s := S50176x384) (k0_off11 i) S2304x384.size hh) hs = xW (1792 * ((i 0).val - 1) + 1536) (by omega) := xW_congr (off11_eq i h) _ _
end Canon

section Runs

variable (c : Dev nD) (X : Buf (Elt F) (xM.view.loc (c : Thread nD τ)))

abbrev cellP (s : Fin 2) : sProp 𝕄 := semVal ((c : Thread nD τ), SemLoc.dma (csm s).sem) 0
/-- One of `x`'s read tokens, whole. -/
abbrev tokP (s : Fin 2) : sProp 𝕄 := xM.view.loc (c : Thread nD τ) ↦{Transfers.shareTok fullShare 2 s} X

/-- A slot of the slab scratch, and the pieces of the first and the last one. -/
abbrev slotP (s : Fin 2) (f : Buf (Elt F) ((slotW s).view.loc (c : Thread nD τ))) : sProp 𝕄 := (slotW s).view.loc (c : Thread nD τ) ↦[(slotW s).view.set]{fullShare} f
abbrev partP (s : Fin 2) (k : ℕ) (hk) (f : Buf (Elt F) ((partW s k hk).view.loc (c : Thread nD τ))) : sProp 𝕄 :=
  (partW s k hk).view.loc (c : Thread nD τ) ↦[(partW s k hk).view.set]{fullShare} f
abbrev padW (s : Fin 2) (k : ℕ) (hk : k + 256 ≤ 2304) : Memref sig .tc .vmem S1x256x384 .f32 :=
  bM.slice (Rect.unit (s := S2x2304x384) ![s.val, k, 0] S1x256x384.size (off3_inb s k 256 hk)) (fun _ => rfl)
abbrev padP (s : Fin 2) (k : ℕ) (hk) (f : Buf (Elt F) ((padW s k hk).view.loc (c : Thread nD τ))) : sProp 𝕄 :=
  (padW s k hk).view.loc (c : Thread nD τ) ↦[(padW s k hk).view.set]{fullShare} f

/-- A slot's copy from the rows of `x` at `o`, in flight on its cell. -/
abbrev flP (s : Fin 2) (o : ℕ) (h : o + 2304 ≤ 50176) (f : Buf (Elt F) ((slotW s).view.loc (c : Thread nD τ))) : sProp 𝕄 :=
  Transfers.Flight countersEmb (c : Thread nD τ) (SemLoc.dma (csm s).sem) () 110592
    iprop(slotP c s ((slotW s).view.writes (Elt F) f [⟨Rect.whole S2304x384, ReadAs.same.apply ((xW o h).view.read (Elt F) X)⟩]) ∗
      (xM.view.loc (c : Thread nD τ) ↦[(xW o h).view.set]{Transfers.shareTok fullShare 2 s} X))
/-- What is left of the token of a copy in flight. -/
abbrev tokR (s : Fin 2) (o : ℕ) (h : o + 2304 ≤ 50176) : sProp 𝕄 :=
  xM.view.loc (c : Thread nD τ) ↦[Finset.univ \ (xW o h).view.set]{Transfers.shareTok fullShare 2 s} X

/-! ## What the slabs hold -/

/-- Slab `t`: row `r` is row `1792 t + r - 256` of `x`, zero beyond its ends. -/
def slab (x : S50176x384.Idx → Elt F .f32) (t : ℕ) : S1x2304x384.Idx → Elt F .f32 := fun y =>
  if h : 256 ≤ 1792 * t + (y 1).val ∧ 1792 * t + (y 1).val - 256 < 50176 then x (ix2 (⟨1792 * t + (y 1).val - 256, h.2⟩ : Fin 50176) (y 2 : Fin 384))
  else (Scalar.ofBits .f32 0x00000000#32 : F .f32)

theorem slot_read (s : Fin 2) {off : Fin 3 → ℕ} (e : off = ![s.val, 0, 0]) (inb) (g : Buf (Elt F) ((slotW s).view.loc (c : Thread nD τ))) (y : S1x2304x384.Idx) :
    bM.view.readAt (Elt F) (Rect.unit (s := S2x2304x384) off S1x2304x384.size inb).toLoadRect g y = (slotW s).view.read (Elt F) g (ix2 (y 1 : Fin 2304) (y 2 : Fin 384)) := by
  subst e
  have h : Shape.reshapeEquiv squeezes_S1x2304x384_S2304x384.numel_eq (ix2 (y 1 : Fin 2304) (y 2 : Fin 384)) = y := by
    refine (reshapeEquiv_ix2_1ab (a := 2304) (b := 384) _ (y 1) (y 2)).trans ?_
    funext a; fin_cases a
    · exact Fin.ext (by show 0 = (y 0).val; have : (y 0).val < 1 := (y 0).isLt; omega)
    · rfl
    · rfl
  exact congrArg (fun z => bM.view.readAt (Elt F) (Rect.unit (s := S2x2304x384) ![s.val, 0, 0] S1x2304x384.size inb).toLoadRect g z) h.symm

theorem x_read (n o : ℕ) (h : o + n ≤ 50176) (g : Buf (Elt F) (xM.view.loc (c : Thread nD τ))) (r : Fin n) (k : Fin 384) :
    (xM.slice (Rect.unit (s := S50176x384) ![o, 0] ![n, 384] (rows_inb o n h)) (fun _ => rfl)).view.read (Elt F) g (ix2 r k)
      = xM.view.read (Elt F) g (ix2 (⟨o + r.val, by omega⟩ : Fin 50176) k) := by
  refine congrArg (xM.view.read (Elt F) g) (funext fun a => Fin.ext ?_)
  fin_cases a
  · show o + 1 * r.val = o + r.val; omega
  · show 0 + 1 * k.val = k.val; omega

/-- A slot after a whole copy. -/
theorem slab_mid (s : Fin 2) {t o : ℕ} (ht : 0 < t) (ho : o = 1792 * (t - 1) + 1536) (h : o + 2304 ≤ 50176) {off : Fin 3 → ℕ} (e : off = ![s.val, 0, 0]) (inb)
    (f : Buf (Elt F) ((slotW s).view.loc (c : Thread nD τ))) :
    bM.view.readAt (Elt F) (Rect.unit (s := S2x2304x384) off S1x2304x384.size inb).toLoadRect
      ((slotW s).view.writes (Elt F) f [⟨Rect.whole S2304x384, ReadAs.same.apply ((xW o h).view.read (Elt F) X)⟩]) = slab (xM.view.read (Elt F) X) t := by
  funext y
  refine (slot_read c s e inb _ y).trans ?_
  refine (congrFun (View.read_writes_full _ _ _ _ _) _).trans ?_
  refine (x_read c 2304 o h X (y 1) (y 2)).trans ?_
  unfold slab
  have h1 : (y 1).val < 2304 := (y 1).isLt
  rw [dif_pos (by omega)]
  exact congrArg (xM.view.read (Elt F) X) (by congr 2; omega)

theorem slot_emb (s : Fin 2) (r : Fin 2304) (k : Fin 384) : (slotW s).view.emb (ix2 r k) = (ix3 s r k : S2x2304x384.Idx) := by
  refine (congrArg (fun z => (bM.slice (Rect.unit (s := S2x2304x384) ![s.val, 0, 0] S1x2304x384.size (off3_inb s 0 2304 (by decide))) (fun _ => rfl)).view.emb z) (reshapeEquiv_ix2_1ab (a := 2304) (b := 384) _ r k)).trans ?_
  funext a; refine Fin.ext ?_; fin_cases a
  · show s.val + 1 * 0 = s.val; omega
  · show 0 + 1 * r.val = r.val; omega
  · show 0 + 1 * k.val = k.val; omega
theorem part_emb (s : Fin 2) (kq : ℕ) (hq) (r : Fin 2048) (k : Fin 384) : (partW s kq hq).view.emb (ix2 r k) = (ix3 s (⟨kq + r.val, by omega⟩ : Fin 2304) k : S2x2304x384.Idx) := by
  refine (congrArg (fun z => (bM.slice (Rect.unit (s := S2x2304x384) ![s.val, kq, 0] S1x2048x384.size (off3_inb s kq 2048 hq)) (fun _ => rfl)).view.emb z) (reshapeEquiv_ix2_1ab (a := 2048) (b := 384) _ r k)).trans ?_
  funext a; refine Fin.ext ?_; fin_cases a
  · show s.val + 1 * 0 = s.val; omega
  · show kq + 1 * r.val = kq + r.val; omega
  · show 0 + 1 * k.val = k.val; omega
theorem pad_emb (s : Fin 2) (kp : ℕ) (hp) (r : Fin 256) (k : Fin 384) : (padW s kp hp).view.emb (ix3 (0 : Fin 1) r k) = (ix3 s (⟨kp + r.val, by omega⟩ : Fin 2304) k : S2x2304x384.Idx) := by
  funext a; refine Fin.ext ?_; fin_cases a
  · show s.val + 1 * 0 = s.val; omega
  · show kp + 1 * r.val = kp + r.val; omega
  · show 0 + 1 * k.val = k.val; omega

theorem mem_box (s : Fin 2) (k n : ℕ) (h : k + n ≤ 2304) (z : S2x2304x384.Idx) :
    z ∈ (Rect.unit (s := S2x2304x384) ![s.val, k, 0] ![1, n, 384] (off3_inb s k n h)).set ↔ (z 0).val = s.val ∧ k ≤ (z 1).val ∧ (z 1).val < k + n := by
  rw [Rect.mem_set_unit]
  constructor
  · intro hz
    have h0 : s.val ≤ (z 0).val ∧ (z 0).val < s.val + 1 := hz 0
    have h1 : k ≤ (z 1).val ∧ (z 1).val < k + n := hz 1
    exact ⟨by omega, h1⟩
  · rintro ⟨h0, h1, h2⟩ a
    have h3 : (z 2).val < 384 := (z 2).isLt
    fin_cases a
    · show s.val ≤ (z 0).val ∧ (z 0).val < s.val + 1; omega
    · exact ⟨h1, h2⟩
    · show 0 ≤ (z 2).val ∧ (z 2).val < 0 + 384; omega

/-- A piece's element set is its box. -/
abbrev box (s : Fin 2) (k n : ℕ) (h : k + n ≤ 2304) : Finset S2x2304x384.Idx := (Rect.unit (s := S2x2304x384) ![s.val, k, 0] ![1, n, 384] (off3_inb s k n h)).set
theorem slot_set (s : Fin 2) : (slotW s).view.set = box s 0 2304 (by decide) := (Memref.set_view_squeeze _ squeezes_S1x2304x384_S2304x384).trans (View.set_slice_whole _ _)
theorem part_set (s : Fin 2) (kq : ℕ) (hq) : (partW s kq hq).view.set = box s kq 2048 hq := (Memref.set_view_squeeze _ squeezes_S1x2048x384_S2048x384).trans (View.set_slice_whole _ _)
theorem part_mem (s : Fin 2) (kq : ℕ) (hq) (z : S2x2304x384.Idx) : z ∈ (partW s kq hq).view.set ↔ (z 0).val = s.val ∧ kq ≤ (z 1).val ∧ (z 1).val < kq + 2048 := by
  rw [part_set]; exact mem_box s kq 2048 hq z
theorem pad_set (s : Fin 2) (kp : ℕ) (hp) : (padW s kp hp).view.set = box s kp 256 hp := View.set_slice_whole _ _

theorem box_union (s : Fin 2) {kp kq : ℕ} (hp : kp + 256 ≤ 2304) (hq : kq + 2048 ≤ 2304) (hk : kp = 0 ∧ kq = 256 ∨ kp = 2048 ∧ kq = 0) :
    box s 0 2304 (by decide) = box s kp 256 hp ∪ box s kq 2048 hq := by
  ext z
  have h1 : (z 1).val < 2304 := (z 1).isLt
  rw [Finset.mem_union, mem_box s 0 2304 (by decide), mem_box s kp 256 hp, mem_box s kq 2048 hq]; omega
theorem box_disj (s : Fin 2) {kp kq : ℕ} (hp : kp + 256 ≤ 2304) (hq : kq + 2048 ≤ 2304) (hk : kp = 0 ∧ kq = 256 ∨ kp = 2048 ∧ kq = 0) :
    Disjoint (box s kp 256 hp) (box s kq 2048 hq) := by
  rw [Finset.disjoint_left]; intro z; rw [mem_box s kp 256 hp, mem_box s kq 2048 hq]; omega

theorem split_slot (s : Fin 2) {kp kq : ℕ} (hp : kp + 256 ≤ 2304) (hq : kq + 2048 ≤ 2304) (hk : kp = 0 ∧ kq = 256 ∨ kp = 2048 ∧ kq = 0) (f) :
    slotP (F := F) c s f ⊢ iprop(padP c s kp hp f ∗ partP c s kq hq f) := by
  unfold slotP padP partP
  rw [slot_set, part_set, pad_set, box_union s hp hq hk]
  exact (pointsTo_union (box_disj s hp hq hk)).1
theorem join_slot (s : Fin 2) {kp kq : ℕ} (hp : kp + 256 ≤ 2304) (hq : kq + 2048 ≤ 2304) (hk : kp = 0 ∧ kq = 256 ∨ kp = 2048 ∧ kq = 0) (f g) :
    iprop(padP (F := F) c s kp hp f ∗ partP c s kq hq g) ⊢ iprop(∃ h : Buf (Elt F) ((slotW s).view.loc (c : Thread nD τ)),
      ⌜(∀ (r : Fin 256) (k : Fin 384), (slotW s).view.read (Elt F) h (ix2 (⟨kp + r.val, by omega⟩ : Fin 2304) k) = (padW s kp hp).view.read (Elt F) f (ix3 (0 : Fin 1) r k))
        ∧ ∀ (r : Fin 2048) (k : Fin 384), (slotW s).view.read (Elt F) h (ix2 (⟨kq + r.val, by omega⟩ : Fin 2304) k) = (partW s kq hq).view.read (Elt F) g (ix2 r k)⌝ ∗ slotP c s h) := by
  have e : iprop(padP (F := F) c s kp hp f ∗ partP c s kq hq g) ⊢ slotP c s ((partW s kq hq).view.set.piecewise g f) := by
    unfold slotP padP partP
    rw [slot_set, part_set, pad_set, box_union s hp hq hk]
    exact pointsTo_join (box_disj s hp hq hk)
  refine e.trans ?_
  iintro H
  iexists _
  isplitr
  rotate_left
  · iexact H
  · ipureintro
    constructor
    · intro r k
      show (partW s kq hq).view.set.piecewise g f ((slotW s).view.emb _) = f ((padW s kp hp).view.emb _)
      rw [slot_emb, pad_emb]
      refine Finset.piecewise_eq_of_notMem _ _ _ ?_
      intro hm
      have hm' : s.val = s.val ∧ kq ≤ kp + r.val ∧ kp + r.val < kq + 2048 := (part_mem s kq hq _).mp hm
      have := r.isLt; omega
    · intro r k
      show (partW s kq hq).view.set.piecewise g f ((slotW s).view.emb _) = g ((partW s kq hq).view.emb _)
      rw [slot_emb, part_emb]
      refine Finset.piecewise_eq_of_mem _ _ _ ?_
      refine (part_mem s kq hq _).mpr (show s.val = s.val ∧ kq ≤ kq + r.val ∧ kq + r.val < kq + 2048 from ?_)
      have := r.isLt; omega

variable (i : grid0.Coords)
  (a2 : Memref sig .tc .vmem S1152x384 .bf16) (h2 : a2.IsWhole) (a3 : Memref sig .tc .vmem S72x1152 .f32) (h3 : a3.IsWhole)
  (a4 : Memref sig .tc .vmem S1792x384 .f32) (h4 : a4.IsWhole) (a5 : Memref sig .tc .vmem S1792x384 .f32) (h5 : a5.IsWhole)
  (a6 : Memref sig .tc .vmem S1792x384 .bf16) (h6 : a6.IsWhole) (a7 : Memref sig .tc .vmem S8x384 .f32) (h7 : a7.IsWhole)

abbrev part1 := k0_part1 (F := F) i xM (Memref.isWhole_whole _) a2 h2 a3 h3 a4 h4 a5 h5 a6 h6 a7 h7 bM (Memref.isWhole_whole _) cc0_scratch1

/-- The first slab, and the last: a copy of 2048 rows beside 256 rows of zeros. -/
theorem slab_edge (s : Fin 2) {t kp kq o : ℕ} (hp : kp + 256 ≤ 2304) (hq : kq + 2048 ≤ 2304) (hk : kp = 0 ∧ kq = 256 ∨ kp = 2048 ∧ kq = 0) (h : o + 2048 ≤ 50176)
    (ho : 1792 * t + kq = o + 256) (hz : 1792 * t + kp = 0 ∨ 50176 + 256 ≤ 1792 * t + kp) {off : Fin 3 → ℕ} (e : off = ![s.val, 0, 0]) (inb)
    (g : Buf (Elt F) ((slotW s).view.loc (c : Thread nD τ)))
    (h1 : ∀ (r : Fin 256) (k : Fin 384), (slotW s).view.read (Elt F) g (ix2 (⟨kp + r.val, by omega⟩ : Fin 2304) k) = (Scalar.ofBits .f32 0x00000000#32 : F .f32))
    (h2 : ∀ (r : Fin 2048) (k : Fin 384), (slotW s).view.read (Elt F) g (ix2 (⟨kq + r.val, by omega⟩ : Fin 2304) k) = (xP o h).view.read (Elt F) X (ix2 r k)) :
    bM.view.readAt (Elt F) (Rect.unit (s := S2x2304x384) off S1x2304x384.size inb).toLoadRect g = slab (xM.view.read (Elt F) X) t := by
  funext y
  refine (slot_read c s e inb _ y).trans ?_
  have hy : (y 1).val < 2304 := (y 1).isLt
  unfold slab
  by_cases hr : kq ≤ (y 1).val ∧ (y 1).val < kq + 2048
  · have q := h2 ⟨(y 1).val - kq, by omega⟩ (y 2)
    refine Eq.trans (congrArg _ (congrArg (fun z : Fin 2304 => (ix2 z (y 2 : Fin 384) : S2304x384.Idx)) (Fin.ext ?_))) (q.trans ?_)
    · show (y 1).val = kq + ((y 1).val - kq); omega
    refine (x_read c 2048 o h X _ (y 2)).trans ?_
    rw [dif_pos (by omega)]
    refine congrArg (xM.view.read (Elt F) X) (congrArg (fun z : Fin 50176 => (ix2 z (y 2 : Fin 384) : S50176x384.Idx)) (Fin.ext ?_))
    show o + ((y 1).val - kq) = 1792 * t + (y 1).val - 256; omega
  · have q := h1 ⟨(y 1).val - kp, by omega⟩ (y 2)
    refine Eq.trans (congrArg _ (congrArg (fun z : Fin 2304 => (ix2 z (y 2 : Fin 384) : S2304x384.Idx)) (Fin.ext ?_))) (q.trans ?_)
    · show (y 1).val = kp + ((y 1).val - kp); omega
    rw [dif_neg (by omega)]

theorem pad_write (s : Fin 2) (kp : ℕ) (hp) {off : Fin 3 → ℕ} (e : off = ![s.val, kp, 0]) (inb) (f : bM.view.ty.Contents (Elt F)) (w : S1x256x384.Idx → Elt F .f32) :
    (padW s kp hp).view.read (Elt F) (View.write (Elt F) (bM.access (Rect.unit (s := S2x2304x384) off S1x256x384.size inb)) f w Finset.univ) = w := by
  subst e; exact View.read_write_univ _ _

theorem xl_inb : 48128 + 2048 ≤ 50176 := by decide

/-- The last slot's copy, in flight; what is left of its token; and its zeros. -/
abbrev flL (f : Buf (Elt F) ((partW 1 0 (by decide)).view.loc (c : Thread nD τ))) : sProp 𝕄 :=
  Transfers.Flight countersEmb (c : Thread nD τ) (SemLoc.dma (csm 1).sem) () 98304
    iprop(partP c 1 0 (by decide) ((partW 1 0 (by decide)).view.writes (Elt F) f [⟨Rect.whole S2048x384, ReadAs.same.apply ((xP 48128 xl_inb).view.read (Elt F) X)⟩]) ∗
      (xM.view.loc (c : Thread nD τ) ↦[(xP 48128 xl_inb).view.set]{Transfers.shareTok fullShare 2 1} X))
abbrev tokL : sProp 𝕄 := xM.view.loc (c : Thread nD τ) ↦[Finset.univ \ (xP 48128 xl_inb).view.set]{Transfers.shareTok fullShare 2 1} X
abbrev padZ : sProp 𝕄 := iprop(∃ f, ⌜∀ (r : Fin 256) (k : Fin 384), (padW 1 2048 (by decide)).view.read (Elt F) f (ix3 (0 : Fin 1) r k) = (Scalar.ofBits .f32 0x00000000#32 : F .f32)⌝ ∗ padP c 1 2048 (by decide) f)

/-- What the first part of the body hands to the rest. -/
abbrev Ret0 (F : FTy → Type) [FloatOps F] : Type := Σ' (arg0 : BitVec 32) (v31 : FVec F S2304x384 .bf16) (v32 : IVec S1792x1 32), BitVec 32
abbrev ret0 (x : S50176x384.Idx → Elt F .f32) (i : grid0.Coords) : Ret0 F := ⟨BitVec.ofNat 32 (i 0).val, k0_pay6 (slab x (i 0).val), iota .tc S1792x1 32 [0] iota_S1792x1_d0_w32, 224#32⟩

theorem run0 (hi : (i 0).val = 0) (Q : Ret0 F → sProp 𝕄) :
    iprop((∃ W, owes (c : Thread nD τ) 0 W) ∗ (∃ f, padP c 0 0 (by decide) f) ∗ (∃ f, partP c 0 256 (by decide) f) ∗ (∃ f, slotP c 1 f) ∗ tokP c X 0 ∗ tokP c X 1 ∗ cellP (F := F) c 0 ∗ cellP (F := F) c 1
        ∗ (iprop((∃ W, owes (c : Thread nD τ) 0 W) ∗ (∃ f, flP c X 1 (1792 * (i 0).val + 1536) (by omega) f) ∗ tokR c X 1 (1792 * (i 0).val + 1536) (by omega)
            ∗ (∃ f, slotP c 0 f) ∗ tokP c X 0 ∗ cellP (F := F) c 0) -∗ Q (ret0 (xM.view.read (Elt F) X) i)))
      ⊢ wp frame (wpE (defs₀ (F := F)) 𝒱₀ c none) Set.univ (part1 (F := F) i a2 h2 a3 h3 a4 h4 a5 h5 a6 h6 a7 h7) Q := by
  have c1 : Scalar.cmpi .ne (Scalar.extui (Scalar.cmpi .eq (BitVec.ofNat 32 (i 0).val) 0#32)) 0#32 = 1#1 := by revert hi; revert i; decide +kernel
  have c2 : k0_cond2 i = 1#1 := by revert hi; revert i; decide +kernel
  have c3 : k0_cond3 i = 1#1 := by revert hi; revert i; decide +kernel
  have c4 : ¬ k0_cond4 i = 1#1 := by revert hi; revert i; decide +kernel
  have c5 : k0_cond5 i = 1#1 := by revert hi; revert i; decide +kernel
  have c6 : ¬ k0_cond6 i = 1#1 := by revert hi; revert i; decide +kernel
  have c7 : ¬ k0_cond7 i = 1#1 := by revert hi; revert i; decide +kernel
  have p : (i 0).val % 2 = 0 := by omega
  have l26 : (i 0).val < 26 := by omega
  letI : ClosedOff (k0_off14 i) := ⟨![0, 0, 0], off14_ev i p⟩
  iintro ⟨⟨%W, HW⟩, ⟨%f0, HA⟩, ⟨%f1, HB⟩, ⟨%f2, HC⟩, Ht0, Ht1, Hc0, Hc1, Hk⟩
  unfold part1
  rw [k0_part1_eq_skeleton]
  sl_unfold [k0_part1_skel]
  sl_exec
  unfold run0.sl.HA_w1
  ihave HS := (join_slot c 0 (kp := 0) (kq := 256) (by decide) (by decide) (by decide) _ _) $$ [HA HB]
  · isplitl [HA]; · iexact HA
    iexact HB
  icases HS with ⟨%g, %hg, HS⟩
  sl_exec
  unfold run0.sl.v32
  rw [slab_edge c X 0 (t := (i 0).val) (kp := 0) (kq := 256) (o := 0) (by decide) (by decide) (by decide) (by decide) (by omega) (by omega) (off14_ev i p) _ g
    (fun r k => (hg.1 r k).trans ((congrFun (View.read_write_univ _ _) _).trans rfl))
    (fun r k => (hg.2 r k).trans (congrFun (View.read_writes_full _ _ _ _ _) _))]
  sl_step
  iapply Hk
  isplitl [HW]; · iexists _; iexact HW
  isplitl [Hc1]; · iexists _; iexact Hc1
  isplitl [Ht1]; · iexact Ht1
  isplitl [HS]; · iexists _; iexact HS
  isplitl [Ht0]; · iexact Ht0
  iexact Hc0

theorem runE (hi : 0 < (i 0).val) (hi' : (i 0).val < 26) (he : (i 0).val % 2 = 0) (Q : Ret0 F → sProp 𝕄) :
    iprop((∃ W, owes (c : Thread nD τ) 0 W) ∗ (∃ f, flP c X 0 (1792 * ((i 0).val - 1) + 1536) (by omega) f) ∗ tokR c X 0 (1792 * ((i 0).val - 1) + 1536) (by omega)
        ∗ (∃ f, slotP c 1 f) ∗ tokP c X 1 ∗ cellP (F := F) c 1
        ∗ (iprop((∃ W, owes (c : Thread nD τ) 0 W) ∗ (∃ f, flP c X 1 (1792 * (i 0).val + 1536) (by omega) f) ∗ tokR c X 1 (1792 * (i 0).val + 1536) (by omega)
            ∗ (∃ f, slotP c 0 f) ∗ tokP c X 0 ∗ cellP (F := F) c 0) -∗ Q (ret0 (xM.view.read (Elt F) X) i)))
      ⊢ wp frame (wpE (defs₀ (F := F)) 𝒱₀ c none) Set.univ (part1 (F := F) i a2 h2 a3 h3 a4 h4 a5 h5 a6 h6 a7 h7) Q := by
  have c1 : ¬ Scalar.cmpi .ne (Scalar.extui (Scalar.cmpi .eq (BitVec.ofNat 32 (i 0).val) 0#32)) 0#32 = 1#1 := by clear hi' he; revert hi; revert i; decide +kernel
  have c2 : k0_cond2 i = 1#1 := by clear hi he; revert hi'; revert i; decide +kernel
  have c3 : k0_cond3 i = 1#1 := by clear hi he; revert hi'; revert i; decide +kernel
  have c4 : ¬ k0_cond4 i = 1#1 := by clear hi he; revert hi'; revert i; decide +kernel
  have c5 : ¬ k0_cond5 i = 1#1 := by clear hi' he; revert hi; revert i; decide +kernel
  have c6 : k0_cond6 i = 1#1 := by clear he; revert hi hi'; revert i; decide +kernel
  have c7 : ¬ k0_cond7 i = 1#1 := by clear he hi; revert hi'; revert i; decide +kernel
  letI : ClosedOff (k0_off14 i) := ⟨![0, 0, 0], off14_ev i he⟩
  have l27 : (i 0).val < 27 := by omega
  iintro ⟨⟨%W, HW⟩, ⟨%f1, Hc0⟩, Ht0, ⟨%f2, HC⟩, Ht1, Hc1, Hk⟩
  unfold part1
  rw [k0_part1_eq_skeleton]
  sl_unfold [k0_part1_skel]
  sl_exec
  have hv : runE.sl.v29 c X i hi hi' he = slab (xM.view.read (Elt F) X) (i 0).val := by
    unfold runE.sl.v29
    exact slab_mid c X 0 hi rfl (by omega) (off14_ev i he) _ _
  rw [hv]
  unfold runE.sl.v32
  sl_step
  iapply Hk
  isplitl [HW]; · iexists _; iexact HW
  isplitl [Hc1]; · iexists _; iexact Hc1
  isplitl [Ht1]; · iexact Ht1
  isplitl [Hc0_dst]; · iexists _; iexact Hc0_dst
  isplitl [Ht0]; · iexact Ht0
  iexact Hc0

theorem runO (hi : 0 < (i 0).val) (hi' : (i 0).val < 26) (he : (i 0).val % 2 = 1) (Q : Ret0 F → sProp 𝕄) :
    iprop((∃ W, owes (c : Thread nD τ) 0 W) ∗ (∃ f, flP c X 1 (1792 * ((i 0).val - 1) + 1536) (by omega) f) ∗ tokR c X 1 (1792 * ((i 0).val - 1) + 1536) (by omega)
        ∗ (∃ f, slotP c 0 f) ∗ tokP c X 0 ∗ cellP (F := F) c 0
        ∗ (iprop((∃ W, owes (c : Thread nD τ) 0 W) ∗ (∃ f, flP c X 0 (1792 * (i 0).val + 1536) (by omega) f) ∗ tokR c X 0 (1792 * (i 0).val + 1536) (by omega)
            ∗ (∃ f, slotP c 1 f) ∗ tokP c X 1 ∗ cellP (F := F) c 1) -∗ Q (ret0 (xM.view.read (Elt F) X) i)))
      ⊢ wp frame (wpE (defs₀ (F := F)) 𝒱₀ c none) Set.univ (part1 (F := F) i a2 h2 a3 h3 a4 h4 a5 h5 a6 h6 a7 h7) Q := by
  have c1 : ¬ Scalar.cmpi .ne (Scalar.extui (Scalar.cmpi .eq (BitVec.ofNat 32 (i 0).val) 0#32)) 0#32 = 1#1 := by clear hi' he; revert hi; revert i; decide +kernel
  have c2 : k0_cond2 i = 1#1 := by clear hi he; revert hi'; revert i; decide +kernel
  have c3 : k0_cond3 i = 1#1 := by clear hi he; revert hi'; revert i; decide +kernel
  have c4 : ¬ k0_cond4 i = 1#1 := by clear hi he; revert hi'; revert i; decide +kernel
  have c5 : ¬ k0_cond5 i = 1#1 := by clear hi' he; revert hi; revert i; decide +kernel
  have c6 : k0_cond6 i = 1#1 := by clear he; revert hi hi'; revert i; decide +kernel
  have c7 : ¬ k0_cond7 i = 1#1 := by clear he hi; revert hi'; revert i; decide +kernel
  letI : ClosedOff (k0_off14 i) := ⟨![1, 0, 0], off14_od i he⟩
  have l27 : (i 0).val < 27 := by omega
  iintro ⟨⟨%W, HW⟩, ⟨%f1, Hc1⟩, Ht1, ⟨%f2, HC⟩, Ht0, Hc0, Hk⟩
  unfold part1
  rw [k0_part1_eq_skeleton]
  sl_unfold [k0_part1_skel]
  sl_exec
  have hv : runO.sl.v29 c X i hi hi' he = slab (xM.view.read (Elt F) X) (i 0).val := by
    unfold runO.sl.v29
    exact slab_mid c X 1 hi rfl (by omega) (off14_od i he) _ _
  rw [hv]
  unfold runO.sl.v32
  sl_step
  iapply Hk
  isplitl [HW]; · iexists _; iexact HW
  isplitl [Hc0]; · iexists _; iexact Hc0
  isplitl [Ht0]; · iexact Ht0
  isplitl [Hc1_dst]; · iexists _; iexact Hc1_dst
  isplitl [Ht1]; · iexact Ht1
  iexact Hc1

theorem run26 (hi : (i 0).val = 26) (Q : Ret0 F → sProp 𝕄) :
    iprop((∃ W, owes (c : Thread nD τ) 0 W) ∗ (∃ f, flP c X 0 (1792 * ((i 0).val - 1) + 1536) (by omega) f) ∗ tokR c X 0 (1792 * ((i 0).val - 1) + 1536) (by omega)
        ∗ (∃ f, slotP c 1 f) ∗ tokP c X 1 ∗ cellP (F := F) c 1
        ∗ (iprop((∃ W, owes (c : Thread nD τ) 0 W) ∗ padZ (F := F) c ∗ (∃ f, flL c X f) ∗ tokL c X ∗ (∃ f, slotP c 0 f) ∗ tokP c X 0 ∗ cellP (F := F) c 0) -∗ Q (ret0 (xM.view.read (Elt F) X) i)))
      ⊢ wp frame (wpE (defs₀ (F := F)) 𝒱₀ c none) Set.univ (part1 (F := F) i a2 h2 a3 h3 a4 h4 a5 h5 a6 h6 a7 h7) Q := by
  have c1 : ¬ Scalar.cmpi .ne (Scalar.extui (Scalar.cmpi .eq (BitVec.ofNat 32 (i 0).val) 0#32)) 0#32 = 1#1 := by revert hi; revert i; decide +kernel
  have c2 : k0_cond2 i = 1#1 := by revert hi; revert i; decide +kernel
  have c3 : ¬ k0_cond3 i = 1#1 := by revert hi; revert i; decide +kernel
  have c4 : k0_cond4 i = 1#1 := by revert hi; revert i; decide +kernel
  have c5 : ¬ k0_cond5 i = 1#1 := by revert hi; revert i; decide +kernel
  have c6 : k0_cond6 i = 1#1 := by revert hi; revert i; decide +kernel
  have c7 : ¬ k0_cond7 i = 1#1 := by revert hi; revert i; decide +kernel
  have p : (i 0).val % 2 = 0 := by omega
  have l27 : (i 0).val < 27 := by omega
  have l0 : 0 < (i 0).val := by omega
  letI : ClosedOff (k0_off14 i) := ⟨![0, 0, 0], off14_ev i p⟩
  letI : ClosedOff (k0_off4 i) := ⟨![1, 2048, 0], off4_eq i hi⟩
  iintro ⟨⟨%W, HW⟩, ⟨%f1, Hc0⟩, Ht0, ⟨%f2, HC⟩, Ht1, Hc1, Hk⟩
  ihave HC := (split_slot c 1 (kp := 2048) (kq := 0) (by decide) (by decide) (by decide) f2) $$ HC
  icases HC with ⟨HA, HB⟩
  unfold part1
  rw [k0_part1_eq_skeleton]
  sl_unfold [k0_part1_skel]
  sl_exec
  have hv : run26.sl.v29 c X i hi = slab (xM.view.read (Elt F) X) (i 0).val := by
    unfold run26.sl.v29
    exact slab_mid c X 0 l0 rfl (by omega) (off14_ev i p) _ _
  rw [hv]
  unfold run26.sl.v32
  sl_step
  iapply Hk
  isplitl [HW]; · iexists _; iexact HW
  isplitl [HA]
  · iexists _
    isplitr
    rotate_left
    · iexact HA
    · unfold run26.sl.HA_w1
      ipureintro; intro r k; exact (congrFun (pad_write 1 2048 _ (off4_eq i hi) _ _ _) _).trans rfl
  isplitl [Hc1]; · iexists _; iexact Hc1
  isplitl [Ht1]; · iexact Ht1
  isplitl [Hc0_dst]; · iexists _; iexact Hc0_dst
  isplitl [Ht0]; · iexact Ht0
  iexact Hc0

theorem run27 (hi : (i 0).val = 27) (Q : Ret0 F → sProp 𝕄) :
    iprop((∃ W, owes (c : Thread nD τ) 0 W) ∗ padZ (F := F) c ∗ (∃ f, flL c X f) ∗ tokL c X
        ∗ (iprop((∃ W, owes (c : Thread nD τ) 0 W) ∗ (∃ f, slotP c 1 f) ∗ tokP c X 1 ∗ cellP (F := F) c 1) -∗ Q (ret0 (xM.view.read (Elt F) X) i)))
      ⊢ wp frame (wpE (defs₀ (F := F)) 𝒱₀ c none) Set.univ (part1 (F := F) i a2 h2 a3 h3 a4 h4 a5 h5 a6 h6 a7 h7) Q := by
  have c1 : ¬ Scalar.cmpi .ne (Scalar.extui (Scalar.cmpi .eq (BitVec.ofNat 32 (i 0).val) 0#32)) 0#32 = 1#1 := by revert hi; revert i; decide +kernel
  have c2 : ¬ k0_cond2 i = 1#1 := by revert hi; revert i; decide +kernel
  have c5 : ¬ k0_cond5 i = 1#1 := by revert hi; revert i; decide +kernel
  have c6 : ¬ k0_cond6 i = 1#1 := by revert hi; revert i; decide +kernel
  have c7 : k0_cond7 i = 1#1 := by revert hi; revert i; decide +kernel
  have p : (i 0).val % 2 = 1 := by omega
  letI : ClosedOff (k0_off14 i) := ⟨![1, 0, 0], off14_od i p⟩
  iintro ⟨⟨%W, HW⟩, ⟨%f0, %hz, HA⟩, ⟨%f1, Hc1⟩, Ht1, Hk⟩
  unfold part1
  rw [k0_part1_eq_skeleton]
  sl_unfold [k0_part1_skel]
  sl_exec
  ihave HS := (join_slot c 1 (kp := 2048) (kq := 0) (by decide) (by decide) (by decide) _ _) $$ [HA Hc1_dst]
  · isplitl [HA]; · iexact HA
    iexact Hc1_dst
  icases HS with ⟨%g, %hg, HS⟩
  sl_exec
  unfold run27.sl.v32
  rw [slab_edge c X 1 (t := (i 0).val) (kp := 2048) (kq := 0) (o := 48128) (by decide) (by decide) (by decide) (by decide) (by omega) (by omega) (off14_od i p) _ g
    (fun r k => (hg.1 r k).trans (hz r k))
    (fun r k => (hg.2 r k).trans (congrFun (View.read_writes_full _ _ _ _ _) _))]
  sl_step
  iapply Hk
  isplitl [HW]; · iexists _; iexact HW
  isplitl [HS]; · iexists _; iexact HS
  isplitl [Ht1]; · iexact Ht1
  iexact Hc1

end Runs

end Cert.KernelIdeal.Pa

end
-- ==== Proof.I.Bc.lean ====
/-
  The second kernel region of the program, run point by point.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Bc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev 𝒱₀ : Variants := Variants.none

/-- A memref's buffer on core `c`, and that buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- The memref held whole, reading `X`. -/
abbrev at' (c : Dev nD) {sp : Space} {S : Shape} {e : EltTy} (M : Memref sig .tc sp S e) (X : S.Idx → Elt F e) : sProp 𝕄 :=
  iprop(∃ f : Bf (F := F) c M, ⌜M.view.read (Elt F) f = X⌝ ∗ pt c M f)

/-- The two rows of scale factors the body reads. -/
abbrev row0 (X : S8x384.Idx → Elt F .f32) : S1x384.Idx → Elt F .f32 := VecWindow.window X ![0, 0] S1x384.size inb_S8x384_S1x384_0_0
abbrev row1 (X : S8x384.Idx → Elt F .f32) : S1x384.Idx → Elt F .f32 := VecWindow.window X ![1, 0] S1x384.size inb_S8x384_S1x384_1_0

/-- The matrix folded at the turning point, from the gram matrix, the temperatures and the projection. -/
def mOf (X9 : S384x384.Idx → Elt F .f32) (X4 : S1x384.Idx → Elt F .f32) (X5 : S384x384.Idx → Elt F .bf16) : S384x384.Idx → Elt F .bf16 :=
  k1_pay5
    (k1_pay11 (k1_pay7 X9 X4) k1_pay8 (iota .tc S384x384 32 [1] iota_S384x384_d1_w32) 48#32 k1_pay9 k1_pay10 (Scalar.extui (Scalar.cmpi .sgt 48#32 0#32)) (Scalar.extui (Scalar.cmpi .slt 48#32 0#32)))
    (k1_pay12 (k1_pay7 X9 X4) k1_pay8 (iota .tc S384x384 32 [1] iota_S384x384_d1_w32) 48#32 k1_pay9 k1_pay10 (Scalar.extui (Scalar.cmpi .sgt 48#32 0#32)) (Scalar.extui (Scalar.cmpi .slt 48#32 0#32)))
    (k1_pay13 (k1_pay7 X9 X4) k1_pay8 (iota .tc S384x384 32 [1] iota_S384x384_d1_w32) 48#32 k1_pay9 k1_pay10 (Scalar.extui (Scalar.cmpi .sgt 48#32 0#32)) (Scalar.extui (Scalar.cmpi .slt 48#32 0#32)))
    (k1_pay14 (k1_pay7 X9 X4) k1_pay8 (iota .tc S384x384 32 [1] iota_S384x384_d1_w32) 48#32 k1_pay9 k1_pay10 (Scalar.extui (Scalar.cmpi .sgt 48#32 0#32)) (Scalar.extui (Scalar.cmpi .slt 48#32 0#32)))
    X5

/-- A load inside a buffer just stored whole reads the stored vector there. -/
theorem readCov_unit {sig : RefSig} {κ : Kind} {sp : Space} {s : Shape} {e : EltTy} {Val : EltTy → Type} [∀ e, Nonempty (Val e)]
    (v : View sig κ sp s e) {off off' size : Fin s.rank → ℕ} (inb : ∀ a, off a + size a ≤ s.size a)
    (inb' : ∀ a, off' a + s.size a ≤ s.size a) (w : (Rect.unit off' s.size inb').shape.Idx → Val e) (L : List (View.Piece Val s e)) :
    v.readCov (⟨Rect.unit off' s.size inb', w⟩ :: L) (Rect.unit off size inb).toLoadRect = VecWindow.window w off size inb := by
  show v.readAt Val (Rect.unit off size inb).toLoadRect (v.writes Val v.junk _) = _
  rw [View.readAt_unit v _ inb rfl inb, View.read_writes_full]

section Runs

variable (c : Dev nD) (i : grid1.Coords)
  (a1 : Memref sig .tc .vmem S3584x384 .f32) (h1 : a1.IsWhole) (a2 : Memref sig .tc .vmem S3584x384 .f32) (h2 : a2.IsWhole)
  (a3 : Memref sig .tc .vmem S8x384 .f32) (h3 : a3.IsWhole) (a4 : Memref sig .tc .vmem S1x384 .f32) (h4 : a4.IsWhole)
  (a5 : Memref sig .tc .vmem S384x384 .bf16) (h5 : a5.IsWhole) (a6 : Memref sig .tc .vmem S3584x384 .bf16) (h6 : a6.IsWhole)
  (a7 : Memref sig .tc .vmem S3584x384 .f32) (h7 : a7.IsWhole) (a8 : Memref sig .tc .vmem S8x384 .f32) (h8 : a8.IsWhole)
  (a9 : Memref sig .tc .vmem S384x384 .f32) (h9 : a9.IsWhole) (a10 : Memref sig .tc .vmem S384x384 .bf16) (h10 : a10.IsWhole)

/-- A later point: one block of the result, from the block of `v` and the folded matrix. -/
theorem run_out (hi : 14 < (i 0).val) (X6 : S3584x384.Idx → Elt F .bf16) (X10 : S384x384.Idx → Elt F .bf16) (E : Set ℕ) (Q : PUnit → sProp 𝕄) :
    iprop(at' c a6 X6 ∗ at' c a10 X10 ∗ (∃ f, pt c a7 f)
        ∗ (iprop(at' c a6 X6 ∗ at' c a10 X10 ∗ at' c a7 (k1_pay6 X6 X10)) -∗ Q ⟨⟩))
      ⊢ wp frame (wpE (defs₀ (F := F)) 𝒱₀ c none) E (cc1__pass_bc i a1 h1 a2 h2 a3 h3 a4 h4 a5 h5 a6 h6 a7 h7 a8 h8 a9 h9 a10 h10) Q := by
  have c1 : ¬ (Scalar.cmpi .ne (Scalar.extui (Scalar.cmpi .eq (BitVec.ofNat 32 (i 0).val) 0#32)) 0#32 = 1#1) := by
    revert hi; revert i; decide +kernel
  have c2 : ¬ (Scalar.cmpi .ne (Scalar.extui (Scalar.cmpi .slt (BitVec.ofNat 32 (i 0).val) 14#32)) 0#32 = 1#1) := by
    revert hi; revert i; decide +kernel
  have c5 : ¬ (Scalar.cmpi .ne (Scalar.extui (Scalar.cmpi .eq (BitVec.ofNat 32 (i 0).val) 14#32)) 0#32 = 1#1) := by
    revert hi; revert i; decide +kernel
  have c6 : (k1_cond6 i = 1#1) := by
    revert hi; revert i; decide +kernel
  iintro ⟨⟨%f6, %e6, H6⟩, ⟨%f10, %e10, H10⟩, ⟨%f7, H7⟩, Hk⟩
  rw [cc1__pass_bc_eq_skeleton]
  sl_unfold [cc1__pass_bc_skel]
  sl_exec
  sl_step
  iapply Hk
  isplitl [H6]
  · iexists _; isplitr; swap; (· iexact H6); ipureintro; assumption
  isplitl [H10]
  · iexists _; isplitr; swap; (· iexact H10); ipureintro; assumption
  iexists _; isplitr; swap; (· iexact H7); ipureintro; exact (View.read_writes_full _ _ _ _ _).trans (congr (congrArg k1_pay6 ((View.readAt_full _ _ _).trans e6)) ((View.readAt_full _ _ _).trans e10))

/-- The first point: the scale factors from the sums of squares, and the first block's gram matrix. -/
theorem run_first (hi : (i 0).val = 0) (X1 X2 : S3584x384.Idx → Elt F .f32) (X3 : S8x384.Idx → Elt F .f32) (E : Set ℕ) (Q : PUnit → sProp 𝕄) :
    iprop(at' c a1 X1 ∗ at' c a2 X2 ∗ at' c a3 X3 ∗ (∃ f, pt c a8 f) ∗ (∃ f, pt c a9 f)
        ∗ (iprop(at' c a1 X1 ∗ at' c a2 X2 ∗ at' c a3 X3 ∗ at' c a8 (k1_pay1 X3)
            ∗ at' c a9 (k1_pay3 X1 (row0 (k1_pay1 X3)) X2 (row1 (k1_pay1 X3)))) -∗ Q ⟨⟩))
      ⊢ wp frame (wpE (defs₀ (F := F)) 𝒱₀ c none) E (cc1__pass_bc i a1 h1 a2 h2 a3 h3 a4 h4 a5 h5 a6 h6 a7 h7 a8 h8 a9 h9 a10 h10) Q := by
  have c1 : (Scalar.cmpi .ne (Scalar.extui (Scalar.cmpi .eq (BitVec.ofNat 32 (i 0).val) 0#32)) 0#32 = 1#1) := by
    revert hi; revert i; decide +kernel
  have c2 : (Scalar.cmpi .ne (Scalar.extui (Scalar.cmpi .slt (BitVec.ofNat 32 (i 0).val) 14#32)) 0#32 = 1#1) := by
    revert hi; revert i; decide +kernel
  have c4 : ¬ (Scalar.cmpi .ne (Scalar.extui (Scalar.cmpi .sgt (BitVec.ofNat 32 (i 0).val) 0#32)) 0#32 = 1#1) := by
    revert hi; revert i; decide +kernel
  have c5 : ¬ (Scalar.cmpi .ne (Scalar.extui (Scalar.cmpi .eq (BitVec.ofNat 32 (i 0).val) 14#32)) 0#32 = 1#1) := by
    revert hi; revert i; decide +kernel
  have c6 : ¬ (k1_cond6 i = 1#1) := by
    revert hi; revert i; decide +kernel
  iintro ⟨⟨%f1, %e1, H1⟩, ⟨%f2, %e2, H2⟩, ⟨%f3, %e3, H3⟩, ⟨%f8, H8⟩, ⟨%f9, H9⟩, Hk⟩
  rw [cc1__pass_bc_eq_skeleton]
  sl_unfold [cc1__pass_bc_skel]
  sl_exec
  sl_step
  iapply Hk
  isplitl [H1]
  · iexists _; isplitr; swap; (· iexact H1); ipureintro; assumption
  isplitl [H2]
  · iexists _; isplitr; swap; (· iexact H2); ipureintro; assumption
  isplitl [H3]
  · iexists _; isplitr; swap; (· iexact H3); ipureintro; assumption
  isplitl [H8]
  · iexists _; isplitr; swap; (· iexact H8); ipureintro; exact (View.read_writes_full _ _ _ _ _).trans (congrArg k1_pay1 ((View.readAt_full _ _ _).trans e3))
  iexists _; isplitr; swap; (· iexact H9); ipureintro; subst e3; exact (View.read_writes_full _ _ _ _ _).trans (congr (congr (congr (congrArg k1_pay3 ((View.readAt_full _ _ _).trans e1)) ((readCov_unit _ _ _ _ _).trans (congrArg row0 (congrArg k1_pay1 (View.readAt_full _ _ _))))) ((View.readAt_full _ _ _).trans e2)) ((readCov_unit _ _ _ _ _).trans (congrArg row1 (congrArg k1_pay1 (View.readAt_full _ _ _)))))

/-- A point of the first half after the first: one more block added to the gram matrix. -/
theorem run_gram (hi : 0 < (i 0).val ∧ (i 0).val < 14) (X1 X2 : S3584x384.Idx → Elt F .f32) (X8 : S8x384.Idx → Elt F .f32) (X9 : S384x384.Idx → Elt F .f32)
    (E : Set ℕ) (Q : PUnit → sProp 𝕄) :
    iprop(at' c a1 X1 ∗ at' c a2 X2 ∗ at' c a8 X8 ∗ at' c a9 X9
        ∗ (iprop(at' c a1 X1 ∗ at' c a2 X2 ∗ at' c a8 X8
            ∗ at' c a9 (k1_pay4 X1 (row0 X8) X2 (row1 X8) X9)) -∗ Q ⟨⟩))
      ⊢ wp frame (wpE (defs₀ (F := F)) 𝒱₀ c none) E (cc1__pass_bc i a1 h1 a2 h2 a3 h3 a4 h4 a5 h5 a6 h6 a7 h7 a8 h8 a9 h9 a10 h10) Q := by
  have c1 : ¬ (Scalar.cmpi .ne (Scalar.extui (Scalar.cmpi .eq (BitVec.ofNat 32 (i 0).val) 0#32)) 0#32 = 1#1) := by
    revert hi; revert i; decide +kernel
  have c2 : (Scalar.cmpi .ne (Scalar.extui (Scalar.cmpi .slt (BitVec.ofNat 32 (i 0).val) 14#32)) 0#32 = 1#1) := by
    revert hi; revert i; decide +kernel
  have c4 : (Scalar.cmpi .ne (Scalar.extui (Scalar.cmpi .sgt (BitVec.ofNat 32 (i 0).val) 0#32)) 0#32 = 1#1) := by
    revert hi; revert i; decide +kernel
  have c5 : ¬ (Scalar.cmpi .ne (Scalar.extui (Scalar.cmpi .eq (BitVec.ofNat 32 (i 0).val) 14#32)) 0#32 = 1#1) := by
    revert hi; revert i; decide +kernel
  have c6 : ¬ (k1_cond6 i = 1#1) := by
    revert hi; revert i; decide +kernel
  iintro ⟨⟨%f1, %e1, H1⟩, ⟨%f2, %e2, H2⟩, ⟨%f8, %e8, H8⟩, ⟨%f9, %e9, H9⟩, Hk⟩
  rw [cc1__pass_bc_eq_skeleton]
  sl_unfold [cc1__pass_bc_skel]
  sl_exec
  sl_step
  iapply Hk
  isplitl [H1]
  · iexists _; isplitr; swap; (· iexact H1); ipureintro; assumption
  isplitl [H2]
  · iexists _; isplitr; swap; (· iexact H2); ipureintro; assumption
  isplitl [H8]
  · iexists _; isplitr; swap; (· iexact H8); ipureintro; assumption
  iexists _; isplitr; swap; (· iexact H9); ipureintro; exact (View.read_writes_full _ _ _ _ _).trans (congr (congr (congr (congr (congrArg k1_pay4 ((View.readAt_full _ _ _).trans e1)) ((View.readAt_unit _ _ _ rfl _).trans (congrArg row0 e8))) ((View.readAt_full _ _ _).trans e2)) ((View.readAt_unit _ _ _ rfl _).trans (congrArg row1 e8))) ((View.readAt_full _ _ _).trans e9))

set_option maxHeartbeats 2000000 in
/-- The turning point: the gram matrix folded with the projection, then the first block of the result. -/
theorem run_turn (hi : (i 0).val = 14) (X4 : S1x384.Idx → Elt F .f32) (X5 : S384x384.Idx → Elt F .bf16) (X6 : S3584x384.Idx → Elt F .bf16)
    (X9 : S384x384.Idx → Elt F .f32) (E : Set ℕ) (Q : PUnit → sProp 𝕄) :
    iprop(at' c a4 X4 ∗ at' c a5 X5 ∗ at' c a6 X6 ∗ at' c a9 X9 ∗ (∃ f, pt c a10 f) ∗ (∃ f, pt c a7 f)
        ∗ (iprop(at' c a4 X4 ∗ at' c a5 X5 ∗ at' c a6 X6 ∗ at' c a9 X9 ∗ at' c a10 (mOf X9 X4 X5)
            ∗ at' c a7 (k1_pay6 X6 (mOf X9 X4 X5))) -∗ Q ⟨⟩))
      ⊢ wp frame (wpE (defs₀ (F := F)) 𝒱₀ c none) E (cc1__pass_bc i a1 h1 a2 h2 a3 h3 a4 h4 a5 h5 a6 h6 a7 h7 a8 h8 a9 h9 a10 h10) Q := by
  have c1 : ¬ (Scalar.cmpi .ne (Scalar.extui (Scalar.cmpi .eq (BitVec.ofNat 32 (i 0).val) 0#32)) 0#32 = 1#1) := by
    revert hi; revert i; decide +kernel
  have c2 : ¬ (Scalar.cmpi .ne (Scalar.extui (Scalar.cmpi .slt (BitVec.ofNat 32 (i 0).val) 14#32)) 0#32 = 1#1) := by
    revert hi; revert i; decide +kernel
  have c5 : (Scalar.cmpi .ne (Scalar.extui (Scalar.cmpi .eq (BitVec.ofNat 32 (i 0).val) 14#32)) 0#32 = 1#1) := by
    revert hi; revert i; decide +kernel
  have c6 : (k1_cond6 i = 1#1) := by
    revert hi; revert i; decide +kernel
  iintro ⟨⟨%f4, %e4, H4⟩, ⟨%f5, %e5, H5⟩, ⟨%f6, %e6, H6⟩, ⟨%f9, %e9, H9⟩, ⟨%f10, H10⟩, ⟨%f7, H7⟩, Hk⟩
  rw [cc1__pass_bc_eq_skeleton]
  sl_unfold [cc1__pass_bc_skel]
  sl_exec
  sl_step
  have hM : mOf (a9.view.readAt (Elt F) (Rect.unit (s := S384x384) ![0, 0] S384x384.size inb_S384x384_S384x384_0_0).toLoadRect f9)
      (a4.view.readAt (Elt F) (Rect.unit (s := S1x384) ![0, 0] S1x384.size inb_S1x384_S1x384_0_0).toLoadRect f4)
      (a5.view.readAt (Elt F) (Rect.unit (s := S384x384) ![0, 0] S384x384.size inb_S384x384_S384x384_0_0).toLoadRect f5) = mOf X9 X4 X5 :=
    congr (congr (congrArg mOf ((View.readAt_full _ _ _).trans e9)) ((View.readAt_full _ _ _).trans e4)) ((View.readAt_full _ _ _).trans e5)
  iapply Hk
  isplitl [H4]
  · iexists _; isplitr; swap; (· iexact H4); ipureintro; assumption
  isplitl [H5]
  · iexists _; isplitr; swap; (· iexact H5); ipureintro; assumption
  isplitl [H6]
  · iexists _; isplitr; swap; (· iexact H6); ipureintro; assumption
  isplitl [H9]
  · iexists _; isplitr; swap; (· iexact H9); ipureintro; assumption
  isplitl [H10]
  · iexists _; isplitr; swap; (· iexact H10); ipureintro; exact (View.read_writes_full _ _ _ _ _).trans hM
  iexists _; isplitr; swap; (· iexact H7); ipureintro; refine (View.read_writes_full _ _ _ _ _).trans (congr (congrArg k1_pay6 ((View.readAt_full _ _ _).trans e6)) ?_)
  unfold run_turn.sl.v14 run_turn.sl.H10_1
  exact (View.readCov_full _ _ _ _ _).trans hM

end Runs

end Cert.KernelIdeal.Bc

end
-- ==== Proof.I.Rest.lean ====
/-
  The first kernel region of the program: the whole body of a point, from its first part.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.FrameBody
public import Idealize.ShloMosaic.Lib.VecWindow
public import Idealize.ShloMosaic.Lib.Tactic
public import proofs.«01_k».proof.Proof.I.Pa
public import proofs.«01_k».proof.Proof.I.Bc
public import Idealize.ShloMosaic.Lib.ValueLayout

@[expose] public section

set_option maxRecDepth 16384

noncomputable section

namespace Cert.KernelIdeal.Pa

open Cert.KernelIdeal.Bc (Bf pt at')
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- The windows of the two weight arrays the body reads. -/
abbrev wAt (X2 : S1152x384.Idx → Elt F .bf16) (o : Fin 2 → ℕ) (h : ∀ a, o a + S384x384.size a ≤ S1152x384.size a) : S384x384.Idx → Elt F .bf16 := VecWindow.window X2 o S384x384.size h
abbrev dAt (X3 : S72x1152.Idx → Elt F .f32) (o : Fin 2 → ℕ) (h : ∀ a, o a + S72x384.size a ≤ S72x1152.size a) : S72x384.Idx → Elt F .f32 := VecWindow.window X3 o S72x384.size h

abbrev pix : IVec S1792x1 32 := iota .tc S1792x1 32 [0] iota_S1792x1_d0_w32

/-- The blocks of `q`, `k` and `v` a point stores, from its slab and the weights. -/
def qB (S : S1x2304x384.Idx → Elt F .f32) (X2 : S1152x384.Idx → Elt F .bf16) (X3 : S72x1152.Idx → Elt F .f32) : S1792x384.Idx → Elt F .f32 :=
  k0_pay13 (F := F) (k0_pay8 (F := F) pix 224#32) (k0_pay9 (F := F) pix 224#32) (k0_pay10 (k0_pay6 S) (wAt X2 ![0, 0] inb_S1152x384_S384x384_0_0)) (k0_pay11 (dAt X3 ![0, 0] inb_S72x1152_S72x384_0_0))
    (k0_pay12 (k0_pay6 S) (wAt X2 ![0, 0] inb_S1152x384_S384x384_0_0) (dAt X3 ![0, 0] inb_S72x1152_S72x384_0_0))
def kB (S : S1x2304x384.Idx → Elt F .f32) (X2 : S1152x384.Idx → Elt F .bf16) (X3 : S72x1152.Idx → Elt F .f32) : S1792x384.Idx → Elt F .f32 :=
  k0_pay18 (F := F) (k0_pay8 (F := F) pix 224#32) (k0_pay9 (F := F) pix 224#32) (k0_pay14 (k0_pay6 S) (wAt X2 ![384, 0] inb_S1152x384_S384x384_384_0)) (k0_pay15 (dAt X3 ![0, 384] inb_S72x1152_S72x384_0_384))
    (k0_pay16 (k0_pay6 S) (wAt X2 ![384, 0] inb_S1152x384_S384x384_384_0) (dAt X3 ![0, 384] inb_S72x1152_S72x384_0_384))
    (k0_pay17 (k0_pay6 S) (wAt X2 ![384, 0] inb_S1152x384_S384x384_384_0) (dAt X3 ![0, 384] inb_S72x1152_S72x384_0_384))
def vB (S : S1x2304x384.Idx → Elt F .f32) (X2 : S1152x384.Idx → Elt F .bf16) (X3 : S72x1152.Idx → Elt F .f32) : S1792x384.Idx → Elt F .bf16 :=
  k0_pay1 (k0_pay20 (F := F) (k0_pay8 (F := F) pix 224#32) (k0_pay9 (F := F) pix 224#32) (k0_pay19 (k0_pay6 S) (wAt X2 ![768, 0] inb_S1152x384_S384x384_768_0)) (dAt X3 ![0, 768] inb_S72x1152_S72x384_0_768))

section Body

variable (c : Dev nD) (i : grid0.Coords)
  (a2 : Memref sig .tc .vmem S1152x384 .bf16) (h2 : a2.IsWhole) (a3 : Memref sig .tc .vmem S72x1152 .f32) (h3 : a3.IsWhole)
  (a4 : Memref sig .tc .vmem S1792x384 .f32) (h4 : a4.IsWhole) (a5 : Memref sig .tc .vmem S1792x384 .f32) (h5 : a5.IsWhole)
  (a6 : Memref sig .tc .vmem S1792x384 .bf16) (h6 : a6.IsWhole) (a7 : Memref sig .tc .vmem S8x384 .f32) (h7 : a7.IsWhole)

abbrev body := cc0__pass_a (F := F) i xM (Memref.isWhole_whole _) a2 h2 a3 h3 a4 h4 a5 h5 a6 h6 a7 h7 bM (Memref.isWhole_whole _) cc0_scratch1

theorem cond8_first : (i 0).val = 0 → k0_cond8 i = 1#1 := by revert i; decide +kernel
theorem cond9_first : (i 0).val = 0 → ¬ k0_cond9 i = 1#1 := by revert i; decide +kernel
theorem cond8_next : 0 < (i 0).val → ¬ k0_cond8 i = 1#1 := by revert i; decide +kernel
theorem cond9_next : 0 < (i 0).val → k0_cond9 i = 1#1 := by revert i; decide +kernel

theorem body_first (hi : (i 0).val = 0) (x : S50176x384.Idx → Elt F .f32) (X2 : S1152x384.Idx → Elt F .bf16) (X3 : S72x1152.Idx → Elt F .f32) (R P : sProp 𝕄)
    (hp : ∀ Q : Ret0 F → sProp 𝕄, iprop(R ∗ (P -∗ Q (ret0 x i))) ⊢ wp frame (wpE (defs₀ (F := F)) 𝒱₀ c none) Set.univ (part1 (F := F) i a2 h2 a3 h3 a4 h4 a5 h5 a6 h6 a7 h7) Q)
    (Q : PUnit → sProp 𝕄) :
    iprop(R ∗ at' c a2 X2 ∗ at' c a3 X3 ∗ (∃ f, pt c a4 f) ∗ (∃ f, pt c a5 f) ∗ (∃ f, pt c a6 f) ∗ (∃ f, pt c a7 f)
        ∗ (iprop(P ∗ at' c a2 X2 ∗ at' c a3 X3 ∗ at' c a4 (qB (slab x (i 0).val) X2 X3) ∗ at' c a5 (kB (slab x (i 0).val) X2 X3) ∗ at' c a6 (vB (slab x (i 0).val) X2 X3)
            ∗ at' c a7 (k0_pay2 (qB (slab x (i 0).val) X2 X3) (kB (slab x (i 0).val) X2 X3))) -∗ Q ⟨⟩))
      ⊢ wp frame (wpE (defs₀ (F := F)) 𝒱₀ c none) Set.univ (body (F := F) i a2 h2 a3 h3 a4 h4 a5 h5 a6 h6 a7 h7) Q := by
  have c8 := cond8_first i hi
  have c9 := cond9_first i hi
  unfold body
  rw [cc0__pass_a_eq_skeleton]
  unfold cc0__pass_a_skel
  refine BIBase.Entails.trans ?_ (Entails.of_eq (wp_bind _ _ _ _ _ _).symm)
  iintro ⟨HR, ⟨%f2, %e2, H2⟩, ⟨%f3, %e3, H3⟩, ⟨%f4, H4⟩, ⟨%f5, H5⟩, ⟨%f6, H6⟩, ⟨%f7, H7⟩, Hk⟩
  have w2 : ∀ o inb, a2.view.readAt (Elt F) (Rect.unit (s := S1152x384) o S384x384.size inb).toLoadRect f2 = wAt X2 o inb := fun o inb => by rw [View.readAt_unit _ _ inb rfl inb, e2]
  have w3 : ∀ o inb, a3.view.readAt (Elt F) (Rect.unit (s := S72x1152) o S72x384.size inb).toLoadRect f3 = dAt X3 o inb := fun o inb => by rw [View.readAt_unit _ _ inb rfl inb, e3]
  iapply hp
  isplitl [HR]; · iexact HR
  iintro HP
  dsimp only
  rw [k0_part2_eq_skeleton, k0_part3_eq_skeleton, k0_part4_eq_skeleton, k0_part5_eq_skeleton]
  sl_unfold [k0_part2_skel, k0_part3_skel, k0_part4_skel, k0_part5_skel]
  sl_exec
  sl_step
  iapply Hk
  isplitl [HP]; · iexact HP
  isplitl [H2]
  · iexists _; isplitr; swap; (· iexact H2); ipureintro; exact e2
  isplitl [H3]
  · iexists _; isplitr; swap; (· iexact H3); ipureintro; exact e3
  isplitl [H4]
  · iexists _; isplitr; swap; (· iexact H4); ipureintro; exact View.read_writes_full _ _ _ _ _
  isplitl [H5]
  · iexists _; isplitr; swap; (· iexact H5); ipureintro; exact View.read_writes_full _ _ _ _ _
  isplitl [H6]
  · iexists _; isplitr; swap; (· iexact H6); ipureintro; exact View.read_writes_full _ _ _ _ _
  iexists _; isplitr; swap; (· iexact H7); ipureintro; exact View.read_writes_full _ _ _ _ _

theorem body_next (hi : 0 < (i 0).val) (x : S50176x384.Idx → Elt F .f32) (X2 : S1152x384.Idx → Elt F .bf16) (X3 : S72x1152.Idx → Elt F .f32) (X7 : S8x384.Idx → Elt F .f32) (R P : sProp 𝕄)
    (hp : ∀ Q : Ret0 F → sProp 𝕄, iprop(R ∗ (P -∗ Q (ret0 x i))) ⊢ wp frame (wpE (defs₀ (F := F)) 𝒱₀ c none) Set.univ (part1 (F := F) i a2 h2 a3 h3 a4 h4 a5 h5 a6 h6 a7 h7) Q)
    (Q : PUnit → sProp 𝕄) :
    iprop(R ∗ at' c a2 X2 ∗ at' c a3 X3 ∗ (∃ f, pt c a4 f) ∗ (∃ f, pt c a5 f) ∗ (∃ f, pt c a6 f) ∗ at' c a7 X7
        ∗ (iprop(P ∗ at' c a2 X2 ∗ at' c a3 X3 ∗ at' c a4 (qB (slab x (i 0).val) X2 X3) ∗ at' c a5 (kB (slab x (i 0).val) X2 X3) ∗ at' c a6 (vB (slab x (i 0).val) X2 X3)
            ∗ at' c a7 (k0_pay3 (qB (slab x (i 0).val) X2 X3) (kB (slab x (i 0).val) X2 X3) X7)) -∗ Q ⟨⟩))
      ⊢ wp frame (wpE (defs₀ (F := F)) 𝒱₀ c none) Set.univ (body (F := F) i a2 h2 a3 h3 a4 h4 a5 h5 a6 h6 a7 h7) Q := by
  have c8 := cond8_next i hi
  have c9 := cond9_next i hi
  unfold body
  rw [cc0__pass_a_eq_skeleton]
  unfold cc0__pass_a_skel
  refine BIBase.Entails.trans ?_ (Entails.of_eq (wp_bind _ _ _ _ _ _).symm)
  iintro ⟨HR, ⟨%f2, %e2, H2⟩, ⟨%f3, %e3, H3⟩, ⟨%f4, H4⟩, ⟨%f5, H5⟩, ⟨%f6, H6⟩, ⟨%f7, %e7, H7⟩, Hk⟩
  have w2 : ∀ o inb, a2.view.readAt (Elt F) (Rect.unit (s := S1152x384) o S384x384.size inb).toLoadRect f2 = wAt X2 o inb := fun o inb => by rw [View.readAt_unit _ _ inb rfl inb, e2]
  have w3 : ∀ o inb, a3.view.readAt (Elt F) (Rect.unit (s := S72x1152) o S72x384.size inb).toLoadRect f3 = dAt X3 o inb := fun o inb => by rw [View.readAt_unit _ _ inb rfl inb, e3]
  iapply hp
  isplitl [HR]; · iexact HR
  iintro HP
  dsimp only
  rw [k0_part2_eq_skeleton, k0_part3_eq_skeleton, k0_part4_eq_skeleton, k0_part5_eq_skeleton]
  sl_unfold [k0_part2_skel, k0_part3_skel, k0_part4_skel, k0_part5_skel]
  sl_exec
  sl_step
  iapply Hk
  isplitl [HP]; · iexact HP
  isplitl [H2]
  · iexists _; isplitr; swap; (· iexact H2); ipureintro; exact e2
  isplitl [H3]
  · iexists _; isplitr; swap; (· iexact H3); ipureintro; exact e3
  isplitl [H4]
  · iexists _; isplitr; swap; (· iexact H4); ipureintro; exact View.read_writes_full _ _ _ _ _
  isplitl [H5]
  · iexists _; isplitr; swap; (· iexact H5); ipureintro; exact View.read_writes_full _ _ _ _ _
  isplitl [H6]
  · iexists _; isplitr; swap; (· iexact H6); ipureintro; exact View.read_writes_full _ _ _ _ _
  iexists _; isplitr; swap; (· iexact H7); ipureintro; exact (View.read_writes_full _ _ _ _ _).trans (congrArg (k0_pay3 _ _) ((View.readAt_full _ _ _).trans e7))

end Body

end Cert.KernelIdeal.Pa

end
-- ==== Proof.I.RegA.lean ====
/-
  The first kernel region: what is held between its points, and one point's step.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.FrameBody
public import Idealize.ShloMosaic.Lib.VecWindow
public import Idealize.ShloMosaic.Lib.Tactic
public import proofs.«01_k».proof.Proof.I.Pa
public import proofs.«01_k».proof.Proof.I.Bc
public import Idealize.ShloMosaic.Lib.ValueLayout
public import proofs.«01_k».proof.Proof.I.Rest
public import Idealize.ShloMosaic.Lib.Pipeline.RegionArrays

@[expose] public section

set_option maxRecDepth 16384

noncomputable section

namespace Cert.KernelIdeal.Pa

open Cert.KernelIdeal.Bc (Bf pt at')
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

section Inv

variable (c : Dev nD) (X : Buf (Elt F) (xM.view.loc (c : Thread nD τ)))

/-- A slot's copy in flight for the point after `n`, with what is left of its token. -/
def fly (s : Fin 2) (n : ℕ) (h : 1792 * n + 1536 + 2304 ≤ 50176) : sProp 𝕄 := iprop((∃ f, flP c X s (1792 * n + 1536) h f) ∗ tokR c X s (1792 * n + 1536) h)

/-- A slot with nothing in flight. -/
def free (s : Fin 2) : sProp 𝕄 := iprop((∃ f, slotP (F := F) c s f) ∗ tokP c X s ∗ cellP (F := F) c s)

/-- The last copy in flight, over the zeros already stored. -/
def flyLast : sProp 𝕄 := iprop(padZ (F := F) c ∗ (∃ f, flL c X f) ∗ tokL c X)

theorem fly_congr (s : Fin 2) {n m : ℕ} (e : n = m) (h h') : fly c X s n h = fly c X s m h' := by subst e; rfl

/-- What the slots hold before point `t`. -/
def slots (t : ℕ) : sProp 𝕄 :=
  if h : 0 < t ∧ t ≤ 26 then (if t % 2 = 0 then iprop(fly c X 0 (t - 1) (by omega) ∗ free c X 1) else iprop(fly c X 1 (t - 1) (by omega) ∗ free c X 0))
  else if t = 27 then iprop(flyLast c X ∗ free c X 0) else iprop(free c X 0 ∗ free c X 1)

abbrev ow : sProp 𝕄 := iprop(∃ W, owes (c : Thread nD τ) (0 : CellTallies nD τ sig Unit) W)

theorem slots_even {t : ℕ} (h : 0 < t) (h' : t ≤ 26) (e : t % 2 = 0) : slots c X t = iprop(fly c X 0 (t - 1) (by omega) ∗ free c X 1) := by
  unfold slots; rw [dif_pos ⟨h, h'⟩, if_pos e]
theorem slots_odd {t : ℕ} (h : 0 < t) (h' : t ≤ 26) (e : t % 2 = 1) : slots c X t = iprop(fly c X 1 (t - 1) (by omega) ∗ free c X 0) := by
  unfold slots; rw [dif_pos ⟨h, h'⟩, if_neg (by omega)]
theorem slots_last : slots c X 27 = iprop(flyLast c X ∗ free c X 0) := by unfold slots; rw [dif_neg (by decide), if_pos rfl]
theorem slots_ends {t : ℕ} (h : t = 0 ∨ 27 < t) : slots c X t = iprop(free c X 0 ∗ free c X 1) := by
  unfold slots; rw [dif_neg (by omega), if_neg (by omega)]

variable (i : grid0.Coords)
  (a2 : Memref sig .tc .vmem S1152x384 .bf16) (h2 : a2.IsWhole) (a3 : Memref sig .tc .vmem S72x1152 .f32) (h3 : a3.IsWhole)
  (a4 : Memref sig .tc .vmem S1792x384 .f32) (h4 : a4.IsWhole) (a5 : Memref sig .tc .vmem S1792x384 .f32) (h5 : a5.IsWhole)
  (a6 : Memref sig .tc .vmem S1792x384 .bf16) (h6 : a6.IsWhole) (a7 : Memref sig .tc .vmem S8x384 .f32) (h7 : a7.IsWhole)

/-- A point takes the slots from before it to after it, and hands its slab on. -/
theorem step (Q : Ret0 F → sProp 𝕄) :
    iprop((ow (F := F) c ∗ slots c X (i 0).val) ∗ (iprop(ow (F := F) c ∗ slots c X ((i 0).val + 1)) -∗ Q (ret0 (xM.view.read (Elt F) X) i)))
      ⊢ wp frame (wpE (defs₀ (F := F)) 𝒱₀ c none) Set.univ (part1 (F := F) i a2 h2 a3 h3 a4 h4 a5 h5 a6 h6 a7 h7) Q := by
  have hlt : (i 0).val < 28 := (i 0).isLt
  rcases Nat.eq_zero_or_pos (i 0).val with h0 | hpos
  · rw [slots_ends c X (Or.inl h0), slots_odd c X (t := (i 0).val + 1) (by omega) (by omega) (by omega)]
    unfold free fly
    iintro ⟨⟨HO, ⟨⟨%f, Hs0⟩, Ht0, Hc0⟩, Hs1, Ht1, Hc1⟩, Hk⟩
    ihave Hp := split_slot c 0 (kp := 0) (kq := 256) (by decide) (by decide) (Or.inl ⟨rfl, rfl⟩) f $$ Hs0
    icases Hp with ⟨Hp, Hq⟩
    iapply (run0 c X i a2 h2 a3 h3 a4 h4 a5 h5 a6 h6 a7 h7 h0 Q)
    isplitl [HO]; · iexact HO
    isplitl [Hp]; · iexists _; iexact Hp
    isplitl [Hq]; · iexists _; iexact Hq
    isplitl [Hs1]; · iexact Hs1
    isplitl [Ht0]; · iexact Ht0
    isplitl [Ht1]; · iexact Ht1
    isplitl [Hc0]; · iexact Hc0
    isplitl [Hc1]; · iexact Hc1
    iintro ⟨HO, Hf, Hr, Hs, Ht, Hc⟩
    iapply Hk
    isplitl [HO]; · iexact HO
    isplitl [Hf Hr]
    · isplitl [Hf]; · iexact Hf
      iexact Hr
    isplitl [Hs]; · iexact Hs
    isplitl [Ht]; · iexact Ht
    iexact Hc
  rcases Nat.lt_or_ge (i 0).val 26 with hl | hge
  · rcases Nat.mod_two_eq_zero_or_one (i 0).val with he | ho
    · rw [slots_even c X hpos (by omega) he, slots_odd c X (t := (i 0).val + 1) (by omega) (by omega) (by omega)]
      unfold free fly
      iintro ⟨⟨HO, ⟨Hf, Hr⟩, Hs, Ht, Hc⟩, Hk⟩
      iapply (runE c X i a2 h2 a3 h3 a4 h4 a5 h5 a6 h6 a7 h7 hpos hl he Q)
      isplitl [HO]; · iexact HO
      isplitl [Hf]; · iexact Hf
      isplitl [Hr]; · iexact Hr
      isplitl [Hs]; · iexact Hs
      isplitl [Ht]; · iexact Ht
      isplitl [Hc]; · iexact Hc
      iintro ⟨HO, Hf, Hr, Hs, Ht, Hc⟩
      iapply Hk
      isplitl [HO]; · iexact HO
      isplitl [Hf Hr]
      · isplitl [Hf]; · iexact Hf
        iexact Hr
      isplitl [Hs]; · iexact Hs
      isplitl [Ht]; · iexact Ht
      iexact Hc
    · rw [slots_odd c X hpos (by omega) ho, slots_even c X (t := (i 0).val + 1) (by omega) (by omega) (by omega)]
      unfold free fly
      iintro ⟨⟨HO, ⟨Hf, Hr⟩, Hs, Ht, Hc⟩, Hk⟩
      iapply (runO c X i a2 h2 a3 h3 a4 h4 a5 h5 a6 h6 a7 h7 hpos hl ho Q)
      isplitl [HO]; · iexact HO
      isplitl [Hf]; · iexact Hf
      isplitl [Hr]; · iexact Hr
      isplitl [Hs]; · iexact Hs
      isplitl [Ht]; · iexact Ht
      isplitl [Hc]; · iexact Hc
      iintro ⟨HO, Hf, Hr, Hs, Ht, Hc⟩
      iapply Hk
      isplitl [HO]; · iexact HO
      isplitl [Hf Hr]
      · isplitl [Hf]; · iexact Hf
        iexact Hr
      isplitl [Hs]; · iexact Hs
      isplitl [Ht]; · iexact Ht
      iexact Hc
  rcases Nat.eq_or_lt_of_le hge with h26 | h27
  · have h26 := h26.symm
    rw [show (i 0).val + 1 = 27 by omega, slots_last, slots_even c X hpos (by omega) (by omega)]
    unfold free fly flyLast
    iintro ⟨⟨HO, ⟨Hf, Hr⟩, Hs, Ht, Hc⟩, Hk⟩
    iapply (run26 c X i a2 h2 a3 h3 a4 h4 a5 h5 a6 h6 a7 h7 h26 Q)
    isplitl [HO]; · iexact HO
    isplitl [Hf]; · iexact Hf
    isplitl [Hr]; · iexact Hr
    isplitl [Hs]; · iexact Hs
    isplitl [Ht]; · iexact Ht
    isplitl [Hc]; · iexact Hc
    iintro ⟨HO, Hz, Hf, Hr, Hs, Ht, Hc⟩
    iapply Hk
    isplitl [HO]; · iexact HO
    isplitl [Hz Hf Hr]
    · isplitl [Hz]; · iexact Hz
      isplitl [Hf]; · iexact Hf
      iexact Hr
    isplitl [Hs]; · iexact Hs
    isplitl [Ht]; · iexact Ht
    iexact Hc
  · have h27 : (i 0).val = 27 := by omega
    rw [slots_ends c X (t := (i 0).val + 1) (Or.inr (by omega)), h27, slots_last]
    unfold flyLast
    iintro ⟨⟨HO, ⟨Hz, Hf, Hr⟩, H0⟩, Hk⟩
    iapply (run27 c X i a2 h2 a3 h3 a4 h4 a5 h5 a6 h6 a7 h7 h27 Q)
    isplitl [HO]; · iexact HO
    isplitl [Hz]; · iexact Hz
    isplitl [Hf]; · iexact Hf
    isplitl [Hr]; · iexact Hr
    iintro ⟨HO, Hs, Ht, Hc⟩
    iapply Hk
    isplitl [HO]; · iexact HO
    isplitl [H0]; · iexact H0
    unfold free
    isplitl [Hs]; · iexact Hs
    isplitl [Ht]; · iexact Ht
    iexact Hc

/-! ## Entering and leaving -/

theorem slots_union : (Finset.univ : Finset S2x2304x384.Idx) = box 0 0 2304 (by decide) ∪ box 1 0 2304 (by decide) := by
  ext z
  have h0 : (z 0).val < 2 := (z 0).isLt
  have h1 : (z 1).val < 2304 := (z 1).isLt
  rw [Finset.mem_union, mem_box 0 0 2304 (by decide), mem_box 1 0 2304 (by decide)]
  constructor
  · intro _
    rcases Nat.lt_or_ge (z 0).val 1 with h | h
    · left; exact ⟨by show (z 0).val = 0; omega, by omega, by omega⟩
    · right; exact ⟨by show (z 0).val = 1; omega, by omega, by omega⟩
  · intro _; exact Finset.mem_univ _
theorem slots_disj : Disjoint (box 0 0 2304 (by decide)) (box 1 0 2304 (by decide)) := by
  rw [Finset.disjoint_left]
  intro z h h'
  rw [mem_box 0 0 2304 (by decide)] at h
  rw [mem_box 1 0 2304 (by decide)] at h'
  have a : (z 0).val = 0 := h.1
  have b : (z 0).val = 1 := h'.1
  omega

theorem slots_split (f : Buf (Elt F) ((c : Thread nD τ).loc cc0_scratch0)) :
    ((c : Thread nD τ).loc cc0_scratch0 ↦{fullShare} f : sProp 𝕄) ⊢ iprop(slotP c 0 f ∗ slotP c 1 f) := by
  unfold slotP
  rw [slot_set, slot_set]
  exact (Entails.of_eq (congrArg (fun I : Finset S2x2304x384.Idx => ((c : Thread nD τ).loc cc0_scratch0 ↦[I]{fullShare} f : sProp 𝕄)) slots_union)).trans (pointsTo_union slots_disj).1
theorem slots_join (f g) : iprop(slotP (F := F) c 0 f ∗ slotP c 1 g) ⊢ iprop(∃ h : Buf (Elt F) ((c : Thread nD τ).loc cc0_scratch0), (c : Thread nD τ).loc cc0_scratch0 ↦{fullShare} h) := by
  have e : iprop(slotP (F := F) c 0 f ∗ slotP c 1 g) ⊢ ((c : Thread nD τ).loc cc0_scratch0 ↦{fullShare} ((slotW 1).view.set.piecewise g f) : sProp 𝕄) := by
    unfold slotP
    rw [slot_set, slot_set]
    exact (pointsTo_join slots_disj).trans (Entails.of_eq (congrArg (fun I : Finset S2x2304x384.Idx => ((c : Thread nD τ).loc cc0_scratch0 ↦[I]{fullShare} _ : sProp 𝕄)) slots_union.symm))
  refine e.trans ?_
  iintro H; iexists _; iexact H

end Inv

end Cert.KernelIdeal.Pa

end
-- ==== Proof.I.RegB.lean ====
/-
  The first kernel region: its proof data and its body's obligation.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.FrameBody
public import Idealize.ShloMosaic.Lib.VecWindow
public import Idealize.ShloMosaic.Lib.Tactic
public import proofs.«01_k».proof.Proof.I.Pa
public import proofs.«01_k».proof.Proof.I.Bc
public import Idealize.ShloMosaic.Lib.ValueLayout
public import proofs.«01_k».proof.Proof.I.RegA
public import Idealize.ShloMosaic.Lib.Pipeline.RegionArrays
public import Idealize.ShloMosaic.Lib.Pipeline.ValueKit

@[expose] public section

set_option maxRecDepth 16384

noncomputable section

namespace Cert.KernelIdeal.Pa

open Cert.KernelIdeal.Bc (Bf pt at')
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- A whole memref's ownership is its buffer held whole at contents that read as stated. -/
theorem owns_at (c : Dev nD) {sp : Space} {S : Shape} {e : EltTy} (M : Memref sig .tc sp S e) (h : M.IsWhole) (X : S.Idx → Elt F e) :
    (owns (c : Thread nD τ) M fullShare X : sProp 𝕄) = at' c M X := by
  unfold owns at' pt
  rw [Memref.IsWhole.set_eq_univ h]

section Data

variable (V : Dev nD → Valuation τ sig (Elt F)) (c : Dev nD)

/-- What the region's operands hold. -/
abbrev xIn : S50176x384.Idx → Elt F .f32 := V c main_v1
abbrev wIn : S1152x384.Idx → Elt F .bf16 := V c main_v3
abbrev dIn : S72x1152.Idx → Elt F .f32 := V c main_v8

/-- The sums of squares after point `n`. -/
def auxAt (x : S50176x384.Idx → Elt F .f32) (X2 : S1152x384.Idx → Elt F .bf16) (X3 : S72x1152.Idx → Elt F .f32) : ℕ → S8x384.Idx → Elt F .f32
  | 0 => k0_pay2 (qB (slab x 0) X2 X3) (kB (slab x 0) X2 X3)
  | n + 1 => k0_pay3 (qB (slab x (n + 1)) X2 X3) (kB (slab x (n + 1)) X2 X3) (auxAt x X2 X3 n)

/-- A scoped buffer held at something. -/
abbrev ex (r : Ref sig .tc) : sProp 𝕄 := iprop(∃ f : Buf (Elt F) ((c : Thread nD τ).loc r), ((c : Thread nD τ).loc r) ↦{fullShare} f)

/-- The other region's scoped buffers. -/
def oth : sProp 𝕄 := iprop(ex (F := F) c cc1_stg0_0 ∗ ex (F := F) c cc1_stg0_1 ∗ ex (F := F) c cc1_stg1_0 ∗ ex (F := F) c cc1_stg1_1 ∗ ex (F := F) c cc1_stg2_0 ∗ ex (F := F) c cc1_stg3_0 ∗ ex (F := F) c cc1_stg4_0
  ∗ ex (F := F) c cc1_stg5_0 ∗ ex (F := F) c cc1_stg5_1 ∗ ex (F := F) c cc1_stg6_0 ∗ ex (F := F) c cc1_stg6_1 ∗ ex (F := F) c cc1_scratch0 ∗ ex (F := F) c cc1_scratch1 ∗ ex (F := F) c cc1_scratch2)

/-- The invariant before point `t`. -/
def inv (t : ℕ) : sProp 𝕄 := iprop(slots c (V c main_v1) t ∗ (xM.view.loc (c : Thread nD τ) ↦{Transfers.shareDrop fullShare 2} (V c main_v1)) ∗ oth (F := F) c)

def dat0 : Dat τ (Elt F) Unit ℕ (Pipeline.UD sig nD τ) ℕ cfg0 c where
  A w := V c (Proc.devRef .tc (Pipeline.arrRef spec0 w))
  after w t := match w with
    | ⟨0, _⟩ => wIn V c
    | ⟨1, _⟩ => dIn V c
    | ⟨2, _⟩ => qB (slab (xIn V c) t.val) (wIn V c) (dIn V c)
    | ⟨3, _⟩ => kB (slab (xIn V c) t.val) (wIn V c) (dIn V c)
    | ⟨4, _⟩ => vB (slab (xIn V c) t.val) (wIn V c) (dIn V c)
    | ⟨5, _⟩ => auxAt (xIn V c) (wIn V c) (dIn V c) t.val
  Φ t := inv V c t.val
  q _ := fullShare
  owed _ := 0

theorem coord0 (t : Fin cfg0.N) : ((grid0.coords t) 0).val = t.val := by revert t; decide +kernel
theorem live0_5 (i : cfg0.grid.Coords) : cfg0.idle 5 i = false := by revert i; decide +kernel

theorem blk0_0 (t : Fin cfg0.N) (f : S1152x384.Idx → Elt F .bf16) : ((cfg0.win 0).blk t).view.read (Elt F) f = f := by
  funext y
  show f (((cfg0.win 0).blk t).view.emb y) = f y
  refine congrArg f ?_
  funext a
  refine Fin.ext ?_
  blk_simp
  fin_cases a <;> exact (Nat.zero_add _)
theorem blk0_1 (t : Fin cfg0.N) (f : S72x1152.Idx → Elt F .f32) : ((cfg0.win 1).blk t).view.read (Elt F) f = f := by
  funext y
  show f (((cfg0.win 1).blk t).view.emb y) = f y
  refine congrArg f ?_
  funext a
  refine Fin.ext ?_
  blk_simp
  fin_cases a <;> exact (Nat.zero_add _)

theorem before0_0 (t : Fin cfg0.N) (d) : (dat0 V c).before 0 t d = wIn V c :=
  ((dat0 V c).before_in_eq_fetched 0 rfl (fun _ => rfl) (fun _ _ _ => rfl) (fun t => (blk0_0 t _).symm) t d).trans (show (dat0 V c).fetched 0 t d = _ from blk0_0 t (wIn V c))
theorem before0_1 (t : Fin cfg0.N) (d) : (dat0 V c).before 1 t d = dIn V c :=
  ((dat0 V c).before_in_eq_fetched 1 rfl (fun _ => rfl) (fun _ _ _ => rfl) (fun t => (blk0_1 t _).symm) t d).trans (show (dat0 V c).fetched 1 t d = _ from blk0_1 t (dIn V c))
theorem before0_5 (t : Fin cfg0.N) (ht : t.val ≠ 0) (d) : (dat0 V c).before 5 t d = auxAt (xIn V c) (wIn V c) (dIn V c) (t.val - 1) :=
  (dat0 V c).before_out_kept 5 rfl t ht (Bool.eq_false_iff.mpr fun h => by
    have := (flush0_5 _).mp h
    have h' := t.isLt
    have : t.val < 28 := h'
    dsimp only at *
    omega) live0_5 (fun _ _ => rfl) d

theorem ow_in (t : Fin (cfg0.N + 1)) : ow (F := F) c ⊢ (dat0 V c).owesAt () t := by
  unfold Pipeline.Dat.owesAt Pipeline.owesWithin
  iintro ⟨%W, HO⟩; iexists W; isplitr
  · ipureintro; exact fun _ _ => Or.inl trivial
  iexact HO
theorem ow_out (t : Fin (cfg0.N + 1)) : (dat0 V c).owesAt () t ⊢ ow (F := F) c := by
  unfold Pipeline.Dat.owesAt Pipeline.owesWithin
  iintro ⟨%W, -, HO⟩; iexists W; iexact HO

set_option backward.isDefEq.respectTransparency.types false in
theorem body0 : BodyObligation (dat0 V c) (defs₀ (F := F)) 𝒱₀ () Set.univ := fun t => by
  rw [bigSep_W0, bigSep_W0]
  have h5 : (!(k0_cond8 (grid0.coords t) == 1#1) && !(k0_cond9 (grid0.coords t) == 1#1)) = false := live0_5 (grid0.coords t)
  dsimp only
  simp only [h5]
  rw [show (dat0 V c).Φ t.castSucc = inv V c t.val from rfl, show (dat0 V c).Φ t.succ = inv V c (t.val + 1) from rfl]
  show _ ⊢ wp frame (wpE (defs₀ (F := F)) 𝒱₀ c none) Set.univ (bodyAt0 (F := F) t) _
  have hc := coord0 t
  have hs : ∀ Q : Ret0 F → sProp 𝕄, _ := fun Q => step c (V c main_v1) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) Q
  simp only [owns_at c (st0_0 t) (hstage0_0 ((cfg0.slots t 0).cast nbuf0_0)), owns_at c (st0_1 t) (hstage0_1 ((cfg0.slots t 1).cast nbuf0_1)), owns_at c (st0_2 t) (hstage0_2 ((cfg0.slots t 2).cast nbuf0_2)), owns_at c (st0_3 t) (hstage0_3 ((cfg0.slots t 3).cast nbuf0_3)), owns_at c (st0_4 t) (hstage0_4 ((cfg0.slots t 4).cast nbuf0_4)), owns_at c (st0_5 t) (hstage0_5 ((cfg0.slots t 5).cast nbuf0_5))]
  simp only [before0_0, before0_1]
  unfold inv
  iintro ⟨⟨Hs, Hx, Ho⟩, HO, ⟨%d0, H0⟩, ⟨%d1, H1⟩, ⟨%d2, %f2, -, H2⟩, ⟨%d3, %f3, -, H3⟩, ⟨%d4, %f4, -, H4⟩, ⟨%d5, H5⟩⟩
  ihave HO := ow_out V c _ $$ HO
  rcases Nat.eq_zero_or_pos t.val with h0 | hp
  · have hb := body_first c (grid0.coords t) _ _ _ _ _ _ _ _ _ _ _ _ (hc.trans h0) _ (wIn V c) (dIn V c) _ _ hs
    rw [hc] at hb
    icases H5 with ⟨%f5, -, H5⟩
    iapply hb
    isplitl [HO Hs]
    · isplitl [HO] <;> iassumption
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨⟨HO, Hs⟩, H0, H1, H2, H3, H4, H5⟩
    isplitl [Hs Hx Ho]
    · isplitl [Hs]; · iexact Hs
      isplitl [Hx]; · iexact Hx
      iexact Ho
    isplitl [HO]; · iapply (ow_in V c _); iexact HO
    isplitl [H0]; · iexact H0
    isplitl [H1]; · iexact H1
    isplitl [H2]; · iexact H2
    isplitl [H3]; · iexact H3
    isplitl [H4]; · iexact H4
    rw [show (dat0 V c).after 5 t = k0_pay2 (qB (slab (xIn V c) t.val) (wIn V c) (dIn V c)) (kB (slab (xIn V c) t.val) (wIn V c) (dIn V c)) from by
      show auxAt _ _ _ t.val = _; rw [h0]; rfl]
    iexact H5
  · have hb := body_next c (grid0.coords t) _ _ _ _ _ _ _ _ _ _ _ _ (hp.trans_eq hc.symm) _ (wIn V c) (dIn V c) (auxAt (xIn V c) (wIn V c) (dIn V c) (t.val - 1)) _ _ hs
    rw [hc] at hb
    rw [before0_5 V c t hp.ne']
    iapply hb
    isplitl [HO Hs]
    · isplitl [HO] <;> iassumption
    isplitl [H0]; · iexact H0
    isplitl [H1]; · iexact H1
    isplitl [H2]; · iexists _; iexact H2
    isplitl [H3]; · iexists _; iexact H3
    isplitl [H4]; · iexists _; iexact H4
    isplitl [H5]; · iexact H5
    iintro ⟨⟨HO, Hs⟩, H0, H1, H2, H3, H4, H5⟩
    isplitl [Hs Hx Ho]
    · isplitl [Hs]; · iexact Hs
      isplitl [Hx]; · iexact Hx
      iexact Ho
    isplitl [HO]; · iapply (ow_in V c _); iexact HO
    isplitl [H0]; · iexact H0
    isplitl [H1]; · iexact H1
    isplitl [H2]; · iexact H2
    isplitl [H3]; · iexact H3
    isplitl [H4]; · iexact H4
    rw [show (dat0 V c).after 5 t = k0_pay3 (qB (slab (xIn V c) t.val) (wIn V c) (dIn V c)) (kB (slab (xIn V c) t.val) (wIn V c) (dIn V c)) (auxAt (xIn V c) (wIn V c) (dIn V c) (t.val - 1)) from by
      show auxAt _ _ _ t.val = _; obtain ⟨n, hn⟩ : ∃ n, t.val = n + 1 := ⟨t.val - 1, by omega⟩
      rw [hn]; rfl]
    iexact H5

end Data

end Cert.KernelIdeal.Pa

end
-- ==== Proof.I.RegD.lean ====
/-
  The second kernel region: its proof data and its body's obligation.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.FrameBody
public import Idealize.ShloMosaic.Lib.VecWindow
public import Idealize.ShloMosaic.Lib.Tactic
public import proofs.«01_k».proof.Proof.I.Pa
public import proofs.«01_k».proof.Proof.I.Bc
public import Idealize.ShloMosaic.Lib.ValueLayout
public import proofs.«01_k».proof.Proof.I.RegB

@[expose] public section

set_option maxRecDepth 16384

noncomputable section

namespace Cert.KernelIdeal.Pa

open Cert.KernelIdeal.Bc (Bf pt at' row0 row1 mOf run_first run_gram run_turn run_out)
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- The 3584 rows of an array from row `3584 n` on. -/
def rowsAt {e : EltTy} (A : S50176x384.Idx → Elt F e) (n : ℕ) : S3584x384.Idx → Elt F e := fun y =>
  A (ValueIdx.ix2 (⟨(n * 3584 + (y 0).val) % 50176, Nat.mod_lt _ (by decide)⟩ : Fin 50176) (y 1 : Fin 384))

section Data1

variable (V : Dev nD → Valuation τ sig (Elt F)) (c : Dev nD)

/-- What the region's operands hold. -/
abbrev qIn : S50176x384.Idx → Elt F .f32 := V c main_v15_0
abbrev kIn : S50176x384.Idx → Elt F .f32 := V c main_v15_1
abbrev sIn : S8x384.Idx → Elt F .f32 := V c main_v15_3
abbrev tIn : S1x384.Idx → Elt F .f32 := V c main_v12
abbrev pIn : S384x384.Idx → Elt F .bf16 := V c main_v14
abbrev vIn : S50176x384.Idx → Elt F .bf16 := V c main_v15_2

/-- The gram matrix after point `n`. -/
def gramAt (q k : S50176x384.Idx → Elt F .f32) (s : S8x384.Idx → Elt F .f32) : ℕ → S384x384.Idx → Elt F .f32
  | 0 => k1_pay3 (rowsAt q 0) (row0 (k1_pay1 s)) (rowsAt k 0) (row1 (k1_pay1 s))
  | n + 1 => k1_pay4 (rowsAt q (n + 1)) (row0 (k1_pay1 s)) (rowsAt k (n + 1)) (row1 (k1_pay1 s)) (gramAt q k s n)

/-- The folded matrix. -/
def fold (q k : S50176x384.Idx → Elt F .f32) (s : S8x384.Idx → Elt F .f32) (tr : S1x384.Idx → Elt F .f32) (p : S384x384.Idx → Elt F .bf16) : S384x384.Idx → Elt F .bf16 :=
  mOf (gramAt q k s 13) tr p

abbrev foldIn : S384x384.Idx → Elt F .bf16 := fold (qIn V c) (kIn V c) (sIn V c) (tIn V c) (pIn V c)

abbrev rrM : Memref sig .tc .vmem S8x384 .f32 := Memref.whole cc1_scratch0
abbrev gM : Memref sig .tc .vmem S384x384 .f32 := Memref.whole cc1_scratch1
abbrev mM : Memref sig .tc .vmem S384x384 .bf16 := Memref.whole cc1_scratch2

/-- The scratch a point finds: nothing stated before the first. -/
def scr {S : Shape} {e : EltTy} (M : Memref sig .tc .vmem S e) (b : Prop) [Decidable b] (X : S.Idx → Elt F e) : sProp 𝕄 :=
  if b then iprop(∃ f, pt (F := F) c M f) else at' c M X
theorem scr_any {S : Shape} {e : EltTy} (M : Memref sig .tc .vmem S e) {b : Prop} [Decidable b] (h : b) (X : S.Idx → Elt F e) : scr c M b X = iprop(∃ f, pt (F := F) c M f) := if_pos h
theorem scr_at {S : Shape} {e : EltTy} (M : Memref sig .tc .vmem S e) {b : Prop} [Decidable b] (h : ¬ b) (X : S.Idx → Elt F e) : scr c M b X = at' c M X := if_neg h
theorem scr_drop {S : Shape} {e : EltTy} (M : Memref sig .tc .vmem S e) (b : Prop) [Decidable b] (X : S.Idx → Elt F e) : scr c M b X ⊢ iprop(∃ f, pt (F := F) c M f) := by
  unfold scr
  split
  · exact .rfl
  · iintro ⟨%f, -, H⟩; iexists _; iexact H

/-- The other region's scoped buffers. -/
def oth1 : sProp 𝕄 := iprop(ex (F := F) c cc0_stg0_0 ∗ ex (F := F) c cc0_stg1_0 ∗ ex (F := F) c cc0_stg2_0 ∗ ex (F := F) c cc0_stg2_1 ∗ ex (F := F) c cc0_stg3_0 ∗ ex (F := F) c cc0_stg3_1 ∗ ex (F := F) c cc0_stg4_0
  ∗ ex (F := F) c cc0_stg4_1 ∗ ex (F := F) c cc0_stg5_0 ∗ ex (F := F) c cc0_scratch0)

/-- The invariant before point `t`. -/
def inv1 (t : ℕ) : sProp 𝕄 := iprop(scr c rrM (t = 0) (k1_pay1 (sIn V c)) ∗ scr c gM (t = 0) (gramAt (qIn V c) (kIn V c) (sIn V c) (min (t - 1) 13)) ∗ scr c mM (t ≤ 14) (foldIn V c) ∗ oth1 (F := F) c)

def dat1 : Dat τ (Elt F) Unit ℕ (Pipeline.UD sig nD τ) ℕ cfg1 c where
  A w := V c (Proc.devRef .tc (Pipeline.arrRef spec1 w))
  after w t := match w with
    | ⟨0, _⟩ => rowsAt (qIn V c) (min t.val 13)
    | ⟨1, _⟩ => rowsAt (kIn V c) (min t.val 13)
    | ⟨2, _⟩ => sIn V c
    | ⟨3, _⟩ => tIn V c
    | ⟨4, _⟩ => pIn V c
    | ⟨5, _⟩ => rowsAt (vIn V c) (t.val - 14)
    | ⟨6, _⟩ => k1_pay6 (rowsAt (vIn V c) (t.val - 14)) (foldIn V c)
  Φ t := inv1 V c t.val
  q _ := fullShare
  owed _ := 0

theorem coord1 (t : Fin cfg1.N) : ((grid1.coords t) 0).val = t.val := by revert t; decide +kernel
theorem ix1_0 (t : Fin cfg1.N) : (cfg1.win 0).index t = ![min t.val 13, 0] := by revert t; decide +kernel
theorem ix1_1 (t : Fin cfg1.N) : (cfg1.win 1).index t = ![min t.val 13, 0] := by revert t; decide +kernel
theorem ix1_5 (t : Fin cfg1.N) : (cfg1.win 5).index t = ![t.val - 14, 0] := by revert t; decide +kernel
theorem ix1_6 (t : Fin cfg1.N) : (cfg1.win 6).index t = ![t.val - 14, 0] := by revert t; decide +kernel
theorem flush1_6 (t : Fin cfg1.N) : t.val < 14 → (cfg1.win 6).flush t = false := by revert t; decide +kernel
theorem idle1_6 (t : Fin cfg1.N) : t.val < 14 → cfg1.idle 6 (grid1.coords t) = true := by revert t; decide +kernel
theorem live1_6 (t : Fin cfg1.N) : 14 ≤ t.val → cfg1.idle 6 (grid1.coords t) = false := by revert t; decide +kernel

theorem blk1_2 (t : Fin cfg1.N) (f : S8x384.Idx → Elt F .f32) : ((cfg1.win 2).blk t).view.read (Elt F) f = f := by
  funext y
  show f (((cfg1.win 2).blk t).view.emb y) = f y
  refine congrArg f ?_
  funext a
  refine Fin.ext ?_
  blk_simp
  fin_cases a <;> exact (Nat.zero_add _)

theorem blk1_3 (t : Fin cfg1.N) (f : S1x384.Idx → Elt F .f32) : ((cfg1.win 3).blk t).view.read (Elt F) f = f := by
  funext y
  show f (((cfg1.win 3).blk t).view.emb y) = f y
  refine congrArg f ?_
  funext a
  refine Fin.ext ?_
  blk_simp
  fin_cases a <;> exact (Nat.zero_add _)

theorem blk1_4 (t : Fin cfg1.N) (f : S384x384.Idx → Elt F .bf16) : ((cfg1.win 4).blk t).view.read (Elt F) f = f := by
  funext y
  show f (((cfg1.win 4).blk t).view.emb y) = f y
  refine congrArg f ?_
  funext a
  refine Fin.ext ?_
  blk_simp
  fin_cases a <;> exact (Nat.zero_add _)

theorem blk1_0 (t : Fin cfg1.N) (f : S50176x384.Idx → Elt F .f32) : ((cfg1.win 0).blk t).view.read (Elt F) f = rowsAt f (min t.val 13) := by
  funext y
  show f (((cfg1.win 0).blk t).view.emb y) = rowsAt f (min t.val 13) y
  unfold rowsAt
  refine congrArg f ?_
  have ht : t.val < 28 := t.isLt
  have hy : (y 0).val < 3584 := (y 0).isLt
  funext a
  refine Fin.ext ?_
  blk_simp
  rw [ix1_0 t]
  fin_cases a
  · show (min t.val 13) * 3584 + (y 0).val = ((min t.val 13) * 3584 + (y 0).val) % 50176
    rw [Nat.mod_eq_of_lt (by omega)]
  · exact (Nat.zero_add _)

theorem blk1_1 (t : Fin cfg1.N) (f : S50176x384.Idx → Elt F .f32) : ((cfg1.win 1).blk t).view.read (Elt F) f = rowsAt f (min t.val 13) := by
  funext y
  show f (((cfg1.win 1).blk t).view.emb y) = rowsAt f (min t.val 13) y
  unfold rowsAt
  refine congrArg f ?_
  have ht : t.val < 28 := t.isLt
  have hy : (y 0).val < 3584 := (y 0).isLt
  funext a
  refine Fin.ext ?_
  blk_simp
  rw [ix1_1 t]
  fin_cases a
  · show (min t.val 13) * 3584 + (y 0).val = ((min t.val 13) * 3584 + (y 0).val) % 50176
    rw [Nat.mod_eq_of_lt (by omega)]
  · exact (Nat.zero_add _)

theorem blk1_5 (t : Fin cfg1.N) (f : S50176x384.Idx → Elt F .bf16) : ((cfg1.win 5).blk t).view.read (Elt F) f = rowsAt f (t.val - 14) := by
  funext y
  show f (((cfg1.win 5).blk t).view.emb y) = rowsAt f (t.val - 14) y
  unfold rowsAt
  refine congrArg f ?_
  have ht : t.val < 28 := t.isLt
  have hy : (y 0).val < 3584 := (y 0).isLt
  funext a
  refine Fin.ext ?_
  blk_simp
  rw [ix1_5 t]
  fin_cases a
  · show (t.val - 14) * 3584 + (y 0).val = ((t.val - 14) * 3584 + (y 0).val) % 50176
    rw [Nat.mod_eq_of_lt (by omega)]
  · exact (Nat.zero_add _)

theorem before1_0 (t : Fin cfg1.N) (d) : (dat1 V c).before 0 t d = rowsAt (qIn V c) (min t.val 13) :=
  ((dat1 V c).before_in_eq_fetched 0 rfl (fun _ => rfl) (fun _ _ _ => rfl) (fun t => (blk1_0 t (qIn V c)).symm) t d).trans (show (dat1 V c).fetched 0 t d = _ from blk1_0 t (qIn V c))
theorem before1_1 (t : Fin cfg1.N) (d) : (dat1 V c).before 1 t d = rowsAt (kIn V c) (min t.val 13) :=
  ((dat1 V c).before_in_eq_fetched 1 rfl (fun _ => rfl) (fun _ _ _ => rfl) (fun t => (blk1_1 t (kIn V c)).symm) t d).trans (show (dat1 V c).fetched 1 t d = _ from blk1_1 t (kIn V c))
theorem before1_2 (t : Fin cfg1.N) (d) : (dat1 V c).before 2 t d = sIn V c :=
  ((dat1 V c).before_in_eq_fetched 2 rfl (fun _ => rfl) (fun _ _ _ => rfl) (fun t => (blk1_2 t (sIn V c)).symm) t d).trans (show (dat1 V c).fetched 2 t d = _ from blk1_2 t (sIn V c))
theorem before1_3 (t : Fin cfg1.N) (d) : (dat1 V c).before 3 t d = tIn V c :=
  ((dat1 V c).before_in_eq_fetched 3 rfl (fun _ => rfl) (fun _ _ _ => rfl) (fun t => (blk1_3 t (tIn V c)).symm) t d).trans (show (dat1 V c).fetched 3 t d = _ from blk1_3 t (tIn V c))
theorem before1_4 (t : Fin cfg1.N) (d) : (dat1 V c).before 4 t d = pIn V c :=
  ((dat1 V c).before_in_eq_fetched 4 rfl (fun _ => rfl) (fun _ _ _ => rfl) (fun t => (blk1_4 t (pIn V c)).symm) t d).trans (show (dat1 V c).fetched 4 t d = _ from blk1_4 t (pIn V c))
theorem before1_5 (t : Fin cfg1.N) (d) : (dat1 V c).before 5 t d = rowsAt (vIn V c) (t.val - 14) :=
  ((dat1 V c).before_in_eq_fetched 5 rfl (fun _ => rfl) (fun _ _ _ => rfl) (fun t => (blk1_5 t (vIn V c)).symm) t d).trans (show (dat1 V c).fetched 5 t d = _ from blk1_5 t (vIn V c))

theorem ow_in1 (t : Fin (cfg1.N + 1)) : ow (F := F) c ⊢ (dat1 V c).owesAt () t := by
  unfold Pipeline.Dat.owesAt Pipeline.owesWithin
  iintro ⟨%W, HO⟩; iexists W; isplitr
  · ipureintro; exact fun _ _ => Or.inl trivial
  iexact HO
theorem ow_out1 (t : Fin (cfg1.N + 1)) : (dat1 V c).owesAt () t ⊢ ow (F := F) c := by
  unfold Pipeline.Dat.owesAt Pipeline.owesWithin
  iintro ⟨%W, -, HO⟩; iexists W; iexact HO

set_option backward.isDefEq.respectTransparency.types false in
theorem body1 : BodyObligation (dat1 V c) (defs₀ (F := F)) 𝒱₀ () Set.univ := fun t => by
  rw [bigSep_W1, bigSep_W1]
  have hc := coord1 t
  rw [show (dat1 V c).Φ t.castSucc = inv1 V c t.val from rfl, show (dat1 V c).Φ t.succ = inv1 V c (t.val + 1) from rfl]
  dsimp only
  show _ ⊢ wp frame (wpE (defs₀ (F := F)) 𝒱₀ c none) Set.univ (bodyAt1 (F := F) t) _
  rcases Nat.lt_or_ge t.val 14 with hlt | hge
  · have h6 : (!(k1_cond6 (grid1.coords t) == 1#1)) = true := idle1_6 t hlt
    have h6' : win1_6.flush t = false := flush1_6 t hlt
    simp only [h6, h6']
    simp only [owns_at c (st1_0 t) (hstage1_0 ((cfg1.slots t 0).cast nbuf1_0)), owns_at c (st1_1 t) (hstage1_1 ((cfg1.slots t 1).cast nbuf1_1)), owns_at c (st1_2 t) (hstage1_2 ((cfg1.slots t 2).cast nbuf1_2)), owns_at c (st1_3 t) (hstage1_3 ((cfg1.slots t 3).cast nbuf1_3)), owns_at c (st1_4 t) (hstage1_4 ((cfg1.slots t 4).cast nbuf1_4)), owns_at c (st1_5 t) (hstage1_5 ((cfg1.slots t 5).cast nbuf1_5)), owns_at c (st1_6 t) (hstage1_6 ((cfg1.slots t 6).cast nbuf1_6))]
    simp only [before1_0, before1_1, before1_2, before1_3, before1_4, before1_5]
    unfold inv1
    rw [scr_at c rrM (b := t.val + 1 = 0) (by omega), scr_at c gM (b := t.val + 1 = 0) (by omega), scr_any c mM (b := t.val ≤ 14) (by omega), scr_any c mM (b := t.val + 1 ≤ 14) (by omega)]
    rcases Nat.eq_zero_or_pos t.val with h0 | hp
    · rw [scr_any c rrM (b := t.val = 0) h0, scr_any c gM (b := t.val = 0) h0]
      iintro ⟨⟨H8, H9, H10, Ho⟩, HO, ⟨%d0, H0⟩, ⟨%d1, H1⟩, ⟨%d2, H2⟩, ⟨%d3, H3⟩, ⟨%d4, H4⟩, ⟨%d5, H5⟩, H6⟩
      have hb := run_first c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) rrM (Memref.isWhole_whole _) gM (Memref.isWhole_whole _) mM (Memref.isWhole_whole _) (hc.trans h0) (rowsAt (qIn V c) (min t.val 13)) (rowsAt (kIn V c) (min t.val 13)) (sIn V c) Set.univ
      iapply hb
      isplitl [H0]; · iexact H0
      isplitl [H1]; · iexact H1
      isplitl [H2]; · iexact H2
      isplitl [H8]; · iexact H8
      isplitl [H9]; · iexact H9
      iintro ⟨H0, H1, H2, H8, H9⟩
      isplitl [H8 H9 H10 Ho]
      · isplitl [H8]; · iexact H8
        isplitl [H9]
        · rw [show gramAt (qIn V c) (kIn V c) (sIn V c) (min (t.val + 1 - 1) 13) = k1_pay3 (rowsAt (qIn V c) (min t.val 13)) (row0 (k1_pay1 (sIn V c))) (rowsAt (kIn V c) (min t.val 13)) (row1 (k1_pay1 (sIn V c))) from by rw [h0]; rfl]
          iexact H9
        isplitl [H10]; · iexact H10
        iexact Ho
      isplitl [HO]; · iapply (ow_in1 V c _); iapply (ow_out1 V c _); iexact HO
      isplitl [H0]; · iexact H0
      isplitl [H1]; · iexact H1
      isplitl [H2]; · iexact H2
      isplitl [H3]; · iexact H3
      isplitl [H4]; · iexact H4
      isplitl [H5]; · iexact H5
      iexact H6
    · rw [scr_at c rrM (b := t.val = 0) hp.ne', scr_at c gM (b := t.val = 0) hp.ne']
      iintro ⟨⟨H8, H9, H10, Ho⟩, HO, ⟨%d0, H0⟩, ⟨%d1, H1⟩, ⟨%d2, H2⟩, ⟨%d3, H3⟩, ⟨%d4, H4⟩, ⟨%d5, H5⟩, H6⟩
      have hb := run_gram c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) rrM (Memref.isWhole_whole _) gM (Memref.isWhole_whole _) mM (Memref.isWhole_whole _) ⟨hp.trans_eq hc.symm, hc.trans_lt hlt⟩ (rowsAt (qIn V c) (min t.val 13)) (rowsAt (kIn V c) (min t.val 13)) (k1_pay1 (sIn V c)) (gramAt (qIn V c) (kIn V c) (sIn V c) (min (t.val - 1) 13)) Set.univ
      iapply hb
      isplitl [H0]; · iexact H0
      isplitl [H1]; · iexact H1
      isplitl [H8]; · iexact H8
      isplitl [H9]; · iexact H9
      iintro ⟨H0, H1, H8, H9⟩
      isplitl [H8 H9 H10 Ho]
      · isplitl [H8]; · iexact H8
        isplitl [H9]
        · rw [show gramAt (qIn V c) (kIn V c) (sIn V c) (min (t.val + 1 - 1) 13) = k1_pay4 (rowsAt (qIn V c) (min t.val 13)) (row0 (k1_pay1 (sIn V c))) (rowsAt (kIn V c) (min t.val 13)) (row1 (k1_pay1 (sIn V c))) (gramAt (qIn V c) (kIn V c) (sIn V c) (min (t.val - 1) 13)) from by
            obtain ⟨n, hn⟩ : ∃ n, t.val = n + 1 := ⟨t.val - 1, by omega⟩
            rw [hn, Nat.min_eq_left (show n + 1 + 1 - 1 ≤ 13 by omega), Nat.min_eq_left (show n + 1 ≤ 13 by omega), Nat.min_eq_left (show n + 1 - 1 ≤ 13 by omega)]; rfl]
          iexact H9
        isplitl [H10]; · iexact H10
        iexact Ho
      isplitl [HO]; · iapply (ow_in1 V c _); iapply (ow_out1 V c _); iexact HO
      isplitl [H0]; · iexact H0
      isplitl [H1]; · iexact H1
      isplitl [H2]; · iexact H2
      isplitl [H3]; · iexact H3
      isplitl [H4]; · iexact H4
      isplitl [H5]; · iexact H5
      iexact H6
  · have h6 : (!(k1_cond6 (grid1.coords t) == 1#1)) = false := live1_6 t hge
    simp only [h6]
    simp only [owns_at c (st1_0 t) (hstage1_0 ((cfg1.slots t 0).cast nbuf1_0)), owns_at c (st1_1 t) (hstage1_1 ((cfg1.slots t 1).cast nbuf1_1)), owns_at c (st1_2 t) (hstage1_2 ((cfg1.slots t 2).cast nbuf1_2)), owns_at c (st1_3 t) (hstage1_3 ((cfg1.slots t 3).cast nbuf1_3)), owns_at c (st1_4 t) (hstage1_4 ((cfg1.slots t 4).cast nbuf1_4)), owns_at c (st1_5 t) (hstage1_5 ((cfg1.slots t 5).cast nbuf1_5)), owns_at c (st1_6 t) (hstage1_6 ((cfg1.slots t 6).cast nbuf1_6))]
    simp only [before1_0, before1_1, before1_2, before1_3, before1_4, before1_5]
    unfold inv1
    rw [scr_at c rrM (b := t.val + 1 = 0) (by omega), scr_at c gM (b := t.val + 1 = 0) (by omega), scr_at c mM (b := t.val + 1 ≤ 14) (by omega),
      scr_at c rrM (b := t.val = 0) (by omega), scr_at c gM (b := t.val = 0) (by omega),
      show min (t.val - 1) 13 = 13 by omega, show min (t.val + 1 - 1) 13 = 13 by omega]
    rcases Nat.eq_or_lt_of_le hge with h14 | hp
    · rw [scr_any c mM (b := t.val ≤ 14) (by omega)]
      iintro ⟨⟨H8, H9, H10, Ho⟩, HO, ⟨%d0, H0⟩, ⟨%d1, H1⟩, ⟨%d2, H2⟩, ⟨%d3, H3⟩, ⟨%d4, H4⟩, ⟨%d5, H5⟩, ⟨%d6, %f6, -, H6⟩⟩
      have hb := run_turn c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) rrM (Memref.isWhole_whole _) gM (Memref.isWhole_whole _) mM (Memref.isWhole_whole _) (hc.trans h14.symm) (tIn V c) (pIn V c) (rowsAt (vIn V c) (t.val - 14)) (gramAt (qIn V c) (kIn V c) (sIn V c) 13) Set.univ
      iapply hb
      isplitl [H3]; · iexact H3
      isplitl [H4]; · iexact H4
      isplitl [H5]; · iexact H5
      isplitl [H9]; · iexact H9
      isplitl [H10]; · iexact H10
      isplitl [H6]; · iexists _; iexact H6
      iintro ⟨H3, H4, H5, H9, H10, H6⟩
      isplitl [H8 H9 H10 Ho]
      · isplitl [H8]; · iexact H8
        isplitl [H9]; · iexact H9
        isplitl [H10]; · iexact H10
        iexact Ho
      isplitl [HO]; · iapply (ow_in1 V c _); iapply (ow_out1 V c _); iexact HO
      isplitl [H0]; · iexact H0
      isplitl [H1]; · iexact H1
      isplitl [H2]; · iexact H2
      isplitl [H3]; · iexact H3
      isplitl [H4]; · iexact H4
      isplitl [H5]; · iexact H5
      iexact H6
    · rw [scr_at c mM (b := t.val ≤ 14) (by omega)]
      iintro ⟨⟨H8, H9, H10, Ho⟩, HO, ⟨%d0, H0⟩, ⟨%d1, H1⟩, ⟨%d2, H2⟩, ⟨%d3, H3⟩, ⟨%d4, H4⟩, ⟨%d5, H5⟩, ⟨%d6, %f6, -, H6⟩⟩
      have hb := run_out c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) rrM (Memref.isWhole_whole _) gM (Memref.isWhole_whole _) mM (Memref.isWhole_whole _) (hp.trans_eq hc.symm) (rowsAt (vIn V c) (t.val - 14)) (foldIn V c) Set.univ
      iapply hb
      isplitl [H5]; · iexact H5
      isplitl [H10]; · iexact H10
      isplitl [H6]; · iexists _; iexact H6
      iintro ⟨H5, H10, H6⟩
      isplitl [H8 H9 H10 Ho]
      · isplitl [H8]; · iexact H8
        isplitl [H9]; · iexact H9
        isplitl [H10]; · iexact H10
        iexact Ho
      isplitl [HO]; · iapply (ow_in1 V c _); iapply (ow_out1 V c _); iexact HO
      isplitl [H0]; · iexact H0
      isplitl [H1]; · iexact H1
      isplitl [H2]; · iexact H2
      isplitl [H3]; · iexact H3
      isplitl [H4]; · iexact H4
      isplitl [H5]; · iexact H5
      iexact H6

end Data1

end Cert.KernelIdeal.Pa

end
-- ==== Proof.I.RegE.lean ====
/-
  The whole program: its two regions as segments between the host's stretches, and its run.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.FrameBody
public import Idealize.ShloMosaic.Lib.VecWindow
public import Idealize.ShloMosaic.Lib.Tactic
public import proofs.«01_k».proof.Proof.I.Pa
public import proofs.«01_k».proof.Proof.I.Bc
public import Idealize.ShloMosaic.Lib.ValueLayout
public import proofs.«01_k».proof.Proof.I.RegB
public import proofs.«01_k».proof.Proof.I.RegD
public import Idealize.ShloMosaic.Lib.Pipeline.RegionArraysS
public import Idealize.ShloMosaic.Lib.Pipeline.ValueKit

@[expose] public section

set_option maxRecDepth 16384

noncomputable section

namespace Cert.KernelIdeal.Pa

open Cert.KernelIdeal.Bc (Bf pt at')
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.Pipeline (Seg HostSeg RegionSeg arrRefs ucRefs afterRegion)

section Segments

variable (m : (ℓ : Loc nD τ sig) → Buf (Elt F) ℓ)

/-- The unscoped buffers before the first region, between the regions, after them and at the end. -/
abbrev W1 (c : Dev nD) : Valuation τ sig (Elt F) := V1 m c
def W2 (c : Dev nD) : Valuation τ sig (Elt F) := afterRegion (dat0 (W1 m) c) (W1 m c)
def W3 (c : Dev nD) : Valuation τ sig (Elt F) := afterRegion (dat1 (W2 m) c) (W2 m c)
abbrev W4 (c : Dev nD) : Valuation τ sig (Elt F) := StableHlo.after hostOps2 (W3 m c)

/-- Both regions' data. -/
def pdats : (p : Fin 2) → (c : Dev nD) → Dat τ (Elt F) Unit ℕ (Pipeline.UD sig nD τ) ℕ (cfgs p) c
  | ⟨0, _⟩ => fun c => dat0 (W1 m) c
  | ⟨1, _⟩ => fun c => dat1 (W2 m) c

abbrev lev : GSem nD τ sig → Finset Unit := fun _ => ∅
abbrev lvl : GSem nD τ sig → Unit → ℕ := fun _ _ => 0

/-- The copies' own semaphores. -/
def own0 (s : Fin 2) : SemLoc sig := SemLoc.dma (csm s).sem
theorem own0_facts : Pipeline.OwnSemFacts spec0 own0 := by decide

theorem own0_eq (c : Dev nD) : (Pipeline.ownSems0 (Ix := Unit) (Name := ℕ) (U := Pipeline.UD sig nD τ) (Lvl := ℕ) (Val := Elt F) (τ := τ) own0 c : sProp 𝕄)
    = iprop(cellP (F := F) c 0 ∗ cellP (F := F) c 1) :=
  Pipeline.ownSems0_eq_of_list c own0 [0, 1] (by decide) (by decide)

/-- The buffer of the image, which no window of the first region names. -/
abbrev xRef : DevRef τ sig := Proc.devRef .tc main_v1
theorem arr0_sub : arrRefs (τ := τ) spec0 ⊆ ucRefs τ sig := Pipeline.arrRefs_sub_ucRefs spec0 launch0.win.arr_unscoped
theorem arr1_sub : arrRefs (τ := τ) spec1 ⊆ ucRefs τ sig := Pipeline.arrRefs_sub_ucRefs spec1 launch1.win.arr_unscoped
theorem x_sub : ({xRef} : Finset (DevRef τ sig)) ⊆ ucRefs τ sig \ arrRefs spec0 := by
  intro b hb
  rw [Finset.mem_singleton] at hb
  subst hb
  refine Finset.mem_sdiff.mpr ⟨Finset.mem_filter.mpr ⟨StableHlo.devRef_mem_tcRefs main_v1, by decide⟩, fun h => ?_⟩
  obtain ⟨r, hr, e⟩ := Finset.mem_map.mp h
  obtain ⟨w, -, rfl⟩ := Finset.mem_image.mp hr
  revert e
  revert w
  decide

/-- The buffers that ride along with the first region. -/
abbrev side0 (c : Dev nD) (V : Valuation τ sig (Elt F)) : sProp 𝕄 := StableHlo.held (c : Thread nD τ) ((ucRefs τ sig \ arrRefs spec0) \ {xRef}) V

theorem held0 (c : Dev nD) (V : Valuation τ sig (Elt F)) : (StableHlo.held (c : Thread nD τ) (ucRefs τ sig) V : sProp 𝕄)
    = iprop(StableHlo.held (c : Thread nD τ) (arrRefs spec0) V ∗ ((xM.view.loc (c : Thread nD τ) ↦{fullShare} V xRef) ∗ side0 c V)) := by
  rw [StableHlo.held_sub_split (c : Thread nD τ) arr0_sub V, StableHlo.held_sub_split (c : Thread nD τ) x_sub V]
  unfold StableHlo.held
  rw [BI.bigSep_singleton]
  rfl

theorem off0 (c : Dev nD) : ∀ b ∈ ucRefs τ sig \ arrRefs spec0, W2 m c b = W1 m c b := Pipeline.afterRegion_off (dat0 (W1 m) c) (W1 m c) (ucRefs τ sig)

theorem ow_to (c : Dev nD) : ow (F := F) c ⊢ (dat0 (W1 m) c).owesAt () 0 := ow_in (W1 m) c 0

/-- The whole image's buffer is its two read shares and what is left of it. -/
theorem toks (c : Dev nD) (X : Buf (Elt F) (xM.view.loc (c : Thread nD τ))) : (iprop(xM.view.loc (c : Thread nD τ) ↦{fullShare} X) : sProp 𝕄)
    ⊢ iprop((xM.view.loc (c : Thread nD τ) ↦{Transfers.shareDrop fullShare 2} X) ∗ (tokP c X 0 ∗ tokP c X 1)) := by
  refine (Transfers.pointsTo_toks_split fullShare 2).trans ?_
  rw [BI.bigSep_fin_two]
  exact .rfl
theorem toks_back (c : Dev nD) (X : Buf (Elt F) (xM.view.loc (c : Thread nD τ))) : iprop((xM.view.loc (c : Thread nD τ) ↦{Transfers.shareDrop fullShare 2} X) ∗ (tokP c X 0 ∗ tokP c X 1))
    ⊢ (iprop(xM.view.loc (c : Thread nD τ) ↦{fullShare} X) : sProp 𝕄) := by
  refine BIBase.Entails.trans ?_ (Transfers.pointsTo_toks_join fullShare 2)
  rw [BI.bigSep_fin_two]
  exact .rfl

set_option backward.isDefEq.respectTransparency.types false in
/-- The first region between two states of the unscoped buffers. -/
def reg0 : RegionSeg (pcfgs (F := F)) adm (pdats m) () defs₀ 𝒱₀ lev lvl 0 where
  win := launch0.win.to₀
  block_pos := launch0.block_pos
  stage_whole := launch0.stage_whole
  K := Fin 2
  osem := own0
  ho := own0_facts
  hbody c := (body0 (W1 m) c).loose
  hwaits := Pipeline.hwaits_of_owed_zero _ _ _ _ lev lvl 0 fun _ _ => rfl
  pre c := iprop(StableHlo.held (c : Thread nD τ) (ucRefs τ sig) (W1 m c) ∗ ow (F := F) c)
  post c := iprop(StableHlo.held (c : Thread nD τ) (ucRefs τ sig) (W2 m c) ∗ ow (F := F) c)
  X c := iprop((xM.view.loc (c : Thread nD τ) ↦{fullShare} W1 m c xRef) ∗ (cellP (F := F) c 0 ∗ cellP (F := F) c 1))
  Y c := iprop(xM.view.loc (c : Thread nD τ) ↦{fullShare} W1 m c xRef)
  Z c := side0 c (W1 m c)
  hentry c := by
    have ha := Pipeline.arrays_held (pcfgs (F := F)) adm (pdats m) 0 launch0.toP c ((pdats m 0 c).share_full fun _ => rfl) ((pdats m 0 c).arrAt · 0) (W1 m c) fun _ => rfl
    rw [own0_eq, held0]
    iintro ⟨⟨⟨Ha, Hx, Hr⟩, HO⟩, Hc, -⟩
    imodintro
    isplitl [Ha]; · iapply (Entails.of_eq ha.symm); iexact Ha
    isplitr; · unfold Pipeline.prefHeld; rw [show (Finset.univ : Finset (Fin 0)) = ∅ from rfl, BI.bigSep_empty]; iempintro
    isplitl [HO]; · iapply (ow_in (W1 m) c 0); iexact HO
    isplitl [Hx Hc]
    · isplitl [Hx]; · iexact Hx
      iexact Hc
    iexact Hr
  hin c := by
    rw [show (pdats m 0 c).Φ 0 = inv (W1 m) c 0 from rfl]
    unfold inv oth
    rw [slots_ends c _ (Or.inl rfl)]
    unfold free
    iintro ⟨⟨Hx, Hc0, Hc1⟩, -, Hs⟩
    ihave Hs' := (Entails.of_eq (scopedRest0_eq c)) $$ Hs
    icases Hs' with ⟨⟨%f, Hf⟩, Ho⟩
    ihave Ht := (toks c _) $$ Hx
    icases Ht with ⟨Hd, Ht0, Ht1⟩
    ihave Hp := (slots_split c f) $$ Hf
    icases Hp with ⟨Hp0, Hp1⟩
    isplitl [Hp0 Hp1 Ht0 Ht1 Hc0 Hc1]
    · isplitl [Hp0 Ht0 Hc0]
      · isplitl [Hp0]; · iexists _; iexact Hp0
        isplitl [Ht0]; · iexact Ht0
        iexact Hc0
      · isplitl [Hp1]; · iexists _; iexact Hp1
        isplitl [Ht1]; · iexact Ht1
        iexact Hc1
    isplitl [Hd]; · iexact Hd
    iexact Ho
  hout c := by
    rw [show (pdats m 0 c).Φ (Fin.last _) = inv (W1 m) c 28 from rfl, own0_eq]
    unfold inv oth
    rw [slots_ends c _ (Or.inr (by decide))]
    unfold free
    iintro ⟨⟨⟨⟨%f, Hp0⟩, Ht0, Hc0⟩, ⟨%g, Hp1⟩, Ht1, Hc1⟩, Hd, Ho⟩
    isplitl [Ht0 Ht1 Hd]
    · iapply (toks_back c _)
      isplitl [Hd]; · iexact Hd
      isplitl [Ht0]; · iexact Ht0
      iexact Ht1
    isplitl [Hc0 Hc1]
    · isplitl [Hc0]; · iexact Hc0
      iexact Hc1
    iapply (Entails.of_eq (scopedRest0_eq c).symm)
    isplitl [Hp0 Hp1]
    · iapply (slots_join c f g)
      isplitl [Hp0]; · iexact Hp0
      iexact Hp1
    iexact Ho
  hexit c := by
    have ha := Pipeline.arrays_held (pcfgs (F := F)) adm (pdats m) 0 launch0.toP c ((pdats m 0 c).share_full fun _ => rfl) ((pdats m 0 c).arrAt · cfg0.N) (W2 m c)
      fun w => (Pipeline.afterRegion_arr (dat0 (W1 m) c) (W1 m c) launch0.win.arr_inj w).symm
    have hx : W2 m c xRef = W1 m c xRef := off0 m c xRef (x_sub (Finset.mem_singleton_self _))
    have hr : (side0 c (W2 m c) : sProp 𝕄) = side0 c (W1 m c) := StableHlo.held_congr (c : Thread nD τ) fun b hb => off0 m c b (Finset.mem_sdiff.mp hb).1
    rw [held0, hx, hr]
    iintro ⟨Ha, HO, Hx, Hr⟩
    imodintro
    isplitl [Ha Hx Hr]
    · isplitl [Ha]; · iapply (Entails.of_eq ha); iexact Ha
      isplitl [Hx]; · iexact Hx
      iexact Hr
    iapply (ow_out (W1 m) c (Fin.last cfg0.N)); iexact HO

theorem off1 (c : Dev nD) : ∀ b ∈ ucRefs τ sig \ arrRefs spec1, W3 m c b = W2 m c b := Pipeline.afterRegion_off (dat1 (W2 m) c) (W2 m c) (ucRefs τ sig)

set_option backward.isDefEq.respectTransparency.types false in
/-- The second region between two states of the unscoped buffers. -/
def reg1 : RegionSeg (pcfgs (F := F)) adm (pdats m) () defs₀ 𝒱₀ lev lvl 1 where
  win := launch1.win.to₀
  block_pos := launch1.block_pos
  stage_whole := launch1.stage_whole
  K := PEmpty
  osem k := k.elim
  ho := Pipeline.OwnSemFacts.none _
  hbody c := (body1 (W2 m) c).loose
  hwaits := Pipeline.hwaits_of_owed_zero _ _ _ _ lev lvl 1 fun _ _ => rfl
  pre c := iprop(StableHlo.held (c : Thread nD τ) (ucRefs τ sig) (W2 m c) ∗ ow (F := F) c)
  post c := iprop(StableHlo.held (c : Thread nD τ) (ucRefs τ sig) (W3 m c) ∗ ow (F := F) c)
  X c := BI.emp
  Y c := BI.emp
  Z c := StableHlo.held (c : Thread nD τ) (ucRefs τ sig \ arrRefs spec1) (W2 m c)
  hentry c := by
    have ha := Pipeline.arrays_held (pcfgs (F := F)) adm (pdats m) 1 launch1.toP c ((pdats m 1 c).share_full fun _ => rfl) ((pdats m 1 c).arrAt · 0) (W2 m c) fun _ => rfl
    rw [Pipeline.ownSems0_none, StableHlo.held_sub_split (c : Thread nD τ) arr1_sub]
    iintro ⟨⟨⟨Ha, Hr⟩, HO⟩, -, -⟩
    imodintro
    isplitl [Ha]; · iapply (Entails.of_eq ha.symm); iexact Ha
    isplitr; · unfold Pipeline.prefHeld; rw [show (Finset.univ : Finset (Fin 0)) = ∅ from rfl, BI.bigSep_empty]; iempintro
    isplitl [HO]; · iapply (ow_in1 (W2 m) c 0); iexact HO
    isplitr; · iempintro
    iexact Hr
  hin c := by
    rw [show (pdats m 1 c).Φ 0 = inv1 (W2 m) c 0 from rfl]
    unfold inv1 oth1
    rw [scr_any c rrM rfl, scr_any c gM rfl, scr_any c mM (Nat.zero_le _)]
    iintro ⟨-, -, Hs⟩
    ihave Hs' := (Entails.of_eq (scopedRest1_eq c)) $$ Hs
    icases Hs' with ⟨H1, H2, H3, H4, H5, H6, H7, H8, H9, H10, H11, H12, H13⟩
    isplitl [H11]; · iexact H11
    isplitl [H12]; · iexact H12
    isplitl [H13]; · iexact H13
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  hout c := by
    rw [Pipeline.ownSems0_none, show (pdats m 1 c).Φ (Fin.last _) = inv1 (W2 m) c 28 from rfl]
    unfold inv1 oth1
    iintro ⟨H11, H12, H13, H1, H2, H3, H4, H5, H6, H7, H8, H9, H10⟩
    isplitr; · iempintro
    isplitr; · iempintro
    iapply (Entails.of_eq (scopedRest1_eq c).symm)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (scr_drop c rrM _ _); iexact H11
    isplitl [H12]; · iapply (scr_drop c gM _ _); iexact H12
    iapply (scr_drop c mM _ _); iexact H13
  hexit c := by
    have ha := Pipeline.arrays_held (pcfgs (F := F)) adm (pdats m) 1 launch1.toP c ((pdats m 1 c).share_full fun _ => rfl) ((pdats m 1 c).arrAt · cfg1.N) (W3 m c)
      fun w => (Pipeline.afterRegion_arr (dat1 (W2 m) c) (W2 m c) launch1.win.arr_inj w).symm
    have hr : (StableHlo.held (c : Thread nD τ) (ucRefs τ sig \ arrRefs spec1) (W3 m c) : sProp 𝕄) = StableHlo.held (c : Thread nD τ) (ucRefs τ sig \ arrRefs spec1) (W2 m c) :=
      StableHlo.held_congr (c : Thread nD τ) (off1 m c)
    rw [StableHlo.held_sub_split (c : Thread nD τ) arr1_sub, hr]
    iintro ⟨Ha, HO, -, Hr⟩
    imodintro
    isplitl [Ha Hr]
    · isplitl [Ha]; · iapply (Entails.of_eq ha); iexact Ha
      iexact Hr
    iapply (ow_out1 (W2 m) c (Fin.last cfg1.N)); iexact HO

/-- The program's stretches in order. -/
def host0 : HostSeg (Ix := Unit) (Name := ℕ) (U := Pipeline.UD sig nD τ) (Lvl := ℕ) (pcfgs (F := F)) defs₀ 𝒱₀ lev lvl := seg0 m 𝒱₀ lev lvl fun _ c => ow c
def host2 : HostSeg (Ix := Unit) (Name := ℕ) (U := Pipeline.UD sig nD τ) (Lvl := ℕ) (pcfgs (F := F)) defs₀ 𝒱₀ lev lvl :=
  HostSeg.ofOps _ _ _ _ _ (ucRefs τ sig) hostOps2
    (fun op h => Pipeline.sub_ucRefs op ((List.forall_iff_forall_mem.mp hostOps2_sub) op h))
    (fun op h => (List.forall_iff_forall_mem.mp hostOps2_fresh) op h) (W3 m) (fun c => ow c)
abbrev parts (c : Dev nD) : List (Seg (pcfgs (F := F)) adm (pdats m) () defs₀ 𝒱₀ lev lvl) :=
  [.host (host0 m), .region (reg0 m), .region (reg1 m), .host (host2 m)]

/-- What the launch sets the pipelines' counters to. -/
def start : Pipeline.UD sig nD τ := (initOf (Pipeline.cells cfgs cellOf_inj) (Pipeline.launchToks cfgs cellOf_inj), 1)

set_option backward.isDefEq.respectTransparency.types false in
/-- Every fair run ends with every unscoped buffer at its last contents and every semaphore at zero. -/
theorem run_all (ρ : Dev nD → PrngReg) : θ_run defs (onTc (τ := τ) (main (F := F))) ⟨m, fun _ => 0, ρ⟩
    (fun r => (∀ c : Dev nD, ∀ b ∈ ucRefs τ sig, r.2.mem (c, b) = W4 m c b) ∧ r.2.sem = fun _ => 0) := by
  refine Pipeline.θ_run_regions_kit_dev_sems (pcfgs (F := F)) adm (pdats m) () cellOf_inj embL defs₀ 𝒱₀ lev lvl m ρ main (parts m)
    (fun c Q => by
      rewrite [main_chain c, Seg.run_eq_chain,
        show (parts m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [parts, Seg.pipes_host, Seg.pipes_region, Seg.pipes_nil]; decide) 0 (fun _ _ => rfl) (fun _ => iprop(emp)) start ?_
    (T₀ := fun c => iprop(StableHlo.held (c : Thread nD τ) (ucRefs τ sig) (V0 m c) ∗ ow (F := F) c))
    (Tₙ := fun c => StableHlo.held (c : Thread nD τ) (ucRefs τ sig) (W4 m c))
    (hch := fun c => ⟨.rfl, .rfl, .rfl, .rfl, .rfl⟩)
    (hinit := ?_) (QY := fun c s => ∀ b ∈ ucRefs τ sig, s.mem (c, b) = W4 m c b)
    (hfin := fun c s' => ?_) (hQ := fun _ h hz => ⟨h, funext fun g => hz g (.inr (regions_no_unscoped g.2))⟩)
  · unfold start
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach lev lvl fun c => ?_
    rw [show unscopedBufs c (fun b => m ((c : Thread nD τ).loc b)) = StableHlo.held (c : Thread nD τ) (ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (ucRefs τ sig) (fun b => ((c : Thread nD τ).1, b)) (W4 m c) s') $$ [Hh HSI]
    · isplitl [Hh] <;> iassumption
    icases Hr with ⟨%h, HSI⟩
    imodintro
    isplitr; · ipureintro; exact h
    iexact HSI

theorem unscoped_mem (r : Ref sig .tc) (h : r.isScoped = false) : (Proc.devRef .tc r : DevRef τ sig) ∈ ucRefs τ sig :=
  Finset.mem_filter.mpr ⟨StableHlo.devRef_mem_tcRefs r, fun h' => Bool.false_ne_true (h.symm.trans h')⟩

/-- A buffer that neither the host nor a region writes ends as it began. -/
theorem W4_kept (c : Dev nD) (r : Ref sig .tc) (h0 : r ∉ hostOps0_W) (h1 : ∀ w, r ≠ Pipeline.arrRef spec0 w) (h2 : ∀ w, r ≠ Pipeline.arrRef spec1 w) (h3 : r ∉ hostOps2_W) :
    W4 m c r = m ((c : Thread nD τ).loc r) :=
  (StableHlo.after_of_writes_sub hostOps2 _ hostOps2_writes h3).trans <|
    (Pipeline.afterRegion_of_not_arr (dat1 (W2 m) c) (W2 m c) h2).trans <|
      (Pipeline.afterRegion_of_not_arr (dat0 (W1 m) c) (W1 m c) h1).trans <| V1_of m c r h0

/-- What a run leaves: the result computed from the arguments, which stay as they were. -/
theorem run_main (ρ : Dev nD → PrngReg) : θ_run defs (onTc (τ := τ) (main (F := F))) ⟨m, fun _ => 0, ρ⟩
    (fun r => (∀ c : Dev nD, r.2.mem ((c : Thread nD τ).loc main_v18) = W4 m c main_v18
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (θ_run defs _ _).mono (fun r h => ⟨fun c => ?_, h.2⟩) (run_all m ρ)
  have hk : ∀ r' : Ref sig .tc, r'.isScoped = false → r' ∉ hostOps0_W → (∀ w, r' ≠ Pipeline.arrRef spec0 w) → (∀ w, r' ≠ Pipeline.arrRef spec1 w) → r' ∉ hostOps2_W →
      r.2.mem ((c : Thread nD τ).loc r') = m ((c : Thread nD τ).loc r') :=
    fun r' hs h0 h1 h2 h3 => (h.1 c _ (unscoped_mem r' hs)).trans (W4_kept m c r' h0 h1 h2 h3)
  exact ⟨h.1 c _ (unscoped_mem main_v18 (by decide)), hk main_arg0 (by decide) (by decide) (by decide) (by decide) (by decide), hk main_arg1 (by decide) (by decide) (by decide) (by decide) (by decide),
    hk main_arg2 (by decide) (by decide) (by decide) (by decide) (by decide), hk main_arg3 (by decide) (by decide) (by decide) (by decide) (by decide),
    hk main_arg4 (by decide) (by decide) (by decide) (by decide) (by decide)⟩

end Segments

end Cert.KernelIdeal.Pa

end
-- ==== Proof.I.Maths.lean ====
module

public import Mathlib.Data.EReal.Basic
public import Mathlib.Data.EReal.Operations
public import Idealize.ShloMosaic.Lib.ValueIdx
public import Idealize.ShloMosaic.PureOps

@[expose] public section

/-! The layer's maths over the extended reals, as functions of the argument arrays: both programs are read
    against these. -/

set_option maxRecDepth 16384

noncomputable section

namespace Cert.Maths

open Idealize.ShloMosaic Idealize.ShloMosaic.ValueIdx
open scoped BigOperators

/-- The image. -/
local notation "TX" => (Shape.Idx ⟨4, ![1, 384, 224, 224]⟩ → EReal)
/-- The 1×1 weights of queries, keys and values. -/
local notation "TW" => (Shape.Idx ⟨4, ![1152, 384, 1, 1]⟩ → EReal)
/-- The depthwise weights. -/
local notation "TD" => (Shape.Idx ⟨4, ![1152, 1, 3, 3]⟩ → EReal)

/-- The 1×1 convolution on the image padded by one pixel: row `a`, column `b` of the padded image. -/
def raw (w : TW) (x : TX) (o : Fin 1152) (a b : ℕ) : EReal :=
  if h : (1 ≤ a ∧ a ≤ 224) ∧ (1 ≤ b ∧ b ≤ 224) then
    ∑ c : Fin 384, w (ix4 o c 0 0) * x (ix4 0 c ⟨a - 1, by omega⟩ ⟨b - 1, by omega⟩)
  else 0

/-- One of the nine terms of the depthwise convolution. -/
def tap (w : TW) (x : TX) (d : TD) (o : Fin 1152) (i j : ℕ) (a b : Fin 3) : EReal :=
  d (ix4 o 0 a b) * raw w x o (i + a.val) (j + b.val)

/-- The depthwise 3×3 convolution of the 1×1 convolution. -/
def conv (w : TW) (x : TX) (d : TD) (o : Fin 1152) (i j : ℕ) : EReal :=
  0 + tap w x d o i j 0 0 + tap w x d o i j 0 1 + tap w x d o i j 0 2 + tap w x d o i j 1 0 + tap w x d o i j 1 1
    + tap w x d o i j 1 2 + tap w x d o i j 2 0 + tap w x d o i j 2 1 + tap w x d o i j 2 2

/-- The small number below which a norm is not divided by. -/
def eps : EReal := Ideal.ofBits .f32 0x2B8CBCCC#32

/-- A channel's norm over the image, bounded below. -/
def nrm (f : Fin 224 → Fin 224 → EReal) : EReal := max (Ideal.sqrt (∑ i, ∑ j, f i j * f i j)) eps

/-- Channel `n` of head `h`. -/
def ch (h : Fin 8) (n : Fin 48) : Fin 384 := ⟨48 * h.val + n.val, by omega⟩
/-- Query channel `c`. -/
def qc (c : Fin 384) : Fin 1152 := ⟨c.val, by omega⟩
/-- Key channel `c`. -/
def kc (c : Fin 384) : Fin 1152 := ⟨384 + c.val, by omega⟩
/-- Value channel `c`. -/
def vc (c : Fin 384) : Fin 1152 := ⟨768 + c.val, by omega⟩

/-- The dot product of a query channel with a key channel, each divided by its norm. -/
def dotn (q k : Fin 224 → Fin 224 → EReal) : EReal :=
  ∑ i, ∑ j, Ideal.div (q i j) (nrm q) * Ideal.div (k i j) (nrm k)

/-- The score of query channel `c` against key channel `d` at temperature `t`. -/
def score (w : TW) (x : TX) (dw : TD) (t : EReal) (c d : Fin 384) : EReal :=
  dotn (fun i j => conv w x dw (qc c) i j) (fun i j => conv w x dw (kc d) i j) * t

/-- The number of entries greater than entry `d`. -/
def above {n : ℕ} (u : Fin n → EReal) (d : Fin n) : ℕ := (Finset.univ.filter fun d' => u d < u d').card

/-- A row of scores with all but the seven greatest struck out. -/
def kept {n : ℕ} (u : Fin n → EReal) (d : Fin n) : EReal := if above u d < 7 then u d else ⊥

/-- The softmax of a row at entry `d`. -/
def soft {n : ℕ} (u : Fin n → EReal) (d : Fin n) : EReal :=
  Ideal.div (Ideal.exp (u d - Finset.univ.sup u)) (∑ e, Ideal.exp (u e - Finset.univ.sup u))

/-- Row-major positions, by the coordinates. -/
theorem rm1 {A : ℕ} (a : Fin A) : ((⟨1, ![A]⟩ : Shape).rowMajor (ix1 a)).val = a.val := Shape.rowMajor_val_one _
theorem rm2 {A B : ℕ} (a : Fin A) (b : Fin B) : ((⟨2, ![A, B]⟩ : Shape).rowMajor (ix2 a b)).val = a.val * B + b.val := Shape.rowMajor_val_two _
theorem rm3 {A B C : ℕ} (a : Fin A) (b : Fin B) (c : Fin C) : ((⟨3, ![A, B, C]⟩ : Shape).rowMajor (ix3 a b c)).val = (a.val * B + b.val) * C + c.val := Shape.rowMajor_val_three _
theorem rm4 {A B C D : ℕ} (a : Fin A) (b : Fin B) (c : Fin C) (d : Fin D) :
    ((⟨4, ![A, B, C, D]⟩ : Shape).rowMajor (ix4 a b c d)).val = ((a.val * B + b.val) * C + c.val) * D + d.val := Shape.rowMajor_val_four _

end Cert.Maths

end
-- ==== Proof.I.ConvK.lean ====
module

public import proofs.«01_k».proof.Proof.I.Rest
public import proofs.«01_k».proof.Proof.I.Maths
public import Idealize.ShloMosaic.Lib.IdealHost
public import Idealize.ShloMosaic.Lib.Pipeline.Value
public import Idealize.ShloMosaic.PureOps.Ideal.Laws

@[expose] public section

/-! A block of queries, keys or values, as the first call computes it from its slab, is the convolution. -/

set_option maxRecDepth 16384

noncomputable section

namespace Cert.KernelIdeal.Val

open Cert.KernelIdeal Cert.KernelIdeal.Gen Cert.KernelIdeal.Pa Cert.Maths
open Idealize.ShloMosaic Idealize.ShloMosaic.ValueIdx
open scoped BigOperators

/-- The block of 1792 pixels from a slab, 384 rows of 1×1 weights and 384 columns of depthwise weights. -/
def gB (S : S1x2304x384.Idx → EReal) (w : S384x384.Idx → EReal) (d : S72x384.Idx → EReal) : S1792x384.Idx → EReal :=
  k0_pay13 (F := Ideal) (k0_pay8 (F := Ideal) pix 224#32) (k0_pay9 (F := Ideal) pix 224#32) (k0_pay10 (F := Ideal) (k0_pay6 (F := Ideal) S) w) (k0_pay11 (F := Ideal) d)
    (k0_pay12 (F := Ideal) (k0_pay6 (F := Ideal) S) w d)

theorem qB_eq (S : S1x2304x384.Idx → Elt Ideal .f32) (X2 : S1152x384.Idx → Elt Ideal .bf16) (X3 : S72x1152.Idx → Elt Ideal .f32) :
    qB S X2 X3 = gB S (wAt X2 ![0, 0] inb_S1152x384_S384x384_0_0) (dAt X3 ![0, 0] inb_S72x1152_S72x384_0_0) := rfl
theorem kB_eq (S : S1x2304x384.Idx → Elt Ideal .f32) (X2 : S1152x384.Idx → Elt Ideal .bf16) (X3 : S72x1152.Idx → Elt Ideal .f32) :
    kB S X2 X3 = gB S (wAt X2 ![384, 0] inb_S1152x384_S384x384_384_0) (dAt X3 ![0, 384] inb_S72x1152_S72x384_0_384) := rfl
theorem vB_eq (S : S1x2304x384.Idx → Elt Ideal .f32) (X2 : S1152x384.Idx → Elt Ideal .bf16) (X3 : S72x1152.Idx → Elt Ideal .f32) :
    vB S X2 X3 = gB S (wAt X2 ![768, 0] inb_S1152x384_S384x384_768_0) (dAt X3 ![0, 768] inb_S72x1152_S72x384_0_768) := rfl

/-- The 1×1 convolution at a row of the slab. -/
def rk (S : S1x2304x384.Idx → EReal) (w : S384x384.Idx → EReal) (o : Fin 384) (n : Fin 2304) : EReal := ∑ c : Fin 384, S (ix3 0 n c) * w (ix2 o c)

theorem dotB (l : S2304x384.Idx → EReal) (r : S384x384.Idx → EReal) (n : Fin 2304) (o : Fin 384) :
    matmul (F := Ideal) (φ₁ := .bf16) (φ₂ := .bf16) dot_S2304x384_S384x384_S2304x384_1_1_0_0_n_n none l r (constant S2304x384 .f32 0x00000000#32) (ix2 n o)
      = ∑ c : Fin 384, l (ix2 n c) * r (ix2 o c) := by
  simp only [matmul]
  refine (Ideal.matmul_constant_zero_apply (φ₁ := .bf16) (φ₂ := .bf16) dot_S2304x384_S384x384_S2304x384_1_1_0_0_n_n none l r (ix2 n o)).trans ?_
  rw [← Equiv.sum_comp (contrEquiv1 dot_S2304x384_S384x384_S2304x384_1_1_0_0_n_n 384 rfl rfl).symm]
  refine Finset.sum_congr rfl fun c _ => ?_
  congr 1
  · exact congrArg l (funext fun e => match e with | ⟨0, _⟩ => rfl | ⟨1, _⟩ => rfl)
  · exact congrArg r (funext fun e => match e with | ⟨0, _⟩ => rfl | ⟨1, _⟩ => rfl)

theorem pay10_at (S : S1x2304x384.Idx → EReal) (w : S384x384.Idx → EReal) (a : Fin 288) (b : Fin 8) (o : Fin 384) (n : Fin 2304) (hn : n.val = 8 * a.val + b.val) :
    k0_pay10 (F := Ideal) (k0_pay6 (F := Ideal) S) w (ix3 a b o) = rk S w o n := by
  unfold k0_pay10 k0_pay6
  dsimp only
  refine (shapeCast_apply _ _ (ix3 a b o) (ix2 n o) (by simp only [rm2, rm3]; omega)).trans ?_
  refine (dotB _ _ n o).trans (Finset.sum_congr rfl fun c _ => congrArg₂ _ ?_ ?_)
  · exact shapeCast_apply _ _ (ix2 n c) (ix3 0 n c) (by simp only [rm2, rm3]; omega)
  · exact shapeCast_apply _ _ (ix2 o c) (ix2 o c) rfl

theorem pay11_at (d : S72x384.Idx → EReal) (t : Fin 9) (b : Fin 8) (o : Fin 384) (n : Fin 72) (hn : n.val = 8 * t.val + b.val) :
    k0_pay11 (F := Ideal) d (ix3 t b o) = d (ix2 n o) := by
  unfold k0_pay11
  refine (shapeCast_apply _ _ (ix3 t b o) (ix2 n o) (by simp only [rm2, rm3]; omega)).trans ?_
  exact shapeCast_apply _ _ (ix2 n o) (ix2 n o) rfl

theorem term224 (E : S9x8x384.Idx → EReal) (R : S288x8x384.Idx → EReal) (t k : ℕ) (h1 : S9x8x384.Slices ![t, 0, 0] S1x8x384) (h2 : S288x8x384.Slices ![k, 0, 0] S224x8x384)
    (hb) (a : Fin 224) (b : Fin 8) (o : Fin 384) (ht : t < 9) (hk : k + a.val < 288) :
    mulf (F := Ideal) (φ := .f32) (broadcastTo S224x8x384 (extractStridedSlice S1x8x384 ![t, 0, 0] E h1) hb) (extractStridedSlice S224x8x384 ![k, 0, 0] R h2) (ix3 a b o)
      = E (ix3 ⟨t, ht⟩ b o) * R (ix3 ⟨k + a.val, hk⟩ b o) := by
  refine congrArg₂ (· * ·) ?_ ?_
  · refine (broadcastTo_apply _ _ (ix3 a b o) (ix3 0 b o) (by intro e; match e with | ⟨0, _⟩ => rfl | ⟨1, _⟩ => rfl | ⟨2, _⟩ => rfl)).trans ?_
    exact extractStridedSlice_apply _ _ _ _ (ix3 ⟨t, ht⟩ b o) (by intro e; match e with | ⟨0, _⟩ => rfl | ⟨1, _⟩ => exact (Nat.zero_add _).symm | ⟨2, _⟩ => exact (Nat.zero_add _).symm)
  · exact extractStridedSlice_apply _ _ _ _ (ix3 ⟨k + a.val, hk⟩ b o) (by intro e; match e with | ⟨0, _⟩ => rfl | ⟨1, _⟩ => exact (Nat.zero_add _).symm | ⟨2, _⟩ => exact (Nat.zero_add _).symm)

theorem term225 (E : S9x8x384.Idx → EReal) (R : S288x8x384.Idx → EReal) (t k : ℕ) (h1 : S9x8x384.Slices ![t, 0, 0] S1x8x384) (h2 : S288x8x384.Slices ![k, 0, 0] S225x8x384)
    (hb) (a : Fin 225) (b : Fin 8) (o : Fin 384) (ht : t < 9) (hk : k + a.val < 288) :
    mulf (F := Ideal) (φ := .f32) (broadcastTo S225x8x384 (extractStridedSlice S1x8x384 ![t, 0, 0] E h1) hb) (extractStridedSlice S225x8x384 ![k, 0, 0] R h2) (ix3 a b o)
      = E (ix3 ⟨t, ht⟩ b o) * R (ix3 ⟨k + a.val, hk⟩ b o) := by
  refine congrArg₂ (· * ·) ?_ ?_
  · refine (broadcastTo_apply _ _ (ix3 a b o) (ix3 0 b o) (by intro e; match e with | ⟨0, _⟩ => rfl | ⟨1, _⟩ => rfl | ⟨2, _⟩ => rfl)).trans ?_
    exact extractStridedSlice_apply _ _ _ _ (ix3 ⟨t, ht⟩ b o) (by intro e; match e with | ⟨0, _⟩ => rfl | ⟨1, _⟩ => exact (Nat.zero_add _).symm | ⟨2, _⟩ => exact (Nat.zero_add _).symm)
  · exact extractStridedSlice_apply _ _ _ _ (ix3 ⟨k + a.val, hk⟩ b o) (by intro e; match e with | ⟨0, _⟩ => rfl | ⟨1, _⟩ => exact (Nat.zero_add _).symm | ⟨2, _⟩ => exact (Nat.zero_add _).symm)

theorem left_word (r : Fin 1792) : extui 32 (cmpi .sgt (k0_pay7 pix 224#32) (broadcast S1792x1 0#32)) natLt_1_32 (ix2 r 0) = if r.val % 224 = 0 then 0#32 else 1#32 := by
  revert r; decide +kernel
theorem right_word (r : Fin 1792) : extui 32 (cmpi .slt (k0_pay7 pix 224#32) (broadcast S1792x1 223#32)) natLt_1_32 (ix2 r 0) = if r.val % 224 = 223 then 0#32 else 1#32 := by
  revert r; decide +kernel

theorem left_at (r : Fin 1792) : k0_pay8 (F := Ideal) pix 224#32 (ix2 r 0) = if r.val % 224 = 0 then (0 : EReal) else 1 := by
  refine (congrArg (fun b : BitVec 32 => ((b.toInt : ℝ) : EReal)) (left_word r)).trans ?_
  split <;> simp
theorem right_at (r : Fin 1792) : k0_pay9 (F := Ideal) pix 224#32 (ix2 r 0) = if r.val % 224 = 223 then (0 : EReal) else 1 := by
  refine (congrArg (fun b : BitVec 32 => ((b.toInt : ℝ) : EReal)) (right_word r)).trans ?_
  split <;> simp

/-- The depthwise weight of the block at tap `t`, in the row the pixel row `n` reads. -/
abbrev dk (d : S72x384.Idx → EReal) (o : Fin 384) (t : Fin 9) (n : ℕ) : EReal := d (ix2 ⟨8 * t.val + n % 8, by omega⟩ o)

theorem pay12_at (S : S1x2304x384.Idx → EReal) (w : S384x384.Idx → EReal) (d : S72x384.Idx → EReal) (r : Fin 1792) (o : Fin 384) :
    k0_pay12 (F := Ideal) (k0_pay6 (F := Ideal) S) w d (ix2 r o)
      = dk d o 1 r.val * rk S w o ⟨r.val + 32, by omega⟩ + dk d o 4 r.val * rk S w o ⟨r.val + 256, by omega⟩ + dk d o 7 r.val * rk S w o ⟨r.val + 480, by omega⟩ := by
  unfold k0_pay12
  refine (shapeCast_apply _ _ (ix2 r o) (ix3 ⟨r.val / 8, by omega⟩ ⟨r.val % 8, by omega⟩ o) (by simp only [rm2, rm3]; omega)).trans ?_
  refine congrArg₂ (· + ·) (congrArg₂ (· + ·) ?_ ?_) ?_
  · refine (term224 _ _ 1 4 _ _ _ _ _ _ (by omega) (by simp; omega)).trans (congrArg₂ _ (pay11_at _ _ _ _ _ rfl) (pay10_at _ _ _ _ _ _ (by simp; omega)))
  · refine (term224 _ _ 4 32 _ _ _ _ _ _ (by omega) (by simp; omega)).trans (congrArg₂ _ (pay11_at _ _ _ _ _ rfl) (pay10_at _ _ _ _ _ _ (by simp; omega)))
  · refine (term224 _ _ 7 60 _ _ _ _ _ _ (by omega) (by simp; omega)).trans (congrArg₂ _ (pay11_at _ _ _ _ _ rfl) (pay10_at _ _ _ _ _ _ (by simp; omega)))

theorem gB_at (S : S1x2304x384.Idx → EReal) (w : S384x384.Idx → EReal) (d : S72x384.Idx → EReal) (r : Fin 1792) (o : Fin 384) :
    gB S w d (ix2 r o)
      = (dk d o 1 r.val * rk S w o ⟨r.val + 32, by omega⟩ + dk d o 4 r.val * rk S w o ⟨r.val + 256, by omega⟩ + dk d o 7 r.val * rk S w o ⟨r.val + 480, by omega⟩)
        + (if r.val % 224 = 0 then (0 : EReal) else 1)
          * (dk d o 0 (r.val + 7) * rk S w o ⟨r.val + 31, by omega⟩ + dk d o 3 (r.val + 7) * rk S w o ⟨r.val + 255, by omega⟩ + dk d o 6 (r.val + 7) * rk S w o ⟨r.val + 479, by omega⟩)
        + (if r.val % 224 = 223 then (0 : EReal) else 1)
          * (dk d o 2 (r.val + 1) * rk S w o ⟨r.val + 33, by omega⟩ + dk d o 5 (r.val + 1) * rk S w o ⟨r.val + 257, by omega⟩ + dk d o 8 (r.val + 1) * rk S w o ⟨r.val + 481, by omega⟩) := by
  refine congrArg₂ (· + ·) (congrArg₂ (· + ·) (pay12_at S w d r o) (congrArg₂ (· * ·) ?_ ?_)) (congrArg₂ (· * ·) ?_ ?_)
  · refine (broadcastTo_apply _ _ (ix2 r o) (ix2 r 0) (by intro e; match e with | ⟨0, _⟩ => rfl | ⟨1, _⟩ => rfl)).trans (left_at r)
  · refine (extractStridedSlice_apply _ _ _ (ix2 r o) (ix2 ⟨7 + r.val, by omega⟩ o) (by intro e; match e with | ⟨0, _⟩ => rfl | ⟨1, _⟩ => exact (Nat.zero_add _).symm)).trans ?_
    refine (shapeCast_apply _ _ (ix2 ⟨7 + r.val, by omega⟩ o) (ix3 ⟨(r.val + 7) / 8, by omega⟩ ⟨(r.val + 7) % 8, by omega⟩ o) (by simp only [rm2, rm3]; omega)).trans ?_
    refine congrArg₂ (· + ·) (congrArg₂ (· + ·) ?_ ?_) ?_
    · refine (term225 _ _ 0 3 _ _ _ _ _ _ (by omega) (by simp; omega)).trans (congrArg₂ _ (pay11_at _ _ _ _ _ rfl) (pay10_at _ _ _ _ _ _ (by simp; omega)))
    · refine (term225 _ _ 3 31 _ _ _ _ _ _ (by omega) (by simp; omega)).trans (congrArg₂ _ (pay11_at _ _ _ _ _ rfl) (pay10_at _ _ _ _ _ _ (by simp; omega)))
    · refine (term225 _ _ 6 59 _ _ _ _ _ _ (by omega) (by simp; omega)).trans (congrArg₂ _ (pay11_at _ _ _ _ _ rfl) (pay10_at _ _ _ _ _ _ (by simp; omega)))
  · refine (broadcastTo_apply _ _ (ix2 r o) (ix2 r 0) (by intro e; match e with | ⟨0, _⟩ => rfl | ⟨1, _⟩ => rfl)).trans (right_at r)
  · refine (extractStridedSlice_apply _ _ _ (ix2 r o) (ix2 ⟨1 + r.val, by omega⟩ o) (by intro e; match e with | ⟨0, _⟩ => rfl | ⟨1, _⟩ => exact (Nat.zero_add _).symm)).trans ?_
    refine (shapeCast_apply _ _ (ix2 ⟨1 + r.val, by omega⟩ o) (ix3 ⟨(r.val + 1) / 8, by omega⟩ ⟨(r.val + 1) % 8, by omega⟩ o) (by simp only [rm2, rm3]; omega)).trans ?_
    refine congrArg₂ (· + ·) (congrArg₂ (· + ·) ?_ ?_) ?_
    · refine (term225 _ _ 2 4 _ _ _ _ _ _ (by omega) (by simp; omega)).trans (congrArg₂ _ (pay11_at _ _ _ _ _ rfl) (pay10_at _ _ _ _ _ _ (by simp; omega)))
    · refine (term225 _ _ 5 32 _ _ _ _ _ _ (by omega) (by simp; omega)).trans (congrArg₂ _ (pay11_at _ _ _ _ _ rfl) (pay10_at _ _ _ _ _ _ (by simp; omega)))
    · refine (term225 _ _ 8 60 _ _ _ _ _ _ (by omega) (by simp; omega)).trans (congrArg₂ _ (pay11_at _ _ _ _ _ rfl) (pay10_at _ _ _ _ _ _ (by simp; omega)))

/-- A row of the slab's 1×1 convolution is the padded image's, away from the image's left and right edges. -/
theorem rk_raw (xA : S50176x384.Idx → EReal) (x : Shape.Idx ⟨4, ![1, 384, 224, 224]⟩ → EReal) (wq : Shape.Idx ⟨4, ![1152, 384, 1, 1]⟩ → EReal)
    (w : S384x384.Idx → EReal) (o : Fin 384) (oo : Fin 1152)
    (hx : ∀ (p : Fin 50176) (c : Fin 384), xA (ix2 p c) = x (ix4 0 c ⟨p.val / 224, by omega⟩ ⟨p.val % 224, by omega⟩))
    (hw : ∀ c : Fin 384, w (ix2 o c) = wq (ix4 oo c 0 0))
    (t : ℕ) (i j a b : ℕ) (n : Fin 2304) (ht : t < 28) (hi : i < 224) (hj : j < 224) (ha : a < 3) (hb : b < 3)
    (hn : 1792 * t + n.val + 225 = 224 * i + j + 224 * a + b + 256) (hjb : 1 ≤ j + b ∧ j + b ≤ 224) :
    rk (slab (F := Ideal) xA t) w o n = raw wq x oo (i + a) (j + b) := by
  unfold rk raw
  split
  · rename_i h
    refine Finset.sum_congr rfl fun c _ => ?_
    have hs : slab (F := Ideal) xA t (ix3 0 n c) = xA (ix2 ⟨1792 * t + n.val - 256, by omega⟩ c) :=
      dif_pos (show 256 ≤ 1792 * t + n.val ∧ 1792 * t + n.val - 256 < 50176 by omega)
    rw [hs, hx, hw, mul_comm]
    refine congrArg (fun q => _ * x q) ?_
    have e1 : (1792 * t + n.val - 256) / 224 = i + a - 1 := by omega
    have e2 : (1792 * t + n.val - 256) % 224 = j + b - 1 := by omega
    funext e
    match e with
    | ⟨0, _⟩ => rfl
    | ⟨1, _⟩ => rfl
    | ⟨2, _⟩ => exact Fin.ext e1
    | ⟨3, _⟩ => exact Fin.ext e2
  · rename_i h
    refine Finset.sum_eq_zero fun c _ => ?_
    have hs : slab (F := Ideal) xA t (ix3 0 n c) = Ideal.ofBits .f32 0x00000000#32 :=
      dif_neg (show ¬(256 ≤ 1792 * t + n.val ∧ 1792 * t + n.val - 256 < 50176) by omega)
    rw [hs, Ideal.ofBits_zero_f32, zero_mul]

/-- A block's value is the convolution at its pixel. -/
theorem gB_conv (xA : S50176x384.Idx → EReal) (x : Shape.Idx ⟨4, ![1, 384, 224, 224]⟩ → EReal) (wq : Shape.Idx ⟨4, ![1152, 384, 1, 1]⟩ → EReal)
    (dw : Shape.Idx ⟨4, ![1152, 1, 3, 3]⟩ → EReal) (w : S384x384.Idx → EReal) (d : S72x384.Idx → EReal) (o : Fin 384) (oo : Fin 1152)
    (hx : ∀ (p : Fin 50176) (c : Fin 384), xA (ix2 p c) = x (ix4 0 c ⟨p.val / 224, by omega⟩ ⟨p.val % 224, by omega⟩))
    (hw : ∀ c : Fin 384, w (ix2 o c) = wq (ix4 oo c 0 0))
    (hd : ∀ n : Fin 72, d (ix2 n o) = dw (ix4 oo 0 ⟨n.val / 24, by omega⟩ ⟨n.val / 8 % 3, by omega⟩))
    (t : ℕ) (ht : t < 28) (r : Fin 1792) :
    gB (slab (F := Ideal) xA t) w d (ix2 r o) = conv wq x dw oo ((1792 * t + r.val) / 224) ((1792 * t + r.val) % 224) := by
  rw [gB_at]
  have hr := r.isLt
  obtain ⟨i, j, hi, hj, hij⟩ : ∃ i j : ℕ, i < 224 ∧ j < 224 ∧ 1792 * t + r.val = 224 * i + j :=
    ⟨(1792 * t + r.val) / 224, (1792 * t + r.val) % 224, by omega, by omega, by omega⟩
  have e1 : (1792 * t + r.val) / 224 = i := by omega
  have e2 : (1792 * t + r.val) % 224 = j := by omega
  have e3 : r.val % 224 = j := by omega
  rw [e1, e2, e3]
  have hdk : ∀ (a b : Fin 3) (T : Fin 9) (n : ℕ), T.val = 3 * a.val + b.val → dk d o T n = dw (ix4 oo 0 a b) := by
    intro a b T n hT
    refine (hd _).trans (congrArg dw ?_)
    funext e
    match e with
    | ⟨0, _⟩ => rfl
    | ⟨1, _⟩ => rfl
    | ⟨2, _⟩ => exact Fin.ext (show (8 * T.val + n % 8) / 24 = a.val by omega)
    | ⟨3, _⟩ => exact Fin.ext (show (8 * T.val + n % 8) / 8 % 3 = b.val by omega)
  have hz : ∀ a : ℕ, raw wq x oo a 0 = 0 := fun a => dif_neg (by omega)
  have hz' : ∀ a : ℕ, raw wq x oo a 225 = 0 := fun a => dif_neg (by omega)
  have key : ∀ (a b : Fin 3) (T : Fin 9) (n : ℕ) (N : Fin 2304), T.val = 3 * a.val + b.val → N.val = r.val + (31 + 224 * a.val + b.val) → (1 ≤ j + b.val ∧ j + b.val ≤ 224) →
      dk d o T n * rk (slab (F := Ideal) xA t) w o N = tap wq x dw oo i j a b := by
    intro a b T n N hT hN hjb
    unfold tap
    rw [hdk a b T n hT, rk_raw xA x wq w o oo hx hw t i j a.val b.val N ht hi hj a.isLt b.isLt (by omega) hjb]
  have hL : (if j = 0 then (0 : EReal) else 1) * (dk d o 0 (r.val + 7) * rk (slab (F := Ideal) xA t) w o ⟨r.val + 31, by omega⟩
      + dk d o 3 (r.val + 7) * rk (slab (F := Ideal) xA t) w o ⟨r.val + 255, by omega⟩ + dk d o 6 (r.val + 7) * rk (slab (F := Ideal) xA t) w o ⟨r.val + 479, by omega⟩)
      = tap wq x dw oo i j 0 0 + tap wq x dw oo i j 1 0 + tap wq x dw oo i j 2 0 := by
    by_cases hj0 : j = 0
    · subst hj0
      rw [if_pos rfl, zero_mul]
      unfold tap
      simp [hz]
    · rw [if_neg hj0, one_mul, key 0 0 0 _ _ rfl (by simp) (by simp; omega), key 1 0 3 _ _ rfl (by simp) (by simp; omega), key 2 0 6 _ _ rfl (by simp) (by simp; omega)]
  have hR : (if j = 223 then (0 : EReal) else 1) * (dk d o 2 (r.val + 1) * rk (slab (F := Ideal) xA t) w o ⟨r.val + 33, by omega⟩
      + dk d o 5 (r.val + 1) * rk (slab (F := Ideal) xA t) w o ⟨r.val + 257, by omega⟩ + dk d o 8 (r.val + 1) * rk (slab (F := Ideal) xA t) w o ⟨r.val + 481, by omega⟩)
      = tap wq x dw oo i j 0 2 + tap wq x dw oo i j 1 2 + tap wq x dw oo i j 2 2 := by
    by_cases hj0 : j = 223
    · subst hj0
      rw [if_pos rfl, zero_mul]
      unfold tap
      simp [hz']
    · rw [if_neg hj0, one_mul, key 0 2 2 _ _ rfl (by simp) (by simp; omega), key 1 2 5 _ _ rfl (by simp) (by simp; omega), key 2 2 8 _ _ rfl (by simp) (by simp; omega)]
  rw [hL, hR, key 0 1 1 _ _ rfl (by simp) (by simp; omega), key 1 1 4 _ _ rfl (by simp) (by simp; omega), key 2 1 7 _ _ rfl (by simp) (by simp; omega)]
  unfold conv
  rw [zero_add]
  abel

end Cert.KernelIdeal.Val

end
-- ==== Proof.I.HostK.lean ====
module

public import proofs.«01_k».proof.Proof.I.RegE
public import proofs.«01_k».proof.Proof.I.ConvK
public import Idealize.ShloMosaic.Lib.Tactic

@[expose] public section

/-! What the arrays hold before the first call, and what the first call leaves in its results. -/

set_option maxRecDepth 16384

noncomputable section

namespace Cert.KernelIdeal.Val

open Cert.KernelIdeal Cert.KernelIdeal.Gen Cert.KernelIdeal.Pa Cert.Maths
open Idealize.ShloMosaic hiding ix1 ix2 ix3 ix4 ix5
open Idealize.ShloMosaic.TcCoe Idealize.ShloMosaic.ValueIdx Idealize.ShloMosaic.Tactic
open scoped BigOperators

variable (m : (ℓ : Loc nD τ sig) → Buf (Elt Ideal) ℓ) (c : Dev nD)

/-- The arguments. -/
abbrev aX : S1x384x224x224.Idx → EReal := V0 m c main_arg0
abbrev aW : S1152x384x1x1.Idx → EReal := V0 m c main_arg1
abbrev aD : S1152x1x3x3.Idx → EReal := V0 m c main_arg2
abbrev aP : S384x384x1x1.Idx → EReal := V0 m c main_arg3
abbrev aT : S8x1x1.Idx → EReal := V0 m c main_arg4

theorem v1_eq : V1 m c main_v1 = transpose S50176x384 [1, 0] (shapeCast S384x50176 (aX m c) shapeCasts_S1x384x224x224_S384x50176) transposes_S384x50176_S50176x384_1_0 := by
  unfold_abbrev_sides
  after_results
  rfl

theorem v3_eq : V1 m c main_v3 = truncf (F := Ideal) (φ := .f32) .bf16 (shapeCast S1152x384 (aW m c) shapeCasts_S1152x384x1x1_S1152x384) bitsLt_bf16_f32 := by
  unfold_abbrev_sides
  after_results
  rfl

theorem v8_eq : V1 m c main_v8 = shapeCast S72x1152 (broadcastInDim S9x8x1152 ![0, 1, 2] bcast_S9x1x1152_S9x8x1152_0_1_2
    (broadcastInDim S9x1x1152 ![0, 2] bcast_S9x1152_S9x1x1152_0_2 (transpose S9x1152 [1, 0] (shapeCast S1152x9 (aD m c) shapeCasts_S1152x1x3x3_S1152x9) transposes_S1152x9_S9x1152_1_0)))
    shapeCasts_S9x8x1152_S72x1152 := by
  unfold_abbrev_sides
  after_results
  rfl

theorem v12_eq : V1 m c main_v12 = shapeCast S1x384 (shapeCast S384 (broadcastInDim S8x48 ![0] bcast_S8_S8x48_0 (shapeCast S8 (aT m c) shapeCasts_S8x1x1_S8))
    shapeCasts_S8x48_S384) shapeCasts_S384_S1x384 := by
  unfold_abbrev_sides
  after_results
  rfl

theorem v14_eq : V1 m c main_v14 = truncf (F := Ideal) (φ := .f32) .bf16 (shapeCast S384x384 (aP m c) shapeCasts_S384x384x1x1_S384x384) bitsLt_bf16_f32 := by
  unfold_abbrev_sides
  after_results
  rfl

theorem v1_at (p : Fin 50176) (k : Fin 384) : V1 m c main_v1 (ix2 p k) = aX m c (ix4 0 k ⟨p.val / 224, by omega⟩ ⟨p.val % 224, by omega⟩) := by
  rw [v1_eq]
  refine (transpose_apply _ _ _ (ix2 p k) (ix2 k p) (by intro e; match e with | ⟨0, _⟩ => rfl | ⟨1, _⟩ => rfl)).trans ?_
  exact shapeCast_apply _ _ (ix2 k p) (ix4 0 k ⟨p.val / 224, by omega⟩ ⟨p.val % 224, by omega⟩) (by simp only [rm2, rm4, Fin.val_zero]; omega)

theorem v3_at (o : Fin 1152) (k : Fin 384) : V1 m c main_v3 (ix2 o k) = aW m c (ix4 o k 0 0) := by
  rw [v3_eq]
  exact shapeCast_apply _ _ (ix2 o k) (ix4 o k 0 0) (by simp only [rm2, rm4, Fin.val_zero]; omega)

theorem v14_at (o k : Fin 384) : V1 m c main_v14 (ix2 o k) = aP m c (ix4 o k 0 0) := by
  rw [v14_eq]
  exact shapeCast_apply _ _ (ix2 o k) (ix4 o k 0 0) (by simp only [rm2, rm4, Fin.val_zero]; omega)

theorem v8_at (n : Fin 72) (o : Fin 1152) : V1 m c main_v8 (ix2 n o) = aD m c (ix4 o 0 ⟨n.val / 24, by omega⟩ ⟨n.val / 8 % 3, by omega⟩) := by
  rw [v8_eq]
  refine (shapeCast_apply _ _ (ix2 n o) (ix3 (⟨n.val / 8, by omega⟩ : Fin 9) (⟨n.val % 8, by omega⟩ : Fin 8) o) (by simp only [rm2, rm3]; omega)).trans ?_
  refine (broadcastInDim_apply _ _ _ _ (ix3 (⟨n.val / 8, by omega⟩ : Fin 9) (0 : Fin 1) o) (by intro e; match e with | ⟨0, _⟩ => rfl | ⟨1, _⟩ => rfl | ⟨2, _⟩ => rfl)).trans ?_
  refine (broadcastInDim_apply _ _ _ _ (ix2 (⟨n.val / 8, by omega⟩ : Fin 9) o) (by intro e; match e with | ⟨0, _⟩ => rfl | ⟨1, _⟩ => rfl)).trans ?_
  refine (transpose_apply _ _ _ _ (ix2 o (⟨n.val / 8, by omega⟩ : Fin 9)) (by intro e; match e with | ⟨0, _⟩ => rfl | ⟨1, _⟩ => rfl)).trans ?_
  exact shapeCast_apply _ _ _ (ix4 o 0 ⟨n.val / 24, by omega⟩ ⟨n.val / 8 % 3, by omega⟩) (by simp only [rm2, rm4, Fin.val_zero]; omega)

theorem v12_at (k : Fin 384) : V1 m c main_v12 (ix2 0 k) = aT m c (ix3 ⟨k.val / 48, by omega⟩ 0 0) := by
  rw [v12_eq]
  refine (shapeCast_apply _ _ (ix2 0 k) (ix1 k) (by simp only [rm2, rm1, Fin.val_zero]; omega)).trans ?_
  refine (shapeCast_apply _ _ (ix1 k) (ix2 (⟨k.val / 48, by omega⟩ : Fin 8) (⟨k.val % 48, by omega⟩ : Fin 48)) (by simp only [rm2, rm1]; omega)).trans ?_
  refine (broadcastInDim_apply _ _ _ _ (ix1 (⟨k.val / 48, by omega⟩ : Fin 8)) (by intro e; match e with | ⟨0, _⟩ => rfl)).trans ?_
  exact shapeCast_apply _ _ _ (ix3 ⟨k.val / 48, by omega⟩ 0 0) (by simp only [rm1, rm3, Fin.val_zero]; omega)

/-- The three convolutions at a pixel. -/
abbrev cv (o : Fin 1152) (p : ℕ) : EReal := conv (aW m c) (aX m c) (aD m c) o (p / 224) (p % 224)

theorem wAt_at (X : S1152x384.Idx → EReal) (a : ℕ) (h) (o k : Fin 384) (ha : a + o.val < 1152) :
    wAt (F := Ideal) X ![a, 0] h (ix2 o k) = X (ix2 ⟨a + o.val, ha⟩ k) :=
  congrArg X (funext fun e => match e with
    | ⟨0, _⟩ => Fin.ext (show a + 1 * o.val = a + o.val by omega)
    | ⟨1, _⟩ => Fin.ext (show 0 + 1 * k.val = k.val by omega))

theorem dAt_at (X : S72x1152.Idx → EReal) (a : ℕ) (h) (n : Fin 72) (o : Fin 384) (ha : a + o.val < 1152) :
    dAt (F := Ideal) X ![0, a] h (ix2 n o) = X (ix2 n ⟨a + o.val, ha⟩) :=
  congrArg X (funext fun e => match e with
    | ⟨0, _⟩ => Fin.ext (show 0 + 1 * n.val = n.val by omega)
    | ⟨1, _⟩ => Fin.ext (show a + 1 * o.val = a + o.val by omega))

theorem g_at (a : ℕ) (h h') (t : ℕ) (ht : t < 28) (r : Fin 1792) (o : Fin 384) (ha : a + o.val < 1152) :
    gB (slab (F := Ideal) (V1 m c main_v1) t) (wAt (F := Ideal) (V1 m c main_v3) ![a, 0] h) (dAt (F := Ideal) (V1 m c main_v8) ![0, a] h') (ix2 r o)
      = cv m c ⟨a + o.val, ha⟩ (1792 * t + r.val) :=
  gB_conv (V1 m c main_v1) (aX m c) (aW m c) (aD m c) _ _ o ⟨a + o.val, ha⟩ (v1_at m c)
    (fun k => (wAt_at _ a h o k ha).trans (v3_at m c _ k)) (fun n => (dAt_at _ a h' n o ha).trans (v8_at m c n _)) t ht r

theorem qB_at (t : ℕ) (ht : t < 28) (r : Fin 1792) (o : Fin 384) :
    qB (F := Ideal) (slab (V1 m c main_v1) t) (V1 m c main_v3) (V1 m c main_v8) (ix2 r o) = cv m c (qc o) (1792 * t + r.val) := by
  refine (congrFun (qB_eq _ _ _) _).trans ((g_at m c 0 _ _ t ht r o (by omega)).trans ?_)
  exact congrArg (fun q => cv m c q _) (Fin.ext (Nat.zero_add _))
theorem kB_at (t : ℕ) (ht : t < 28) (r : Fin 1792) (o : Fin 384) :
    kB (F := Ideal) (slab (V1 m c main_v1) t) (V1 m c main_v3) (V1 m c main_v8) (ix2 r o) = cv m c (kc o) (1792 * t + r.val) :=
  (congrFun (kB_eq _ _ _) _).trans (g_at m c 384 _ _ t ht r o (by omega))
theorem vB_at (t : ℕ) (ht : t < 28) (r : Fin 1792) (o : Fin 384) :
    vB (F := Ideal) (slab (V1 m c main_v1) t) (V1 m c main_v3) (V1 m c main_v8) (ix2 r o) = cv m c (vc o) (1792 * t + r.val) :=
  (congrFun (vB_eq _ _ _) _).trans (g_at m c 768 _ _ t ht r o (by omega))

open Idealize.ShloMosaic.Pipeline (afterRegion)

theorem idx0_2 (t : Fin cfg0.N) : win0_2.index t = ![t.val, 0] := by revert t; decide +kernel
theorem idx0_3 (t : Fin cfg0.N) : win0_3.index t = ![t.val, 0] := by revert t; decide +kernel
theorem idx0_4 (t : Fin cfg0.N) : win0_4.index t = ![t.val, 0] := by revert t; decide +kernel

theorem final0_2 : (dat0 (W1 m) c).arrAt 2 cfg0.N = fun i => cv m c (qc (i 1)) (i 0).val := by
  refine (dat0 (W1 m) c).arrAt_eq_of_covers 2 _ (by decide +kernel) fun t hf y => ?_
  have ht : t.val < 28 := t.isLt
  have hy : (y 0).val < 1792 := (y 0).isLt
  have e0 : ((((cfg0.win 2).blk t).view.emb y) 0).val = 1792 * t.val + (y 0).val := by
    blk_simp [idx0_2]; omega
  have e1 : (((cfg0.win 2).blk t).view.emb y) 1 = y 1 := Fin.ext (by blk_simp [idx0_2])
  refine Eq.trans ?_ ((qB_at m c t.val ht (y 0) (y 1)).trans ?_)
  · blk_simp; exact congrArg _ (ValueIdx.eq_ix2 y)
  · exact congrArg₂ (fun q p => cv m c (qc q) p) e1.symm e0.symm

theorem W2_q (p : Fin 50176) (o : Fin 384) : W2 m c main_v15_0 (ix2 p o) = cv m c (qc o) p.val :=
  (congrFun ((Pipeline.afterRegion_arr (dat0 (W1 m) c) (W1 m c) launch0.win.arr_inj 2).trans (final0_2 m c)) (ix2 p o))

theorem final0_3 : (dat0 (W1 m) c).arrAt 3 cfg0.N = fun i => cv m c (kc (i 1)) (i 0).val := by
  refine (dat0 (W1 m) c).arrAt_eq_of_covers 3 _ (by decide +kernel) fun t hf y => ?_
  have ht : t.val < 28 := t.isLt
  have hy : (y 0).val < 1792 := (y 0).isLt
  have e0 : ((((cfg0.win 3).blk t).view.emb y) 0).val = 1792 * t.val + (y 0).val := by
    blk_simp [idx0_3]; omega
  have e1 : (((cfg0.win 3).blk t).view.emb y) 1 = y 1 := Fin.ext (by blk_simp [idx0_3])
  refine Eq.trans ?_ ((kB_at m c t.val ht (y 0) (y 1)).trans ?_)
  · blk_simp; exact congrArg _ (ValueIdx.eq_ix2 y)
  · exact congrArg₂ (fun q p => cv m c (kc q) p) e1.symm e0.symm

theorem W2_k (p : Fin 50176) (o : Fin 384) : W2 m c main_v15_1 (ix2 p o) = cv m c (kc o) p.val :=
  (congrFun ((Pipeline.afterRegion_arr (dat0 (W1 m) c) (W1 m c) launch0.win.arr_inj 3).trans (final0_3 m c)) (ix2 p o))

theorem final0_4 : (dat0 (W1 m) c).arrAt 4 cfg0.N = fun i => cv m c (vc (i 1)) (i 0).val := by
  refine (dat0 (W1 m) c).arrAt_eq_of_covers 4 _ (by decide +kernel) fun t hf y => ?_
  have ht : t.val < 28 := t.isLt
  have hy : (y 0).val < 1792 := (y 0).isLt
  have e0 : ((((cfg0.win 4).blk t).view.emb y) 0).val = 1792 * t.val + (y 0).val := by
    blk_simp [idx0_4]; omega
  have e1 : (((cfg0.win 4).blk t).view.emb y) 1 = y 1 := Fin.ext (by blk_simp [idx0_4])
  refine Eq.trans ?_ ((vB_at m c t.val ht (y 0) (y 1)).trans ?_)
  · blk_simp; exact congrArg _ (ValueIdx.eq_ix2 y)
  · exact congrArg₂ (fun q p => cv m c (vc q) p) e1.symm e0.symm

theorem W2_v (p : Fin 50176) (o : Fin 384) : W2 m c main_v15_2 (ix2 p o) = cv m c (vc o) p.val :=
  (congrFun ((Pipeline.afterRegion_arr (dat0 (W1 m) c) (W1 m c) launch0.win.arr_inj 4).trans (final0_4 m c)) (ix2 p o))

/-- A sum over the pixels, block by block. -/
theorem sum_blocks (f : ℕ → EReal) (B T : ℕ) : ∑ p ∈ Finset.range (B * T), f p = ∑ t ∈ Finset.range T, ∑ r : Fin B, f (B * t + r.val) := by
  induction T with
  | zero => rfl
  | succ T ih => rw [Nat.mul_succ, Finset.sum_range_add, ih, Finset.sum_range_succ, Finset.sum_range (fun x => f (B * T + x))]

theorem colsum_at (f : S1792x384.Idx → EReal) (o : Fin 384) :
    multiReduction (F := Ideal) (φ := .f32) .add [0] S384 f 0x00000000#32 reduces_S1792x384_S384 (.inl rfl) rfl (ix1 o) = ∑ r : Fin 1792, f (ix2 r o) := by
  refine (Ideal.multiReduction_add_single _ _ _ _ _ _).trans (Finset.sum_congr rfl fun r _ => congrArg f ?_)
  exact funext fun e => match e with | ⟨0, _⟩ => rfl | ⟨1, _⟩ => rfl

theorem cat_at0 (A B : S1x384.Idx → EReal) (o : Fin 384) :
    concatenate S8x384 0 [⟨S1x384, A⟩, ⟨S1x384, B⟩, ⟨S1x384, A⟩, ⟨S1x384, B⟩, ⟨S1x384, A⟩, ⟨S1x384, B⟩, ⟨S1x384, A⟩, ⟨S1x384, B⟩]
      concatenates_S1x384_S1x384_S1x384_S1x384_S1x384_S1x384_S1x384_S1x384_S8x384_d0 (ix2 0 o) = A (ix2 0 o) :=
  concatenate_apply_piece (t := S8x384) 0 [⟨S1x384, A⟩, ⟨S1x384, B⟩, ⟨S1x384, A⟩, ⟨S1x384, B⟩, ⟨S1x384, A⟩, ⟨S1x384, B⟩, ⟨S1x384, A⟩, ⟨S1x384, B⟩]
    concatenates_S1x384_S1x384_S1x384_S1x384_S1x384_S1x384_S1x384_S1x384_S8x384_d0 (ix2 0 o) 0 (show 0 < 8 by omega) S1x384 A rfl rfl 0 rfl (ix2 0 o)
    (by intro e he; match e with | ⟨0, _⟩ => exact absurd rfl he | ⟨1, _⟩ => rfl) rfl
theorem cat_at1 (A B : S1x384.Idx → EReal) (o : Fin 384) :
    concatenate S8x384 0 [⟨S1x384, A⟩, ⟨S1x384, B⟩, ⟨S1x384, A⟩, ⟨S1x384, B⟩, ⟨S1x384, A⟩, ⟨S1x384, B⟩, ⟨S1x384, A⟩, ⟨S1x384, B⟩]
      concatenates_S1x384_S1x384_S1x384_S1x384_S1x384_S1x384_S1x384_S1x384_S8x384_d0 (ix2 1 o) = B (ix2 0 o) :=
  concatenate_apply_piece (t := S8x384) 0 [⟨S1x384, A⟩, ⟨S1x384, B⟩, ⟨S1x384, A⟩, ⟨S1x384, B⟩, ⟨S1x384, A⟩, ⟨S1x384, B⟩, ⟨S1x384, A⟩, ⟨S1x384, B⟩]
    concatenates_S1x384_S1x384_S1x384_S1x384_S1x384_S1x384_S1x384_S1x384_S8x384_d0 (ix2 1 o) 1 (show 1 < 8 by omega) S1x384 B rfl rfl 1 rfl (ix2 0 o)
    (by intro e he; match e with | ⟨0, _⟩ => exact absurd rfl he | ⟨1, _⟩ => rfl) rfl

theorem pay2_at0 (q k : S1792x384.Idx → EReal) (o : Fin 384) : k0_pay2 (F := Ideal) q k (ix2 0 o) = ∑ r : Fin 1792, q (ix2 r o) * q (ix2 r o) := by
  refine (cat_at0 _ _ o).trans ?_
  exact (shapeCast_apply _ _ (ix2 0 o) (ix1 o) (by simp only [rm2, rm1, Fin.val_zero]; omega)).trans (colsum_at _ o)
theorem pay2_at1 (q k : S1792x384.Idx → EReal) (o : Fin 384) : k0_pay2 (F := Ideal) q k (ix2 1 o) = ∑ r : Fin 1792, k (ix2 r o) * k (ix2 r o) := by
  refine (cat_at1 _ _ o).trans ?_
  exact (shapeCast_apply _ _ (ix2 0 o) (ix1 o) (by simp only [rm2, rm1, Fin.val_zero]; omega)).trans (colsum_at _ o)

theorem aux_at0 (n : ℕ) (hn : n < 28) (o : Fin 384) : auxAt (F := Ideal) (V1 m c main_v1) (V1 m c main_v3) (V1 m c main_v8) n (ix2 0 o)
    = ∑ t ∈ Finset.range (n + 1), ∑ r : Fin 1792, cv m c (qc o) (1792 * t + r.val) * cv m c (qc o) (1792 * t + r.val) := by
  induction n with
  | zero =>
    rw [Finset.sum_range_one]
    refine (pay2_at0 _ _ o).trans (Finset.sum_congr rfl fun r _ => ?_)
    rw [qB_at m c 0 hn r o]
  | succ n ih =>
    rw [Finset.sum_range_succ, ← ih (by omega)]
    refine congrArg₂ (· + ·) (shapeCast_apply _ _ (ix2 0 o) (ix2 0 o) rfl) ((pay2_at0 _ _ o).trans (Finset.sum_congr rfl fun r _ => ?_))
    rw [qB_at m c (n + 1) hn r o]
theorem aux_at1 (n : ℕ) (hn : n < 28) (o : Fin 384) : auxAt (F := Ideal) (V1 m c main_v1) (V1 m c main_v3) (V1 m c main_v8) n (ix2 1 o)
    = ∑ t ∈ Finset.range (n + 1), ∑ r : Fin 1792, cv m c (kc o) (1792 * t + r.val) * cv m c (kc o) (1792 * t + r.val) := by
  induction n with
  | zero =>
    rw [Finset.sum_range_one]
    refine (pay2_at1 _ _ o).trans (Finset.sum_congr rfl fun r _ => ?_)
    rw [kB_at m c 0 hn r o]
  | succ n ih =>
    rw [Finset.sum_range_succ, ← ih (by omega)]
    refine congrArg₂ (· + ·) (shapeCast_apply _ _ (ix2 1 o) (ix2 1 o) rfl) ((pay2_at1 _ _ o).trans (Finset.sum_congr rfl fun r _ => ?_))
    rw [kB_at m c (n + 1) hn r o]

theorem final0_5 : (dat0 (W1 m) c).arrAt 5 cfg0.N = auxAt (F := Ideal) (V1 m c main_v1) (V1 m c main_v3) (V1 m c main_v8) 27 := by
  refine (dat0 (W1 m) c).arrAt_eq_of_after_last 5 (⟨27, by decide⟩ : Fin cfg0.N) (by decide +kernel) _ fun j => ?_
  blk_simp
  rfl

theorem W2_s0 (o : Fin 384) : W2 m c main_v15_3 (ix2 0 o) = ∑ p ∈ Finset.range 50176, cv m c (qc o) p * cv m c (qc o) p := by
  refine (congrFun ((Pipeline.afterRegion_arr (dat0 (W1 m) c) (W1 m c) launch0.win.arr_inj 5).trans (final0_5 m c)) (ix2 0 o)).trans ?_
  exact (aux_at0 m c 27 (by omega) o).trans (sum_blocks (fun p => cv m c (qc o) p * cv m c (qc o) p) 1792 28).symm
theorem W2_s1 (o : Fin 384) : W2 m c main_v15_3 (ix2 1 o) = ∑ p ∈ Finset.range 50176, cv m c (kc o) p * cv m c (kc o) p := by
  refine (congrFun ((Pipeline.afterRegion_arr (dat0 (W1 m) c) (W1 m c) launch0.win.arr_inj 5).trans (final0_5 m c)) (ix2 1 o)).trans ?_
  exact (aux_at1 m c 27 (by omega) o).trans (sum_blocks (fun p => cv m c (kc o) p * cv m c (kc o) p) 1792 28).symm

theorem W2_t (k : Fin 384) : W2 m c main_v12 (ix2 0 k) = aT m c (ix3 ⟨k.val / 48, by omega⟩ 0 0) :=
  (congrFun (Pipeline.afterRegion_of_not_arr (dat0 (W1 m) c) (W1 m c) (b := main_v12) (by decide)) (ix2 0 k)).trans (v12_at m c k)
theorem W2_p (o k : Fin 384) : W2 m c main_v14 (ix2 o k) = aP m c (ix4 o k 0 0) :=
  (congrFun (Pipeline.afterRegion_of_not_arr (dat0 (W1 m) c) (W1 m c) (b := main_v14) (by decide)) (ix2 o k)).trans (v14_at m c o k)

end Cert.KernelIdeal.Val

end
-- ==== Proof.I.Top.lean ====
module

public import Mathlib.Data.EReal.Basic
public import Mathlib.Data.EReal.Operations
public import Idealize.ShloMosaic.Lib.SortFacts
public import Idealize.ShloMosaic.PureOps

@[expose] public section

/-! Seven rounds of "take the greatest, strike it out" on a column of distinct values, against the number of
    greater values that each entry has; and the first seven positions of a stable sort, against the same number. -/

noncomputable section

namespace Cert.KernelIdeal.Top

open Idealize.ShloMosaic

variable {n : ℕ}

/-- The number of entries greater than entry `d`. -/
def rank (u : Fin n → EReal) (d : Fin n) : ℕ := (Finset.univ.filter fun d' => u d < u d').card

/-- The greatest entry. -/
def mx (u : Fin n → EReal) : EReal := Finset.univ.sup u

/-- The column with its greatest entry struck out. -/
def rm (u : Fin n → EReal) : Fin n → EReal := fun d => if u d = mx u then ⊥ else u d

/-- Entries other than the struck-out value are pairwise different. -/
def Dist (u : Fin n → EReal) : Prop := ∀ d d', u d ≠ ⊥ → u d = u d' → d = d'

theorem rank_lt {u : Fin n → EReal} {d d' : Fin n} (h : u d < u d') : rank u d' < rank u d := by
  unfold rank
  refine Finset.card_lt_card ⟨fun x hx => ?_, fun hs => ?_⟩
  · simp only [Finset.mem_filter, Finset.mem_univ, true_and] at hx ⊢; exact h.trans hx
  · have := hs (show d' ∈ _ by simpa using h)
    simp at this

theorem rank_inj {u : Fin n → EReal} (hu : Dist u) {d d' : Fin n} (hd : u d ≠ ⊥) (h : rank u d = rank u d') : d = d' := by
  rcases lt_trichotomy (u d) (u d') with h1 | h1 | h1
  · have := rank_lt h1; omega
  · exact hu d d' hd h1
  · have := rank_lt h1; omega

theorem card_above_le {u : Fin n → EReal} (hu : Dist u) (d : Fin n) (k : ℕ) (h : ∀ d', u d < u d' → rank u d' < k) : rank u d ≤ k := by
  have : (Finset.univ.filter fun d' => u d < u d').card ≤ (Finset.range k).card := by
    refine Finset.card_le_card_of_injOn (rank u) ?_ ?_
    · intro x hx; simp at hx ⊢; exact h x hx
    · intro x hx y hy hxy
      simp at hx hy
      exact rank_inj hu (ne_bot_of_gt hx) hxy
  rwa [Finset.card_range] at this

theorem le_mx (u : Fin n → EReal) (d : Fin n) : u d ≤ mx u := Finset.le_sup (f := u) (Finset.mem_univ d)

theorem rm_iter {u : Fin n → EReal} (hu : Dist u) (k : ℕ) : rm^[k] u = fun d => if rank u d < k then ⊥ else u d := by
  induction k with
  | zero => funext d; simp
  | succ k ih =>
    rw [Function.iterate_succ_apply', ih]
    funext d
    change (if _ = _ then ⊥ else _) = _
    set w : Fin n → EReal := fun d => if rank u d < k then ⊥ else u d with hw
    have hwd : ∀ e, w e = if rank u e < k then ⊥ else u e := fun _ => rfl
    by_cases h1 : rank u d < k
    · simp [hwd d, h1, Nat.lt_succ_of_lt h1]
    · rw [hwd d, if_neg h1]
      by_cases h2 : rank u d < k + 1
      · rw [if_pos h2, if_pos]
        have hk : rank u d = k := by omega
        refine le_antisymm ?_ ?_
        · have := le_mx w d; rwa [hwd d, if_neg h1] at this
        · refine Finset.sup_le fun e _ => ?_
          rw [hwd e]
          split
          · exact bot_le
          · rename_i h3
            by_contra h4
            have := rank_lt (not_le.mp h4); omega
      · rw [if_neg h2]
        by_cases h3 : u d = mx w
        · rw [if_pos h3]
          by_contra h5
          have : rank u d ≤ k := by
            refine card_above_le hu d k fun e he => ?_
            by_contra h4
            have := le_mx w e
            rw [hwd e, if_neg h4, ← h3] at this
            exact absurd this (not_le.mpr he)
          omega
        · rw [if_neg h3]

/-- An entry is among the seven greatest iff it is not below the greatest entry left after six rounds. -/
theorem thr_iff {u : Fin n → EReal} (hu : Dist u) (d : Fin n) (k : ℕ) : mx (rm^[k] u) ≤ u d ∧ u d ≠ ⊥ ↔ rank u d < k + 1 ∧ u d ≠ ⊥ := by
  refine and_congr_left fun hd => ?_
  rw [rm_iter hu]
  constructor
  · intro h
    have : rank u d ≤ k := by
      refine card_above_le hu d k fun e he => ?_
      by_contra h4
      have := (le_mx (fun d => if rank u d < k then ⊥ else u d) e).trans h
      simp only [if_neg h4] at this
      exact absurd this (not_le.mpr he)
    omega
  · intro h
    refine Finset.sup_le fun e _ => ?_
    split
    · exact bot_le
    · rename_i h3
      by_contra h4
      have := rank_lt (not_le.mp h4); omega

/-- The rank of an injective column is invariant under an embedding that keeps the values and sends everything
    else to the bottom. -/
theorem rank_embed {m : ℕ} (u : Fin n → EReal) (a : Fin m → EReal) (e : Fin m → Fin n) (he : Function.Injective e)
    (hv : ∀ i, u (e i) = a i) (hb : ∀ d, u d ≠ ⊥ → ∃ i, e i = d) (i : Fin m) : rank u (e i) = rank a i := by
  unfold rank
  symm
  refine Finset.card_bij (fun j _ => e j) ?_ ?_ ?_
  · intro j hj; simp at hj ⊢; rw [hv, hv]; exact hj
  · intro j _ j' _ h; exact he h
  · intro d hd
    simp at hd
    obtain ⟨j, rfl⟩ := hb d (ne_bot_of_gt hd)
    exact ⟨j, by simpa [hv] using hd, rfl⟩

/-- The positions of a stable sort, greatest first, on a column of distinct values. -/
theorem rank_sorted {a : Fin n → EReal} (ha : Function.Injective a) (before : Fin n → Fin n → Bool)
    (hb : ∀ i j, before i j = true ↔ a j < a i) (r : Fin n) : rank a (sortedFrom before r) = r.val := by
  have hinv : ∀ i j : Fin n, i < j → a (sortedFrom before j) < a (sortedFrom before i) := by
    intro i j hij
    have h1 := sortedFrom_noInversion before before
      (fun a b h => by
        rw [hb] at h
        exact Bool.eq_false_iff.mpr fun h' => absurd ((hb _ _).mp h') (not_lt.mpr h.le))
      (fun _ _ h => h)
      (fun p q r h h' => by
        refine Bool.eq_false_iff.mpr fun h'' => ?_
        have e1 : ¬ a q < a p := fun h3 => by rw [(hb _ _).mpr h3] at h; exact absurd h (by decide)
        have e2 : ¬ a r < a q := fun h3 => by rw [(hb _ _).mpr h3] at h'; exact absurd h' (by decide)
        exact absurd ((hb _ _).mp h'') (not_lt.mpr ((not_lt.mp e1).trans (not_lt.mp e2)))) i j hij
    refine lt_of_le_of_ne (not_lt.mp fun h => ?_) fun h => ?_
    · rw [(hb _ _).mpr h] at h1; exact absurd h1 (by decide)
    · exact absurd (sortedFrom_injective before (ha h)) (ne_of_gt hij)
  have hlt : ∀ i j : Fin n, a (sortedFrom before j) < a (sortedFrom before i) ↔ i < j := by
    intro i j
    refine ⟨fun h => ?_, hinv i j⟩
    by_contra h2
    rcases lt_or_eq_of_le (not_lt.mp h2) with h3 | h3
    · exact absurd (hinv j i h3) (not_lt.mpr h.le)
    · subst h3; exact lt_irrefl _ h
  unfold rank
  have : (Finset.univ.filter fun d' => a (sortedFrom before r) < a d') = (Finset.univ.filter fun i : Fin n => i < r).image (sortedFrom before) := by
    ext d
    simp only [Finset.mem_filter, Finset.mem_univ, true_and, Finset.mem_image]
    constructor
    · intro h
      obtain ⟨i, rfl⟩ := sortedFrom_surjective before d
      exact ⟨i, (hlt i r).mp h, rfl⟩
    · rintro ⟨i, hi, rfl⟩; exact (hlt i r).mpr hi
  rw [this, Finset.card_image_of_injective _ (sortedFrom_injective before)]
  have : (Finset.univ.filter fun i : Fin n => i < r) = Finset.Iio r := by ext; simp
  rw [this, Fin.card_Iio]

theorem exists_sorted_iff {a : Fin n → EReal} (ha : Function.Injective a) (before : Fin n → Fin n → Bool)
    (hb : ∀ i j, before i j = true ↔ a j < a i) (k : ℕ) (d : Fin n) :
    (∃ r : Fin n, r.val < k ∧ sortedFrom before r = d) ↔ rank a d < k := by
  constructor
  · rintro ⟨r, hr, rfl⟩; rw [rank_sorted ha before hb]; exact hr
  · intro h
    obtain ⟨r, rfl⟩ := sortedFrom_surjective before d
    rw [rank_sorted ha before hb] at h
    exact ⟨r, h, rfl⟩

end Cert.KernelIdeal.Top

end
-- ==== Proof.I.GramK.lean ====
module

public import proofs.«01_k».proof.Proof.I.HostK
public import proofs.«01_k».proof.Proof.I.Top
public import Idealize.ShloMosaic.Lib.IdealHost

@[expose] public section

/-! The second call: the scores it gathers, the seven greatest of each column, and the matrix it folds from them. -/

set_option maxRecDepth 16384

noncomputable section

namespace Cert.KernelIdeal.Val

open Cert.KernelIdeal Cert.KernelIdeal.Gen Cert.KernelIdeal.Pa Cert.Maths
open Cert.KernelIdeal.Bc (row0 row1 mOf)
open Idealize.ShloMosaic hiding ix1 ix2 ix3 ix4 ix5
open Idealize.ShloMosaic.TcCoe Idealize.ShloMosaic.ValueIdx Idealize.ShloMosaic.Tactic
open scoped BigOperators

theorem ninf : Ideal.ofBits .f32 0xFF800000#32 = ⊥ := by simp [Ideal.ofBits, Ideal.ieee]
theorem eps_real : ∃ r : ℝ, 0 < r ∧ eps = (r : EReal) := by
  refine ⟨9223372 * (2 ^ 63)⁻¹, by positivity, ?_⟩
  unfold eps
  simp [Ideal.ofBits, Ideal.ieee]
theorem eps_pos : 0 < eps := by
  obtain ⟨r, h, e⟩ := eps_real
  rw [e]; exact_mod_cast h
theorem nrm_ne (f : Fin 224 → Fin 224 → EReal) : nrm f ≠ 0 := (lt_of_lt_of_le eps_pos (le_max_right _ _)).ne'

/-! ### One column -/

/-- The greatest of each column, as the kernel takes it. -/
def colmax (X : S384x384.Idx → EReal) : S1x384.Idx → EReal :=
  shapeCast S1x384 (multiReduction (F := Ideal) (φ := .f32) .maximumf [0] S384 X 0xFF800000#32 reduces_S384x384_S384 (.inl rfl) rfl) shapeCasts_S384_S1x384

/-- Each column with its greatest struck out. -/
def strike (X : S384x384.Idx → EReal) : S384x384.Idx → EReal :=
  select (cmpf (F := Ideal) (φ := .f32) .oeq X (broadcastTo S384x384 (colmax X) broadcasts_S1x384_S384x384)) (broadcast S384x384 (Scalar.ofBits (F := Ideal) .f32 0xFF800000#32)) X

theorem colmax_at (X : S384x384.Idx → EReal) (c : Fin 384) : colmax X (ix2 0 c) = Top.mx (fun d => X (ix2 d c)) := by
  refine (shapeCast_apply _ _ (ix2 0 c) (ix1 c) (by simp only [rm2, rm1, Fin.val_zero]; omega)).trans ?_
  refine (Ideal.multiReduction_maximumf_single _ _ _ _ _ _).trans ?_
  have e : (X ∘ reduces_S384x384_S384.lift (ix1 c)) = fun d : Fin 384 => X (ix2 d c) :=
    funext fun d => congrArg X (funext fun e => match e with | ⟨0, _⟩ => rfl | ⟨1, _⟩ => rfl)
  unfold Top.mx Finset.sup
  rw [e]
  exact congrArg (fun b => Finset.univ.fold max b fun d : Fin 384 => X (ix2 d c)) ninf

theorem rowb_at (X : S1x384.Idx → EReal) (d c : Fin 384) : broadcastTo S384x384 X broadcasts_S1x384_S384x384 (ix2 d c) = X (ix2 0 c) :=
  broadcastTo_apply _ _ (ix2 d c) (ix2 0 c) (by intro e; match e with | ⟨0, _⟩ => rfl | ⟨1, _⟩ => rfl)

theorem sel (p : Prop) [Decidable p] {α : Type} (a b : α) : Scalar.select (BitVec.ofBool (decide p)) a b = if p then a else b := by
  by_cases h : p <;> simp [h, Scalar.select]

theorem strike_at (X : S384x384.Idx → EReal) (c : Fin 384) : (fun d => strike X (ix2 d c)) = Top.rm (fun d => X (ix2 d c)) := by
  funext d
  refine (sel (X (ix2 d c) = broadcastTo S384x384 (colmax X) broadcasts_S1x384_S384x384 (ix2 d c)) _ _).trans ?_
  rw [rowb_at, colmax_at]
  unfold Top.rm
  exact congrArg (fun b => if X (ix2 d c) = Top.mx (fun d => X (ix2 d c)) then b else X (ix2 d c)) ninf

/-- Each column with its six greatest values struck out, one after another. -/
abbrev strike6 (X : S384x384.Idx → EReal) : S384x384.Idx → EReal := strike (strike (strike (strike (strike (strike X)))))

theorem strike6_at (X : S384x384.Idx → EReal) (c : Fin 384) : (fun d => strike6 X (ix2 d c)) = Top.rm^[6] (fun d => X (ix2 d c)) := by
  rw [strike_at, strike_at, strike_at, strike_at, strike_at, strike_at]
  rfl

/-! ### The mask of the heads -/

theorem rowhead (d c : Fin 384) : k1_pay8 (ix2 d c) = BitVec.ofNat 32 (d.val / 48) := by
  have h : k1_pay8 (ix2 d 0) = BitVec.ofNat 32 (d.val / 48) := by revert d; decide +kernel
  exact h

/-- The column's head, as the kernel takes it. -/
def colw : IVec S384x384 32 :=
  select (andi (cmpi .ne k1_pay10 (broadcast S384x384 (Scalar.subi (Scalar.extui (Scalar.cmpi .sgt 48#32 0#32)) (Scalar.extui (Scalar.cmpi .slt 48#32 0#32)))))
      (cmpi .ne (remsi (iota .tc S384x384 32 [1] iota_S384x384_d1_w32) (broadcast S384x384 48#32)) (broadcast S384x384 0#32)))
    (subi k1_pay9 (broadcast S384x384 1#32)) k1_pay9

theorem colhead (d c : Fin 384) : colw (ix2 d c) = BitVec.ofNat 32 (c.val / 48) := by
  have h : colw (ix2 0 c) = BitVec.ofNat 32 (c.val / 48) := by revert c; decide +kernel
  exact h

/-- The scores of a column, all but its head's struck out. -/
def masked (X : S384x384.Idx → EReal) : S384x384.Idx → EReal :=
  k1_pay11 (F := Ideal) X k1_pay8 (iota .tc S384x384 32 [1] iota_S384x384_d1_w32) 48#32 k1_pay9 k1_pay10 (Scalar.extui (Scalar.cmpi .sgt 48#32 0#32)) (Scalar.extui (Scalar.cmpi .slt 48#32 0#32))

theorem masked_at (X : S384x384.Idx → EReal) (d c : Fin 384) : masked X (ix2 d c) = if d.val / 48 = c.val / 48 then X (ix2 d c) else ⊥ := by
  refine (sel (k1_pay8 (ix2 d c) = colw (ix2 d c)) (X (ix2 d c)) (Ideal.ofBits .f32 0xFF800000#32)).trans ?_
  rw [rowhead, colhead, ninf]
  have h : BitVec.ofNat 32 (d.val / 48) = BitVec.ofNat 32 (c.val / 48) ↔ d.val / 48 = c.val / 48 := by
    have := d.isLt
    have := c.isLt
    constructor
    · intro e
      have := congrArg BitVec.toNat e
      simp only [BitVec.toNat_ofNat] at this
      omega
    · intro e; rw [e]
  simp only [h]

/-! ### The folded matrix -/

/-- What a column keeps, exponentiated. -/
def ex7 (u : Fin 384 → EReal) (d : Fin 384) : EReal := if Top.mx (Top.rm^[6] u) ≤ u d then Ideal.exp (u d - Top.mx u) else 0

/-- A column's weights. -/
def wt (u : Fin 384 → EReal) (d : Fin 384) : EReal := Ideal.div (ex7 u d) (∑ e, ex7 u e)

theorem dotC (l r : S384x384.Idx → EReal) (d o : Fin 384) :
    matmul (F := Ideal) (φ₁ := .bf16) (φ₂ := .bf16) dot_S384x384_S384x384_S384x384_1_1_0_0_n_n none l r (constant S384x384 .f32 0x00000000#32) (ix2 d o)
      = ∑ c : Fin 384, l (ix2 d c) * r (ix2 o c) := by
  simp only [matmul]
  refine (Ideal.matmul_constant_zero_apply (φ₁ := .bf16) (φ₂ := .bf16) dot_S384x384_S384x384_S384x384_1_1_0_0_n_n none l r (ix2 d o)).trans ?_
  rw [← Equiv.sum_comp (contrEquiv1 dot_S384x384_S384x384_S384x384_1_1_0_0_n_n 384 rfl rfl).symm]
  refine Finset.sum_congr rfl fun c _ => ?_
  congr 1
  · exact congrArg l (funext fun e => match e with | ⟨0, _⟩ => rfl | ⟨1, _⟩ => rfl)
  · exact congrArg r (funext fun e => match e with | ⟨0, _⟩ => rfl | ⟨1, _⟩ => rfl)

theorem colsum384 (f : S384x384.Idx → EReal) (d c : Fin 384) :
    broadcastTo S384x384 (shapeCast S1x384 (multiReduction (F := Ideal) (φ := .f32) .add [0] S384 f 0x00000000#32 reduces_S384x384_S384 (.inl rfl) rfl) shapeCasts_S384_S1x384)
      broadcasts_S1x384_S384x384 (ix2 d c) = ∑ e : Fin 384, f (ix2 e c) := by
  refine (rowb_at _ d c).trans ((shapeCast_apply _ _ (ix2 0 c) (ix1 c) (by simp only [rm2, rm1, Fin.val_zero]; omega)).trans ?_)
  refine (Ideal.multiReduction_add_single _ _ _ _ _ _).trans (Finset.sum_congr rfl fun r _ => congrArg f ?_)
  exact funext fun e => match e with | ⟨0, _⟩ => rfl | ⟨1, _⟩ => rfl

/-- What the columns keep, exponentiated, as the kernel computes it from the scores and the struck scores. -/
def expK (X Z : S384x384.Idx → EReal) : S384x384.Idx → EReal :=
  select (cmpf (F := Ideal) (φ := .f32) .oge X (broadcastTo S384x384 (colmax Z) broadcasts_S1x384_S384x384))
    (exp (F := Ideal) (φ := .f32) (subf (F := Ideal) (φ := .f32) X (broadcastTo S384x384 (colmax X) broadcasts_S1x384_S384x384)))
    (broadcast S384x384 (Scalar.ofBits (F := Ideal) .f32 0x00000000#32))

theorem sel_oge {α : Type} (x y : EReal) (a b : α) : Scalar.select (Ideal.cmp .oge x y) a b = if y ≤ x then a else b := by
  unfold Ideal.cmp
  by_cases h : y ≤ x <;> simp [h, Scalar.select]

theorem expK_at' (X Z : S384x384.Idx → EReal) (d c : Fin 384) :
    expK X Z (ix2 d c) = if Top.mx (fun d => Z (ix2 d c)) ≤ X (ix2 d c) then Ideal.exp (X (ix2 d c) - Top.mx (fun d => X (ix2 d c))) else 0 := by
  rw [← colmax_at, ← colmax_at, ← rowb_at (colmax Z) d c, ← rowb_at (colmax X) d c, ← Ideal.ofBits_zero_f32]
  unfold expK
  rw [select_apply, cmpf_apply]
  generalize broadcastTo S384x384 (colmax Z) broadcasts_S1x384_S384x384 (ix2 d c) = z
  refine Eq.trans ?_ (sel_oge (X (ix2 d c)) z _ _)
  rfl

theorem expK_at (X : S384x384.Idx → EReal) (d c : Fin 384) : expK X (strike6 X) (ix2 d c) = ex7 (fun d => X (ix2 d c)) d := by
  unfold ex7
  rw [← strike6_at]
  exact expK_at' X (strike6 X) d c

/-- The folded matrix from the scores and the struck scores. -/
def foldM (X Z : S384x384.Idx → EReal) (p : S384x384.Idx → EReal) : S384x384.Idx → EReal :=
  matmul (F := Ideal) (φ₁ := .bf16) (φ₂ := .bf16) dot_S384x384_S384x384_S384x384_1_1_0_0_n_n none
    (divf (F := Ideal) (φ := .f32) (expK X Z) (broadcastTo S384x384 (shapeCast S1x384 (multiReduction (F := Ideal) (φ := .f32) .add [0] S384 (expK X Z) 0x00000000#32 reduces_S384x384_S384 (.inl rfl) rfl) shapeCasts_S384_S1x384)
      broadcasts_S1x384_S384x384)) p (constant S384x384 .f32 0x00000000#32)

theorem foldM_at (X p : S384x384.Idx → EReal) (d o : Fin 384) : foldM X (strike6 X) p (ix2 d o) = ∑ c : Fin 384, wt (fun d => X (ix2 d c)) d * p (ix2 o c) := by
  refine (dotC _ _ d o).trans (Finset.sum_congr rfl fun c _ => congrArg (· * p (ix2 o c)) ?_)
  refine congrArg₂ Ideal.div (expK_at X d c) ((colsum384 _ d c).trans (Finset.sum_congr rfl fun e _ => expK_at X e c))

/-- The kernel's five strikings and the greatest values it takes. -/
theorem pay12_eq (X : S384x384.Idx → EReal) :
    k1_pay12 (F := Ideal) X k1_pay8 (iota .tc S384x384 32 [1] iota_S384x384_d1_w32) 48#32 k1_pay9 k1_pay10 (Scalar.extui (Scalar.cmpi .sgt 48#32 0#32)) (Scalar.extui (Scalar.cmpi .slt 48#32 0#32))
      = colmax (masked X) := rfl
theorem pay13_eq (X : S384x384.Idx → EReal) :
    k1_pay13 (F := Ideal) X k1_pay8 (iota .tc S384x384 32 [1] iota_S384x384_d1_w32) 48#32 k1_pay9 k1_pay10 (Scalar.extui (Scalar.cmpi .sgt 48#32 0#32)) (Scalar.extui (Scalar.cmpi .slt 48#32 0#32))
      = strike (strike (strike (strike (strike (masked X))))) := by
  unfold k1_pay13
  rw [pay12_eq]
  unfold strike
  rfl
theorem pay14_eq (X : S384x384.Idx → EReal) :
    k1_pay14 (F := Ideal) X k1_pay8 (iota .tc S384x384 32 [1] iota_S384x384_d1_w32) 48#32 k1_pay9 k1_pay10 (Scalar.extui (Scalar.cmpi .sgt 48#32 0#32)) (Scalar.extui (Scalar.cmpi .slt 48#32 0#32))
      = colmax (strike (strike (strike (strike (strike (masked X)))))) := by
  unfold k1_pay14
  rw [pay13_eq]
  rfl

theorem pay5_eq (Y Z p : S384x384.Idx → EReal) : k1_pay5 (F := Ideal) Y (colmax Y) Z (colmax Z) p = foldM Y (strike Z) p := by
  have e : k1_pay5 (F := Ideal) Y (colmax Y) Z (colmax Z) p
      = shapeCast S384x384 (foldM Y (strike Z) (shapeCast S384x384 p shapeCasts_S384x384_S384x384)) shapeCasts_S384x384_S384x384 := rfl
  rw [e, shapeCast_self, shapeCast_self]

theorem mOf_eq (X9 : S384x384.Idx → EReal) (X4 : S1x384.Idx → EReal) (X5 : S384x384.Idx → EReal) :
    mOf (F := Ideal) X9 X4 X5 = foldM (masked (k1_pay7 (F := Ideal) X9 X4)) (strike6 (masked (k1_pay7 (F := Ideal) X9 X4))) X5 := by
  unfold mOf
  rw [pay12_eq, pay13_eq, pay14_eq]
  exact pay5_eq (masked (k1_pay7 (F := Ideal) X9 X4)) _ X5

/-! ### The scores -/

theorem dotG (l r : S3584x384.Idx → EReal) (d c : Fin 384) :
    matmul (F := Ideal) (φ₁ := .bf16) (φ₂ := .bf16) dot_S3584x384_S3584x384_S384x384_0_0_1_1_n_n none l r (constant S384x384 .f32 0x00000000#32) (ix2 d c)
      = ∑ p : Fin 3584, l (ix2 p d) * r (ix2 p c) := by
  simp only [matmul]
  refine (Ideal.matmul_constant_zero_apply (φ₁ := .bf16) (φ₂ := .bf16) dot_S3584x384_S3584x384_S384x384_0_0_1_1_n_n none l r (ix2 d c)).trans ?_
  rw [← Equiv.sum_comp (contrEquiv1 dot_S3584x384_S3584x384_S384x384_0_0_1_1_n_n 3584 rfl rfl).symm]
  refine Finset.sum_congr rfl fun p _ => ?_
  congr 1
  · exact congrArg l (funext fun e => match e with | ⟨0, _⟩ => rfl | ⟨1, _⟩ => rfl)
  · exact congrArg r (funext fun e => match e with | ⟨0, _⟩ => rfl | ⟨1, _⟩ => rfl)

theorem gram_at (q : S3584x384.Idx → EReal) (a : S1x384.Idx → EReal) (k : S3584x384.Idx → EReal) (b : S1x384.Idx → EReal) (d c : Fin 384) :
    k1_pay2 (F := Ideal) q a k b (ix2 d c) = ∑ p : Fin 3584, (k (ix2 p d) * b (ix2 0 d)) * (q (ix2 p c) * a (ix2 0 c)) := by
  unfold k1_pay2
  rw [shapeCast_self, shapeCast_self]
  refine (dotG _ _ d c).trans (Finset.sum_congr rfl fun p _ => congrArg₂ _ (congrArg (k (ix2 p d) * ·) ?_) (congrArg (q (ix2 p c) * ·) ?_))
  · exact broadcastTo_apply _ _ (ix2 p d) (ix2 0 d) (by intro e; match e with | ⟨0, _⟩ => rfl | ⟨1, _⟩ => rfl)
  · exact broadcastTo_apply _ _ (ix2 p c) (ix2 0 c) (by intro e; match e with | ⟨0, _⟩ => rfl | ⟨1, _⟩ => rfl)

theorem pay1_at (s : S8x384.Idx → EReal) (a : Fin 8) (o : Fin 384) : k1_pay1 (F := Ideal) s (ix2 a o) = Ideal.div 1 (max (Ideal.sqrt (s (ix2 a o))) eps) := by
  unfold k1_pay1
  rw [shapeCast_self, shapeCast_self]
  show Ideal.div (Ideal.ofBits .f32 0x3F800000#32) (max (Ideal.sqrt (s (ix2 a o))) eps) = _
  rw [Ideal.ofBits_one_f32]

theorem row0_at (X : S8x384.Idx → EReal) (o : Fin 384) : row0 (F := Ideal) X (ix2 0 o) = X (ix2 0 o) :=
  congrArg X (funext fun e => match e with
    | ⟨0, _⟩ => rfl
    | ⟨1, _⟩ => Fin.ext (show 0 + 1 * o.val = o.val by omega))
theorem row1_at (X : S8x384.Idx → EReal) (o : Fin 384) : row1 (F := Ideal) X (ix2 0 o) = X (ix2 1 o) :=
  congrArg X (funext fun e => match e with
    | ⟨0, _⟩ => rfl
    | ⟨1, _⟩ => Fin.ext (show 0 + 1 * o.val = o.val by omega))

theorem rows_at (A : S50176x384.Idx → EReal) (f : ℕ → Fin 384 → EReal) (hf : ∀ (p : Fin 50176) (o : Fin 384), A (ix2 p o) = f p.val o) (n : ℕ) (hn : n < 14) (r : Fin 3584) (o : Fin 384) :
    rowsAt (F := Ideal) (e := .f32) A n (ix2 r o) = f (3584 * n + r.val) o := by
  have hr := r.isLt
  refine (hf ⟨(n * 3584 + r.val) % 50176, _⟩ o).trans (congrArg (f · o) ?_)
  show (n * 3584 + r.val) % 50176 = _
  omega

theorem pay3_eq (q : S3584x384.Idx → EReal) (a : S1x384.Idx → EReal) (k : S3584x384.Idx → EReal) (b : S1x384.Idx → EReal) :
    k1_pay3 (F := Ideal) q a k b = k1_pay2 (F := Ideal) q a k b := shapeCast_self _ _
theorem pay4_eq (q : S3584x384.Idx → EReal) (a : S1x384.Idx → EReal) (k : S3584x384.Idx → EReal) (b : S1x384.Idx → EReal) (g : S384x384.Idx → EReal) :
    k1_pay4 (F := Ideal) q a k b g = addf (F := Ideal) (φ := .f32) g (k1_pay2 (F := Ideal) q a k b) := shapeCast_self _ _

/-- The gram matrix after its blocks up to `n`. -/
theorem gramAt_at (Q K : S50176x384.Idx → EReal) (s : S8x384.Idx → EReal) (q k : ℕ → Fin 384 → EReal)
    (hq : ∀ (p : Fin 50176) (o : Fin 384), Q (ix2 p o) = q p.val o) (hk : ∀ (p : Fin 50176) (o : Fin 384), K (ix2 p o) = k p.val o) (n : ℕ) (hn : n < 14) (d c : Fin 384) :
    gramAt (F := Ideal) Q K s n (ix2 d c) = ∑ t ∈ Finset.range (n + 1), ∑ r : Fin 3584,
      (k (3584 * t + r.val) d * Ideal.div 1 (max (Ideal.sqrt (s (ix2 1 d))) eps)) * (q (3584 * t + r.val) c * Ideal.div 1 (max (Ideal.sqrt (s (ix2 0 c))) eps)) := by
  have step : ∀ t, t < 14 → k1_pay2 (F := Ideal) (rowsAt (F := Ideal) (e := .f32) Q t) (row0 (F := Ideal) (k1_pay1 (F := Ideal) s)) (rowsAt (F := Ideal) (e := .f32) K t) (row1 (F := Ideal) (k1_pay1 (F := Ideal) s)) (ix2 d c)
      = ∑ r : Fin 3584, (k (3584 * t + r.val) d * Ideal.div 1 (max (Ideal.sqrt (s (ix2 1 d))) eps)) * (q (3584 * t + r.val) c * Ideal.div 1 (max (Ideal.sqrt (s (ix2 0 c))) eps)) := by
    intro t ht
    refine (gram_at _ _ _ _ d c).trans (Finset.sum_congr rfl fun r _ => ?_)
    rw [rows_at Q q hq t ht, rows_at K k hk t ht, row0_at, row1_at, pay1_at, pay1_at]
  induction n with
  | zero =>
    rw [Finset.sum_range_one]
    exact (congrFun (pay3_eq _ _ _ _) (ix2 d c)).trans (step 0 hn)
  | succ n ih =>
    rw [Finset.sum_range_succ, ← ih (by omega), ← step (n + 1) hn]
    exact congrFun (pay4_eq _ _ _ _ _) (ix2 d c)

/-- A sum over the pixels, row by row. -/
theorem sum_pixels (g : Fin 224 → Fin 224 → EReal) (f : ℕ → EReal) (h : ∀ i j : Fin 224, f (224 * i.val + j.val) = g i j) : ∑ p ∈ Finset.range 50176, f p = ∑ i, ∑ j, g i j := by
  rw [show (50176 : ℕ) = 224 * 224 from rfl, sum_blocks f 224 224, Finset.sum_range]
  exact Finset.sum_congr rfl fun i _ => Finset.sum_congr rfl fun j _ => h i j

variable (m : (ℓ : Loc nD τ sig) → Buf (Elt Ideal) ℓ) (c₀ : Dev nD)

theorem cv_pix (o : Fin 1152) (i j : Fin 224) : cv m c₀ o (224 * i.val + j.val) = conv (aW m c₀) (aX m c₀) (aD m c₀) o i.val j.val := by
  have := i.isLt
  have := j.isLt
  unfold cv
  rw [show (224 * i.val + j.val) / 224 = i.val by omega, show (224 * i.val + j.val) % 224 = j.val by omega]

/-- The scores of the kernel: key channel `d` against query channel `c`. -/
theorem scores_at (d c : Fin 384) :
    k1_pay7 (F := Ideal) (gramAt (F := Ideal) (W2 m c₀ main_v15_0) (W2 m c₀ main_v15_1) (W2 m c₀ main_v15_3) 13) (W2 m c₀ main_v12) (ix2 d c)
      = score (aW m c₀) (aX m c₀) (aD m c₀) (aT m c₀ (ix3 ⟨c.val / 48, by omega⟩ 0 0)) c d := by
  unfold k1_pay7
  rw [shapeCast_self]
  refine congrArg₂ (· * ·) ?_ ((rowb_at _ d c).trans (W2_t m c₀ c))
  refine (gramAt_at _ _ _ (fun p o => cv m c₀ (qc o) p) (fun p o => cv m c₀ (kc o) p) (W2_q m c₀) (W2_k m c₀) 13 (by omega) d c).trans ?_
  rw [W2_s0, W2_s1]
  rw [sum_pixels (fun i j => conv (aW m c₀) (aX m c₀) (aD m c₀) (qc c) i j * conv (aW m c₀) (aX m c₀) (aD m c₀) (qc c) i j) (fun p => cv m c₀ (qc c) p * cv m c₀ (qc c) p) (fun i j => by rw [cv_pix]),
    sum_pixels (fun i j => conv (aW m c₀) (aX m c₀) (aD m c₀) (kc d) i j * conv (aW m c₀) (aX m c₀) (aD m c₀) (kc d) i j) (fun p => cv m c₀ (kc d) p * cv m c₀ (kc d) p) (fun i j => by rw [cv_pix])]
  refine (sum_blocks (fun p => (cv m c₀ (kc d) p * Ideal.div 1 (nrm fun i j => conv (aW m c₀) (aX m c₀) (aD m c₀) (kc d) i j))
    * (cv m c₀ (qc c) p * Ideal.div 1 (nrm fun i j => conv (aW m c₀) (aX m c₀) (aD m c₀) (qc c) i j))) 3584 14).symm.trans ?_
  refine sum_pixels _ _ fun i j => ?_
  rw [Ideal.mul_one_div (nrm_ne _), Ideal.mul_one_div (nrm_ne _), cv_pix, cv_pix, mul_comm]

end Cert.KernelIdeal.Val

end
-- ==== Proof.I.OutK.lean ====
module

public import proofs.«01_k».proof.Proof.I.GramK

@[expose] public section

/-! What the kernel's result holds, from the arguments. -/

set_option maxRecDepth 16384

noncomputable section

namespace Cert.KernelIdeal.Val

open Cert.KernelIdeal Cert.KernelIdeal.Gen Cert.KernelIdeal.Pa Cert.Maths
open Cert.KernelIdeal.Bc (row0 row1 mOf)
open Idealize.ShloMosaic hiding ix1 ix2 ix3 ix4 ix5
open Idealize.ShloMosaic.TcCoe Idealize.ShloMosaic.ValueIdx Idealize.ShloMosaic.Tactic
open Idealize.ShloMosaic.Pipeline (afterRegion)
open scoped BigOperators

theorem dotV (l : S3584x384.Idx → EReal) (r : S384x384.Idx → EReal) (p : Fin 3584) (o : Fin 384) :
    matmul (F := Ideal) (φ₁ := .bf16) (φ₂ := .bf16) dot_S3584x384_S384x384_S3584x384_1_0_0_1_n_n none l r (constant S3584x384 .f32 0x00000000#32) (ix2 p o)
      = ∑ d : Fin 384, l (ix2 p d) * r (ix2 d o) := by
  simp only [matmul]
  refine (Ideal.matmul_constant_zero_apply (φ₁ := .bf16) (φ₂ := .bf16) dot_S3584x384_S384x384_S3584x384_1_0_0_1_n_n none l r (ix2 p o)).trans ?_
  rw [← Equiv.sum_comp (contrEquiv1 dot_S3584x384_S384x384_S3584x384_1_0_0_1_n_n 384 rfl rfl).symm]
  refine Finset.sum_congr rfl fun d _ => ?_
  congr 1
  · exact congrArg l (funext fun e => match e with | ⟨0, _⟩ => rfl | ⟨1, _⟩ => rfl)
  · exact congrArg r (funext fun e => match e with | ⟨0, _⟩ => rfl | ⟨1, _⟩ => rfl)

theorem pay6_at (v : S3584x384.Idx → EReal) (M : S384x384.Idx → EReal) (p : Fin 3584) (o : Fin 384) :
    k1_pay6 (F := Ideal) v M (ix2 p o) = ∑ d : Fin 384, v (ix2 p d) * M (ix2 d o) := by
  unfold k1_pay6
  rw [shapeCast_self]
  exact dotV _ _ p o

variable (m : (ℓ : Loc nD τ sig) → Buf (Elt Ideal) ℓ) (c₀ : Dev nD)

/-- Column `c` of the scores, its head's kept. -/
def col (c d : Fin 384) : EReal :=
  if d.val / 48 = c.val / 48 then score (aW m c₀) (aX m c₀) (aD m c₀) (aT m c₀ (ix3 ⟨c.val / 48, by omega⟩ 0 0)) c d else ⊥

theorem fold_at (d o : Fin 384) : foldIn (F := Ideal) (W2 m) c₀ (ix2 d o) = ∑ c : Fin 384, wt (col m c₀ c) d * aP m c₀ (ix4 o c 0 0) := by
  unfold foldIn fold
  rw [mOf_eq]
  refine (foldM_at _ _ d o).trans (Finset.sum_congr rfl fun c _ => congrArg₂ _ (congrArg (wt · d) (funext fun e => ?_)) (W2_p m c₀ o c))
  refine (masked_at _ e c).trans ?_
  rw [scores_at]
  rfl

theorem idx1_6 (t : Fin cfg1.N) : win1_6.index t = ![t.val - 14, 0] := by revert t; decide +kernel

/-- The product of the values and the folded matrix, at a pixel. -/
def outAt (p : ℕ) (o : Fin 384) : EReal := ∑ d : Fin 384, cv m c₀ (vc d) p * ∑ c : Fin 384, wt (col m c₀ c) d * aP m c₀ (ix4 o c 0 0)

theorem final1_6 : (dat1 (W2 m) c₀).arrAt 6 cfg1.N = fun i => outAt m c₀ (i 0).val (i 1) := by
  refine (dat1 (W2 m) c₀).arrAt_eq_of_covers 6 _ (by decide +kernel) fun t hf y => ?_
  have ht : t.val < 28 := t.isLt
  have hy : (y 0).val < 3584 := (y 0).isLt
  have e0 : ((((cfg1.win 6).blk t).view.emb y) 0).val = 3584 * (t.val - 14) + (y 0).val := by
    blk_simp [idx1_6]; omega
  have e1 : (((cfg1.win 6).blk t).view.emb y) 1 = y 1 := Fin.ext (by blk_simp [idx1_6])
  have key : k1_pay6 (F := Ideal) (rowsAt (F := Ideal) (vIn (F := Ideal) (W2 m) c₀) (t.val - 14)) (foldIn (F := Ideal) (W2 m) c₀) (ix2 (y 0) (y 1)) = outAt m c₀ (3584 * (t.val - 14) + (y 0).val) (y 1) := by
    refine (pay6_at _ _ (y 0) (y 1)).trans (Finset.sum_congr rfl fun d _ => congrArg₂ _ ?_ (fold_at m c₀ d (y 1)))
    exact rows_at (W2 m c₀ main_v15_2) (fun p o => cv m c₀ (vc o) p) (W2_v m c₀) (t.val - 14) (by omega) (y 0) d
  refine Eq.trans ?_ (key.trans ?_)
  · blk_simp; exact congrArg _ (ValueIdx.eq_ix2 y)
  · exact congrArg₂ (fun q p => outAt m c₀ p q) e1.symm e0.symm

theorem v18_eq : W4 m c₀ main_v18 = shapeCast S1x384x224x224 (transpose S384x50176 [1, 0] (W3 m c₀ main_v16) transposes_S50176x384_S384x50176_1_0) shapeCasts_S384x50176_S1x384x224x224 := by
  unfold_abbrev_sides
  after_results
  rfl

/-- The kernel's result at an element. -/
theorem out_at (o : Fin 384) (i j : Fin 224) : W4 m c₀ main_v18 (ix4 0 o i j) = outAt m c₀ (224 * i.val + j.val) o := by
  have hi := i.isLt
  have hj := j.isLt
  rw [v18_eq]
  refine (shapeCast_apply _ _ (ix4 0 o i j) (ix2 o (⟨224 * i.val + j.val, by omega⟩ : Fin 50176)) (by simp only [rm2, rm4, Fin.val_zero]; omega)).trans ?_
  refine (transpose_apply _ _ _ _ (ix2 (⟨224 * i.val + j.val, by omega⟩ : Fin 50176) o) (by intro e; match e with | ⟨0, _⟩ => rfl | ⟨1, _⟩ => rfl)).trans ?_
  exact congrFun ((Pipeline.afterRegion_arr (dat1 (W2 m) c₀) (W2 m c₀) launch1.win.arr_inj 6).trans (final1_6 m c₀)) _

end Cert.KernelIdeal.Val

end
-- ==== Proof.I.Ref.lean ====
module

public import proofs.«01_k».proof.Proof.Gen.ReferenceIdeal.Run
public import proofs.«01_k».proof.Proof.I.Maths
public import Idealize.ShloMosaic.Lib.TwoAxisContraction
public import Idealize.ShloMosaic.Lib.IdealHost
public import Idealize.ShloMosaic.Lib.KernelVsHost
public import Idealize.ShloMosaic.Lib.Pipeline.Value
public import Idealize.ShloMosaic.PureOps.Ideal.Laws

@[expose] public section

/-! The reference's values, named pieces first, as the maths. -/

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem
  Idealize.ShloMosaic.StableHlo Idealize.ShloMosaic.ValueIdx Cert.Maths
open scoped BigOperators

/-- The image. -/
abbrev X (V : Valuation τ sig (Elt Ideal)) : S1x384x224x224.Idx → EReal := V (Proc.devRef .tc main_arg0)
/-- The 1×1 weights. -/
abbrev W (V : Valuation τ sig (Elt Ideal)) : S1152x384x1x1.Idx → EReal := V (Proc.devRef .tc main_arg1)
/-- The depthwise weights. -/
abbrev D (V : Valuation τ sig (Elt Ideal)) : S1152x1x3x3.Idx → EReal := V (Proc.devRef .tc main_arg2)
/-- The projection. -/
abbrev P (V : Valuation τ sig (Elt Ideal)) : S384x384x1x1.Idx → EReal := V (Proc.devRef .tc main_arg3)
/-- The temperatures. -/
abbrev T (V : Valuation τ sig (Elt Ideal)) : S8x1x1.Idx → EReal := V (Proc.devRef .tc main_arg4)

theorem dotA (l : S1152x384.Idx → EReal) (r : S384x224x224.Idx → EReal) (o : Fin 1152) (a b : Fin 224) :
    Host.dotGeneral (F := Ideal) (φ₁ := .f32) (φ₂ := .f32) dot_S1152x384_S384x224x224_S1152x224x224_1_0_0_12_n_n none l r (ix3 o a b)
      = ∑ c : Fin 384, l (ix2 o c) * r (ix3 c a b) := by
  refine (Ideal.dotGeneral_apply _ _ _ _ _ _).trans ?_
  rw [← Equiv.sum_comp (contrEquiv1 dot_S1152x384_S384x224x224_S1152x224x224_1_0_0_12_n_n 384 rfl rfl).symm]
  refine Finset.sum_congr rfl fun c _ => ?_
  congr 1
  · exact congrArg l (funext fun e => match e with | ⟨0, _⟩ => rfl | ⟨1, _⟩ => rfl)
  · exact congrArg r (funext fun e => match e with | ⟨0, _⟩ => rfl | ⟨1, _⟩ => rfl | ⟨2, _⟩ => rfl)

theorem v3_at (V : Valuation τ sig (Elt Ideal)) (o : Fin 1152) (a b : Fin 226) :
    res_main_v3 V (ix3 o a b) = raw (W V) (X V) o a.val b.val := by
  unfold res_main_v3 raw
  split
  · rename_i h
    refine (pad_apply_of_inside _ _ _ _ _ _ _ _ (ix3 o ⟨a.val - 1, by omega⟩ ⟨b.val - 1, by omega⟩) (by
      intro e
      match e with
      | ⟨0, _⟩ => show o.val = 0 + o.val * (0 + 1); omega
      | ⟨1, _⟩ => show a.val = 1 + (a.val - 1) * (0 + 1); omega
      | ⟨2, _⟩ => show b.val = 1 + (b.val - 1) * (0 + 1); omega)).trans ?_
    refine (dotA _ _ _ _ _).trans (Finset.sum_congr rfl fun c _ => congrArg₂ _ ?_ ?_)
    · exact shapeCast_apply _ _ (ix2 o c) (ix4 o c 0 0) (by simp [Shape.rowMajor_val_four, Shape.rowMajor_val_two])
    · exact shapeCast_apply _ _ (ix3 c _ _) (ix4 0 c ⟨a.val - 1, by omega⟩ ⟨b.val - 1, by omega⟩) (by simp [Shape.rowMajor_val_four, Shape.rowMajor_val_three])
  · rename_i h
    have hz : ((((0#32 : BitVec 32).toInt : ℝ)) : EReal) = 0 := by simp
    by_cases ha : 1 ≤ a.val ∧ a.val ≤ 224
    · refine (pad_apply_of_not_inside _ _ _ _ _ _ _ _ (2 : Fin 3) ?_).trans hz
      show ¬(1 ≤ b.val ∧ (b.val - 1) % (0 + 1) = 0 ∧ (b.val - 1) / (0 + 1) < 224)
      omega
    · refine (pad_apply_of_not_inside _ _ _ _ _ _ _ _ (1 : Fin 3) ?_).trans hz
      show ¬(1 ≤ a.val ∧ (a.val - 1) % (0 + 1) = 0 ∧ (a.val - 1) / (0 + 1) < 224)
      omega

theorem v4_at (V : Valuation τ sig (Elt Ideal)) (o : Fin 1152) (a b : Fin 3) : res_main_v4 V (ix3 o a b) = D V (ix4 o 0 a b) :=
  shapeCast_apply _ _ (ix3 o a b) (ix4 o 0 a b) (by simp [Shape.rowMajor_val_four, Shape.rowMajor_val_three])

theorem tap_at (V : Valuation τ sig (Elt Ideal)) (o : Fin 1152) (i j : Fin 224) (a b : Fin 3)
    (h1 : S1152x3x3.Slices ![0, a.val, b.val] S1152x1x1) (h2 : S1152x226x226.Slices ![0, a.val, b.val] S1152x224x224) :
    mulf (F := Ideal) (φ := .f32) (broadcastInDim S1152x224x224 ![0, 1, 2] bcast_S1152x1x1_S1152x224x224_0_1_2 (broadcastInDim S1152x1x1 ![0] bcast_S1152_S1152x1x1_0
      (shapeCast S1152 (extractStridedSlice S1152x1x1 ![0, a.val, b.val] (res_main_v4 V) h1) shapeCasts_S1152x1x1_S1152)))
      (extractStridedSlice S1152x224x224 ![0, a.val, b.val] (res_main_v3 V) h2) (ix3 o i j) = tap (W V) (X V) (D V) o i.val j.val a b := by
  rw [mulf_apply]
  unfold tap
  rw [broadcastInDim_apply _ _ _ _ (ix3 o 0 0) (by intro e; match e with | ⟨0, _⟩ => rfl | ⟨1, _⟩ => rfl | ⟨2, _⟩ => rfl),
    broadcastInDim_apply _ _ _ _ (ix1 o) (by intro e; match e with | ⟨0, _⟩ => rfl),
    shapeCast_apply _ _ (ix1 o) (ix3 o 0 0) (by simp [Shape.rowMajor_val_one, Shape.rowMajor_val_three]),
    extractStridedSlice_apply _ _ _ _ (ix3 o a b) (by intro e; match e with | ⟨0, _⟩ => simp | ⟨1, _⟩ => simp | ⟨2, _⟩ => simp),
    extractStridedSlice_apply _ _ _ _ (ix3 o ⟨i.val + a.val, by omega⟩ ⟨j.val + b.val, by omega⟩) (by
      intro e; match e with | ⟨0, _⟩ => simp | ⟨1, _⟩ => exact Nat.add_comm _ _ | ⟨2, _⟩ => exact Nat.add_comm _ _),
    v4_at, v3_at]

theorem v68_at (V : Valuation τ sig (Elt Ideal)) (o : Fin 1152) (i j : Fin 224) : res_main_v68 V (ix3 o i j) = conv (W V) (X V) (D V) o i.val j.val := by
  unfold res_main_v68 conv
  simp only [addf_apply]
  have h := fun a b h1 h2 => tap_at V o i j a b h1 h2
  refine congrArg₂ _ (congrArg₂ _ (congrArg₂ _ (congrArg₂ _ (congrArg₂ _ (congrArg₂ _ (congrArg₂ _ (congrArg₂ _ (congrArg₂ _ ?_ (h 0 0 _ _)) (h 0 1 _ _)) (h 0 2 _ _)) (h 1 0 _ _)) (h 1 1 _ _)) (h 1 2 _ _)) (h 2 0 _ _)) (h 2 1 _ _)) (h 2 2 _ _)
  show Ideal.ofBits .f32 0x00000000#32 = 0
  exact Ideal.ofBits_zero_f32

end Cert.ReferenceIdeal.Val

end
-- ==== Proof.I.RefB.lean ====
module

public import proofs.«01_k».proof.Proof.I.Ref
public import proofs.«01_k».proof.Proof.I.Top

@[expose] public section

/-! The reference's scores, its seven greatest, its softmax and its result, as the maths. -/

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem
  Idealize.ShloMosaic.StableHlo Idealize.ShloMosaic.ValueIdx Cert.Maths
open Cert.KernelIdeal (Top.mx Top.rank Top.exists_sorted_iff)
open scoped BigOperators

variable (V : Valuation τ sig (Elt Ideal))

theorem heads_at (off : ℕ) (hs : S1152x224x224.Slices ![off, 0, 0] S384x224x224) (h : Fin 8) (n : Fin 48) (i j : Fin 224) (ho : off + 384 ≤ 1152) :
    shapeCast S8x48x224x224 (extractStridedSlice S384x224x224 ![off, 0, 0] (res_main_v68 V) hs) shapeCasts_S384x224x224_S8x48x224x224 (ix4 h n i j)
      = conv (W V) (X V) (D V) ⟨off + (ch h n).val, by omega⟩ i.val j.val := by
  refine (shapeCast_apply _ _ (ix4 h n i j) (ix3 (ch h n) i j) (by rw [rm3, rm4]; show ((48 * h.val + n.val) * 224 + i.val) * 224 + j.val = ((h.val * 48 + n.val) * 224 + i.val) * 224 + j.val; omega)).trans ?_
  refine (extractStridedSlice_apply _ _ _ _ (ix3 (⟨off + (ch h n).val, by omega⟩ : Fin 1152) i j) (by
    intro e; match e with | ⟨0, _⟩ => rfl | ⟨1, _⟩ => exact (Nat.zero_add _).symm | ⟨2, _⟩ => exact (Nat.zero_add _).symm)).trans ?_
  exact v68_at V _ i j

theorem v72_at (h : Fin 8) (n : Fin 48) (i j : Fin 224) : res_main_v72 V (ix4 h n i j) = conv (W V) (X V) (D V) (qc (ch h n)) i.val j.val := by
  refine (heads_at V 0 _ h n i j (by omega)).trans (congrArg (fun o => conv (W V) (X V) (D V) o i.val j.val) (Fin.ext (Nat.zero_add _)))
theorem v73_at (h : Fin 8) (n : Fin 48) (i j : Fin 224) : res_main_v73 V (ix4 h n i j) = conv (W V) (X V) (D V) (kc (ch h n)) i.val j.val :=
  heads_at V 384 _ h n i j (by omega)

theorem sumpix (x : S8x48x224x224.Idx → EReal) (h : Fin 8) (n : Fin 48) :
    Host.reduceAdd (F := Ideal) (φ := .f32) x (constant S_ .f32 0x00000000#32) reducesTo_S8x48x224x224_S8x48_d2_3 h_S_ (ix2 h n) = ∑ i : Fin 224, ∑ j : Fin 224, x (ix4 h n i j) := by
  refine Eq.trans (b := Ideal.hostReduceAdd reducesTo_S8x48x224x224_S8x48_d2_3 x (Ideal.ofBits .f32 0x00000000#32) (ix2 h n)) rfl ?_
  unfold Ideal.hostReduceAdd
  refine (congrArg (· + _) Ideal.ofBits_zero_f32).trans ((zero_add _).trans ?_)
  rw [← Fintype.sum_prod_type' (fun i j => x (ix4 h n i j))]
  refine Finset.sum_nbij' (fun i => ((i 2 : Fin 224), (i 3 : Fin 224))) (fun p => ix4 h n p.1 p.2) ?_ ?_ ?_ ?_ ?_
  · intro i _; exact Finset.mem_univ _
  · intro p _
    refine Finset.mem_filter.mpr ⟨Finset.mem_univ _, ?_⟩
    funext e
    match e with
    | ⟨0, _⟩ => rfl
    | ⟨1, _⟩ => rfl
  · intro i hi
    have hd := (Finset.mem_filter.mp hi).2
    have h0 : i 0 = h := congrFun hd (0 : Fin 2)
    have h1 : i 1 = n := congrFun hd (1 : Fin 2)
    funext e
    match e with
    | ⟨0, _⟩ => exact h0.symm
    | ⟨1, _⟩ => exact h1.symm
    | ⟨2, _⟩ => rfl
    | ⟨3, _⟩ => rfl
  · intro p _; rfl
  · intro i hi
    have hd := (Finset.mem_filter.mp hi).2
    have h0 : i 0 = h := congrFun hd (0 : Fin 2)
    have h1 : i 1 = n := congrFun hd (1 : Fin 2)
    refine congrArg x (funext fun e => ?_)
    match e with
    | ⟨0, _⟩ => exact h0
    | ⟨1, _⟩ => exact h1
    | ⟨2, _⟩ => rfl
    | ⟨3, _⟩ => rfl

theorem dotQK (l r : S8x48x224x224.Idx → EReal) (h : Fin 8) (a b : Fin 48) :
    Host.dotGeneral (F := Ideal) (φ₁ := .f32) (φ₂ := .f32) dot_S8x48x224x224_S8x48x224x224_S8x48x48_23_23_1_1_0_0 none l r (ix3 h a b)
      = ∑ i : Fin 224, ∑ j : Fin 224, l (ix4 h a i j) * r (ix4 h b i j) := by
  refine (Ideal.dotGeneral_apply _ _ _ _ _ _).trans ?_
  rw [sum_contr2 dot_S8x48x224x224_S8x48x224x224_S8x48x48_23_23_1_1_0_0 224 224 rfl rfl rfl]
  refine Finset.sum_congr rfl fun i _ => Finset.sum_congr rfl fun j _ => ?_
  congr 1
  · exact congrArg l (funext fun e => match e with | ⟨0, _⟩ => rfl | ⟨1, _⟩ => rfl | ⟨2, _⟩ => rfl | ⟨3, _⟩ => rfl)
  · exact congrArg r (funext fun e => match e with | ⟨0, _⟩ => rfl | ⟨1, _⟩ => rfl | ⟨2, _⟩ => rfl | ⟨3, _⟩ => rfl)

theorem normed_at (f : S8x48x224x224.Idx → EReal) (g : Fin 224 → Fin 224 → EReal) (h : Fin 8) (n : Fin 48) (hf : ∀ i j, f (ix4 h n i j) = g i j) (i j : Fin 224) :
    Host.divf (F := Ideal) (φ := .f32) f (broadcastInDim S8x48x224x224 ![0, 1, 2, 3] bcast_S8x48x1x1_S8x48x224x224_0_1_2_3 (maximumf (F := Ideal) (φ := .f32)
      (Host.sqrt (F := Ideal) (φ := .f32) (broadcastInDim S8x48x1x1 ![0, 1] bcast_S8x48_S8x48x1x1_0_1 (Host.reduceAdd (F := Ideal) (φ := .f32) (mulf (F := Ideal) (φ := .f32) f f) (constant S_ .f32 0x00000000#32) reducesTo_S8x48x224x224_S8x48_d2_3 h_S_)))
      (broadcastInDim S8x48x1x1 ![] bcast_S_S8x48x1x1 (constant S_ .f32 0x2B8CBCCC#32)))) (ix4 h n i j) = Ideal.div (g i j) (nrm g) := by
  refine congrArg₂ Ideal.div (hf i j) ?_
  refine (broadcastInDim_apply _ _ _ _ (ix4 h n (0 : Fin 1) (0 : Fin 1)) (by intro e; match e with | ⟨0, _⟩ => rfl | ⟨1, _⟩ => rfl | ⟨2, _⟩ => rfl | ⟨3, _⟩ => rfl)).trans ?_
  refine congrArg₂ max (congrArg Ideal.sqrt ?_) rfl
  refine (broadcastInDim_apply _ _ _ _ (ix2 h n) (by intro e; match e with | ⟨0, _⟩ => rfl | ⟨1, _⟩ => rfl)).trans ((sumpix _ h n).trans ?_)
  exact Finset.sum_congr rfl fun i _ => Finset.sum_congr rfl fun j _ => congrArg₂ (· * ·) (hf i j) (hf i j)

/-- The scores. -/
abbrev sc (h : Fin 8) (a b : Fin 48) : EReal := score (W V) (X V) (D V) (T V (ix3 h 0 0)) (ch h a) (ch h b)

theorem v93_at (h : Fin 8) (a b : Fin 48) : res_main_v93 V (ix3 h a b) = sc V h a b := by
  refine congrArg₂ (· * ·) ?_ ?_
  · refine (dotQK _ _ h a b).trans (Finset.sum_congr rfl fun i _ => Finset.sum_congr rfl fun j _ => congrArg₂ (· * ·) ?_ ?_)
    · exact normed_at (res_main_v72 V) (fun i j => conv (W V) (X V) (D V) (qc (ch h a)) i.val j.val) h a (v72_at V h a) i j
    · exact normed_at (res_main_v73 V) (fun i j => conv (W V) (X V) (D V) (kc (ch h b)) i.val j.val) h b (v73_at V h b) i j
  · exact broadcastInDim_apply _ _ _ _ (ix3 h 0 0) (by intro e; match e with | ⟨0, _⟩ => rfl | ⟨1, _⟩ => rfl | ⟨2, _⟩ => rfl)

end Cert.ReferenceIdeal.Val

end
-- ==== Proof.I.RefC.lean ====
module

public import proofs.«01_k».proof.Proof.I.RefB

@[expose] public section

/-! The reference's seven greatest scores of a row, its softmax and its result, as the maths. -/

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem
  Idealize.ShloMosaic.StableHlo Idealize.ShloMosaic.ValueIdx Cert.Maths
open scoped BigOperators

variable (V : Valuation τ sig (Elt Ideal))

/-- The order in which a row's entries come, greatest first. -/
def bef (x : S8x48x48.Idx → EReal) (h : Fin 8) (a : Fin 48) : Fin 48 → Fin 48 → Bool := fun k k' =>
  (FloatOps.cmpfTotal (F := Ideal) (φ := .f32) .gt (x (ix3 h a k)) (x (ix3 h a k')) == 1#1)

theorem bef_iff (x : S8x48x48.Idx → EReal) (h : Fin 8) (a : Fin 48) (k k' : Fin 48) : bef x h a k k' = true ↔ x (ix3 h a k') < x (ix3 h a k) := by
  show ((BitVec.ofBool (decide (x (ix3 h a k') < x (ix3 h a k)))) == 1#1) = true ↔ _
  by_cases hc : x (ix3 h a k') < x (ix3 h a k) <;> simp [hc]

theorem along_eq (h : Fin 8) (a k d : Fin 48) : Shape.Idx.along (s := S8x48x48) (ix3 h a d) (2 : Fin 3) k = ix3 h a k := by
  funext e
  match e with
  | ⟨0, _⟩ => rfl
  | ⟨1, _⟩ => rfl
  | ⟨2, _⟩ => rfl

theorem top_at (x : S8x48x48.Idx → EReal) (h : Fin 8) (a : Fin 48) (r : Fin 7) :
    (Host.topK S8x48x7 2 (FloatOps.cmpfTotal (F := Ideal) (φ := .f32) .gt) x sliceFits_S8x48x48_S8x48x7).2 (ix3 h a r)
      = BitVec.ofNat 32 (sortedFrom (bef x h a) ⟨r.val, by omega⟩).val := by
  refine Eq.trans (b := extractStridedSlice S8x48x7 (fun _ => 0) (Host.sort2 S8x48x48 2 (fun l r => FloatOps.cmpfTotal (F := Ideal) (φ := .f32) .gt l.1 r.1) x
    (iotaInDim S8x48x48 32 2)).2 sliceFits_S8x48x48_S8x48x7 (ix3 h a r)) rfl ?_
  refine (extractStridedSlice_apply (fun _ => 0) _ _ (ix3 h a r) (ix3 h a (⟨r.val, by omega⟩ : Fin 48)) (by
    intro e; match e with | ⟨0, _⟩ => exact (Nat.zero_add _).symm | ⟨1, _⟩ => exact (Nat.zero_add _).symm | ⟨2, _⟩ => exact (Nat.zero_add _).symm)).trans ?_
  unfold Host.sort2
  rw [dif_pos (show 2 < S8x48x48.rank by decide)]
  dsimp only
  refine Eq.trans (b := BitVec.ofNat 32 (Shape.Idx.along (s := S8x48x48) (ix3 h a (⟨r.val, by omega⟩ : Fin 48)) (2 : Fin 3) _ (2 : Fin 3)).val) rfl ?_
  refine congrArg (fun k : Fin 48 => BitVec.ofNat 32 k.val) ?_
  refine (Function.update_self _ _ _).trans ?_
  refine congrArg (fun f => sortedFrom (n := 48) f ⟨r.val, by omega⟩) (funext fun k => funext fun k' => ?_)
  unfold bef
  rw [← along_eq h a k ⟨r.val, by omega⟩, ← along_eq h a k' ⟨r.val, by omega⟩]
  rfl

theorem ones_pos (n : ℕ) (p : Fin n → Prop) [∀ r, Decidable (p r)] :
    (0 : EReal) < ∑ r, (((BitVec.ofBool (decide (p r))).toNat : ℝ) : EReal) ↔ ∃ r, p r := by
  have hn : ∀ r, (0 : EReal) ≤ (((BitVec.ofBool (decide (p r))).toNat : ℝ) : EReal) := fun r => by exact_mod_cast Nat.zero_le _
  constructor
  · intro h
    by_contra hc
    have : ∑ r, (((BitVec.ofBool (decide (p r))).toNat : ℝ) : EReal) = 0 := Finset.sum_eq_zero fun r _ => by
      have : ¬ p r := fun hp => hc ⟨r, hp⟩
      simp [this]
    rw [this] at h; exact lt_irrefl _ h
  · rintro ⟨r, hr⟩
    refine lt_of_lt_of_le (b := (((BitVec.ofBool (decide (p r))).toNat : ℝ) : EReal)) (by simp [hr]) ?_
    exact Finset.single_le_sum (f := fun r => (((BitVec.ofBool (decide (p r))).toNat : ℝ) : EReal)) (fun r _ => hn r) (Finset.mem_univ r)

theorem sumLast (x : S8x48x48.Idx → EReal) (h : Fin 8) (a : Fin 48) :
    Host.reduceAdd (F := Ideal) (φ := .f32) x (constant S_ .f32 0x00000000#32) reducesTo_S8x48x48_S8x48_d2 h_S_ (ix2 h a) = ∑ d : Fin 48, x (ix3 h a d) := by
  refine Eq.trans (b := Ideal.hostReduceAdd reducesTo_S8x48x48_S8x48_d2 x (Ideal.ofBits .f32 0x00000000#32) (ix2 h a)) rfl ?_
  refine (Ideal.hostReduceAdd_single reducesTo_S8x48x48_S8x48_d2 (by decide) x _ _).trans ?_
  refine (congrArg (· + _) Ideal.ofBits_zero_f32).trans ((zero_add _).trans ?_)
  refine Finset.sum_congr rfl fun d _ => congrArg x (funext fun e => ?_)
  match e with
  | ⟨0, _⟩ => rfl
  | ⟨1, _⟩ => rfl
  | ⟨2, _⟩ => rfl

theorem sumSeven (x : S8x48x7x48.Idx → EReal) (h : Fin 8) (a d : Fin 48) :
    Host.reduceAdd (F := Ideal) (φ := .f32) x (constant S_ .f32 0x00000000#32) reducesTo_S8x48x7x48_S8x48x48_d2 h_S_ (ix3 h a d) = ∑ r : Fin 7, x (ix4 h a r d) := by
  refine Eq.trans (b := Ideal.hostReduceAdd reducesTo_S8x48x7x48_S8x48x48_d2 x (Ideal.ofBits .f32 0x00000000#32) (ix3 h a d)) rfl ?_
  refine (Ideal.hostReduceAdd_single reducesTo_S8x48x7x48_S8x48x48_d2 (by decide) x _ _).trans ?_
  refine (congrArg (· + _) Ideal.ofBits_zero_f32).trans ((zero_add _).trans ?_)
  refine Finset.sum_congr rfl fun r _ => congrArg x (funext fun e => ?_)
  match e with
  | ⟨0, _⟩ => rfl
  | ⟨1, _⟩ => rfl
  | ⟨2, _⟩ => rfl
  | ⟨3, _⟩ => rfl

theorem fold_max {n : ℕ} (f : Fin n → EReal) : (Finset.univ : Finset (Fin n)).fold (FloatOps.maximumf (F := Ideal) (φ := .f32)) (⊥ : EReal) f = Finset.univ.sup f := rfl

theorem ninf' : Ideal.ofBits .f32 0xFF800000#32 = ⊥ := by
  simp [Ideal.ofBits, Ideal.ieee]

theorem maxLast (x : S8x48x48.Idx → EReal) (h : Fin 8) (a : Fin 48) :
    Host.reduce (FloatOps.maximumf (F := Ideal) (φ := .f32)) x (constant S_ .f32 0xFF800000#32) reducesTo_S8x48x48_S8x48_d2 h_S_ (ix2 h a) = Finset.univ.sup fun d : Fin 48 => x (ix3 h a d) := by
  refine (Host.reduce_eq_fold_single (FloatOps.maximumf (F := Ideal) (φ := .f32)) x _ reducesTo_S8x48x48_S8x48_d2 (by decide) h_S_ _).trans ?_
  refine Eq.trans (b := (Finset.univ : Finset (Fin 48)).fold (FloatOps.maximumf (F := Ideal) (φ := .f32)) (⊥ : EReal) (fun d : Fin 48 => x (ix3 h a d))) ?_ (fold_max _)
  refine congrArg₂ (fun b f => (Finset.univ : Finset (Fin 48)).fold (FloatOps.maximumf (F := Ideal) (φ := .f32)) b f) ninf' (funext fun d => congrArg x (funext fun e => ?_))
  match e with
  | ⟨0, _⟩ => rfl
  | ⟨1, _⟩ => rfl
  | ⟨2, _⟩ => rfl

theorem ofNat_eq_iff (i d : Fin 48) : BitVec.ofNat 32 i.val = BitVec.ofNat 32 d.val ↔ i = d := by
  constructor
  · intro h
    have := congrArg BitVec.toNat h
    simp only [BitVec.toNat_ofNat] at this
    exact Fin.ext (by omega)
  · rintro rfl; rfl

/-- How many of the seven places hold entry `d`. -/
theorem mask_at (x : S8x48x48.Idx → EReal) (h : Fin 8) (a d : Fin 48) :
    Host.reduceAdd (F := Ideal) (φ := .f32) (uitofp (F := Ideal) .f32 (cmpi .eq (broadcastInDim S8x48x7x48 ![0, 1, 2, 3] bcast_S8x48x7x1_S8x48x7x48_0_1_2_3 (broadcastInDim S8x48x7x1 ![0, 1, 2] bcast_S8x48x7_S8x48x7x1_0_1_2
      ((Host.topK S8x48x7 2 (FloatOps.cmpfTotal (F := Ideal) (φ := .f32) .gt) x sliceFits_S8x48x48_S8x48x7).2))) (broadcastInDim S8x48x7x48 ![0, 1, 2, 3] bcast_S1x1x1x48_S8x48x7x48_0_1_2_3 (iotaInDim S1x1x1x48 32 3))))
      (constant S_ .f32 0x00000000#32) reducesTo_S8x48x7x48_S8x48x48_d2 h_S_ (ix3 h a d)
      = ∑ r : Fin 7, (((BitVec.ofBool (decide (sortedFrom (bef x h a) ⟨r.val, by omega⟩ = d))).toNat : ℝ) : EReal) := by
  refine (sumSeven _ h a d).trans (Finset.sum_congr rfl fun r _ => ?_)
  have ht := top_at x h a r
  generalize (Host.topK S8x48x7 2 (FloatOps.cmpfTotal (F := Ideal) (φ := .f32) .gt) x sliceFits_S8x48x48_S8x48x7).2 = y at ht ⊢
  refine congrArg (fun b : BitVec 1 => ((b.toNat : ℝ) : EReal)) ?_
  refine Eq.trans (b := BitVec.ofBool (BitVec.ofNat 32 (sortedFrom (bef x h a) ⟨r.val, by omega⟩).val == BitVec.ofNat 32 d.val)) ?_ ?_
  · refine congrArg₂ (fun p q : BitVec 32 => BitVec.ofBool (p == q)) ?_ ?_
    · refine (broadcastInDim_apply _ _ _ _ (ix4 h a r (0 : Fin 1)) (by intro e; match e with | ⟨0, _⟩ => rfl | ⟨1, _⟩ => rfl | ⟨2, _⟩ => rfl | ⟨3, _⟩ => rfl)).trans ?_
      refine (broadcastInDim_apply _ _ _ _ (ix3 h a r) (by intro e; match e with | ⟨0, _⟩ => rfl | ⟨1, _⟩ => rfl | ⟨2, _⟩ => rfl)).trans ht
    · exact (broadcastInDim_apply _ _ _ _ (ix4 (0 : Fin 1) (0 : Fin 1) (0 : Fin 1) d) (by intro e; match e with | ⟨0, _⟩ => rfl | ⟨1, _⟩ => rfl | ⟨2, _⟩ => rfl | ⟨3, _⟩ => rfl)).trans rfl
  · refine congrArg BitVec.ofBool (Bool.eq_iff_iff.mpr ?_)
    rw [beq_iff_eq, decide_eq_true_iff]
    exact ofNat_eq_iff _ _

theorem v99_at (h : Fin 8) (a : Fin 48) (hi : Function.Injective (sc V h a)) (d : Fin 48) : res_main_v99 V (ix3 h a d) = kept (sc V h a) d := by
  have hx : (fun k => res_main_v93 V (ix3 h a k)) = sc V h a := funext fun k => v93_at V h a k
  unfold res_main_v99
  generalize hv : res_main_v93 V = x at hx ⊢
  refine (select_apply _ _ _ _).trans ?_
  refine Eq.trans (b := Scalar.select (BitVec.ofBool (decide ((0 : EReal) < ∑ r : Fin 7,
      (((BitVec.ofBool (decide (sortedFrom (bef x h a) ⟨r.val, by omega⟩ = d))).toNat : ℝ) : EReal)))) (sc V h a d) ⊥) ?_ ?_
  · refine congr (congr (congrArg Scalar.select ?_) (congrFun hx d)) ninf'
    refine (cmpf_apply _ _ _ _).trans ?_
    refine congrArg₂ (fun (s z : EReal) => BitVec.ofBool (decide (z < s))) ?_ Ideal.ofBits_zero_f32
    exact mask_at x h a d
  · have hb : ∀ i j, bef x h a i j = true ↔ sc V h a j < sc V h a i := fun i j => by
      rw [bef_iff, ← congrFun hx i, ← congrFun hx j]
    have hk := Cert.KernelIdeal.Top.exists_sorted_iff hi (bef x h a) hb 7 d
    have hs := ones_pos 7 (fun r => sortedFrom (bef x h a) ⟨r.val, by omega⟩ = d)
    unfold kept
    have hiff : (0 : EReal) < ∑ r : Fin 7, (((BitVec.ofBool (decide (sortedFrom (bef x h a) ⟨r.val, by omega⟩ = d))).toNat : ℝ) : EReal) ↔ above (sc V h a) d < 7 := by
      refine hs.trans (Iff.trans ⟨?_, ?_⟩ hk)
      · rintro ⟨r, hr⟩; exact ⟨⟨r.val, by omega⟩, r.isLt, hr⟩
      · rintro ⟨r, hr, he⟩; exact ⟨⟨r.val, hr⟩, he⟩
    by_cases hc : above (sc V h a) d < 7
    · rw [if_pos hc, decide_eq_true (hiff.mpr hc)]; rfl
    · rw [if_neg hc, decide_eq_false (fun h' => hc (hiff.mp h'))]; rfl

theorem v106_at (h : Fin 8) (a : Fin 48) (hi : Function.Injective (sc V h a)) (d : Fin 48) :
    res_main_v106 V (ix3 h a d) = Ideal.exp (kept (sc V h a) d - Finset.univ.sup (kept (sc V h a))) := by
  have hx : (fun k => res_main_v99 V (ix3 h a k)) = kept (sc V h a) := funext fun k => v99_at V h a hi k
  unfold res_main_v106
  generalize res_main_v99 V = x at hx ⊢
  refine congrArg Ideal.exp (congrArg₂ (· - ·) (congrFun hx d) ?_)
  refine (broadcastInDim_apply _ _ _ _ (ix3 h a (0 : Fin 1)) (by intro e; match e with | ⟨0, _⟩ => rfl | ⟨1, _⟩ => rfl | ⟨2, _⟩ => rfl)).trans ?_
  refine (broadcastInDim_apply _ _ _ _ (ix2 h a) (by intro e; match e with | ⟨0, _⟩ => rfl | ⟨1, _⟩ => rfl)).trans ?_
  refine (congrArg₂ max ninf' ((maxLast x h a).trans (congrArg _ hx))).trans (max_eq_right bot_le)

theorem attn_at (h : Fin 8) (a : Fin 48) (hi : Function.Injective (sc V h a)) (d : Fin 48) :
    Host.divf (F := Ideal) (φ := .f32) (res_main_v106 V) (broadcastInDim S8x48x48 ![0, 1, 2] bcast_S8x48x1_S8x48x48_0_1_2 (broadcastInDim S8x48x1 ![0, 1] bcast_S8x48_S8x48x1_0_1
      (Host.reduceAdd (F := Ideal) (φ := .f32) (res_main_v106 V) (constant S_ .f32 0x00000000#32) reducesTo_S8x48x48_S8x48_d2 h_S_))) (ix3 h a d)
      = soft (kept (sc V h a)) d := by
  refine congrArg₂ Ideal.div (v106_at V h a hi d) ?_
  refine (broadcastInDim_apply _ _ _ _ (ix3 h a (0 : Fin 1)) (by intro e; match e with | ⟨0, _⟩ => rfl | ⟨1, _⟩ => rfl | ⟨2, _⟩ => rfl)).trans ?_
  refine (broadcastInDim_apply _ _ _ _ (ix2 h a) (by intro e; match e with | ⟨0, _⟩ => rfl | ⟨1, _⟩ => rfl)).trans ?_
  exact (sumLast _ h a).trans (Finset.sum_congr rfl fun e _ => v106_at V h a hi e)

theorem dotAV (l : S8x48x48.Idx → EReal) (r : S8x48x224x224.Idx → EReal) (h : Fin 8) (a : Fin 48) (i j : Fin 224) :
    Host.dotGeneral (F := Ideal) (φ₁ := .f32) (φ₂ := .f32) dot_S8x48x48_S8x48x224x224_S8x48x224x224_2_1_1_23_0_0 none l r (ix4 h a i j)
      = ∑ d : Fin 48, l (ix3 h a d) * r (ix4 h d i j) := by
  refine (Ideal.dotGeneral_apply _ _ _ _ _ _).trans ?_
  rw [← Equiv.sum_comp (contrEquiv1 dot_S8x48x48_S8x48x224x224_S8x48x224x224_2_1_1_23_0_0 48 rfl rfl).symm]
  refine Finset.sum_congr rfl fun d _ => ?_
  congr 1
  · exact congrArg l (funext fun e => match e with | ⟨0, _⟩ => rfl | ⟨1, _⟩ => rfl | ⟨2, _⟩ => rfl)
  · exact congrArg r (funext fun e => match e with | ⟨0, _⟩ => rfl | ⟨1, _⟩ => rfl | ⟨2, _⟩ => rfl | ⟨3, _⟩ => rfl)

theorem dotP (l : S384x384.Idx → EReal) (r : S384x224x224.Idx → EReal) (o : Fin 384) (i j : Fin 224) :
    Host.dotGeneral (F := Ideal) (φ₁ := .f32) (φ₂ := .f32) dot_S384x384_S384x224x224_S384x224x224_1_0_0_12_n_n none l r (ix3 o i j)
      = ∑ c : Fin 384, l (ix2 o c) * r (ix3 c i j) := by
  refine (Ideal.dotGeneral_apply _ _ _ _ _ _).trans ?_
  rw [← Equiv.sum_comp (contrEquiv1 dot_S384x384_S384x224x224_S384x224x224_1_0_0_12_n_n 384 rfl rfl).symm]
  refine Finset.sum_congr rfl fun d _ => ?_
  congr 1
  · exact congrArg l (funext fun e => match e with | ⟨0, _⟩ => rfl | ⟨1, _⟩ => rfl)
  · exact congrArg r (funext fun e => match e with | ⟨0, _⟩ => rfl | ⟨1, _⟩ => rfl | ⟨2, _⟩ => rfl)

/-- The reference's result. -/
abbrev res : S1x384x224x224.Idx → EReal :=
  shapeCast S1x384x224x224 (Host.dotGeneral (F := Ideal) (φ₁ := .f32) (φ₂ := .f32) dot_S384x384_S384x224x224_S384x224x224_1_0_0_12_n_n none (shapeCast _ (V (Proc.devRef .tc main_arg3)) shapeCasts_S384x384x1x1_S384x384) (shapeCast _ (Host.dotGeneral (F := Ideal) (φ₁ := .f32) (φ₂ := .f32) dot_S8x48x48_S8x48x224x224_S8x48x224x224_2_1_1_23_0_0 none (Host.divf (F := Ideal) (φ := .f32) (res_main_v106 V) (broadcastInDim S8x48x48 ![0, 1, 2] bcast_S8x48x1_S8x48x48_0_1_2 (broadcastInDim S8x48x1 ![0, 1] bcast_S8x48_S8x48x1_0_1 (Host.reduceAdd (F := Ideal) (φ := .f32) (res_main_v106 V) (constant S_ .f32 0x00000000#32) reducesTo_S8x48x48_S8x48_d2 h_S_)))) (shapeCast _ (extractStridedSlice S384x224x224 ![768, 0, 0] (res_main_v68 V) slices_S1152x224x224_S384x224x224_768_0_0) shapeCasts_S384x224x224_S8x48x224x224)) shapeCasts_S8x48x224x224_S384x224x224)) shapeCasts_S384x224x224_S1x384x224x224

theorem res_at (hi : ∀ h a, Function.Injective (sc V h a)) (o : Fin 384) (i j : Fin 224) :
    res V (ix4 0 o i j) = ∑ c : Fin 384, P V (ix4 o c 0 0) * ∑ d : Fin 48, soft (kept (sc V ⟨c.val / 48, by omega⟩ ⟨c.val % 48, by omega⟩)) d
      * conv (W V) (X V) (D V) (vc (ch ⟨c.val / 48, by omega⟩ d)) i.val j.val := by
  refine (shapeCast_apply _ _ (ix4 (0 : Fin 1) o i j) (ix3 o i j) (by rw [rm3, rm4]; simp only [Fin.val_zero]; omega)).trans ?_
  refine (dotP _ _ o i j).trans (Finset.sum_congr rfl fun c _ => congrArg₂ (· * ·) ?_ ?_)
  · exact shapeCast_apply _ _ (ix2 o c) (ix4 o c (0 : Fin 1) (0 : Fin 1)) (by rw [rm2, rm4]; simp only [Fin.val_zero]; omega)
  · refine (shapeCast_apply _ _ (ix3 c i j) (ix4 (⟨c.val / 48, by omega⟩ : Fin 8) (⟨c.val % 48, by omega⟩ : Fin 48) i j) (by
      rw [rm3, rm4]; show ((c.val / 48 * 48 + c.val % 48) * 224 + i.val) * 224 + j.val = (c.val * 224 + i.val) * 224 + j.val; omega)).trans ?_
    refine (dotAV _ _ _ _ i j).trans (Finset.sum_congr rfl fun d _ => congrArg₂ (· * ·) (attn_at V _ _ (hi _ _) d) ?_)
    exact heads_at V 768 _ _ d i j (by omega)

end Cert.ReferenceIdeal.Val

end
-- ==== Proof.I.Glue.lean ====
module

public import proofs.«01_k».proof.Proof.I.OutK

@[expose] public section

/-! The kernel's weights of a column are the softmax of its row's seven greatest, and its order of summing is the reference's. -/

set_option maxRecDepth 16384

noncomputable section

namespace Cert.Glue

open Cert.Maths Idealize.ShloMosaic Cert.KernelIdeal
open Cert.KernelIdeal.Val (ex7 wt)
open scoped BigOperators

/-! ### Real values -/

/-- A value that is a real number. -/
def IsR (x : EReal) : Prop := ∃ r : ℝ, x = (r : EReal)

theorem IsR.add {x y : EReal} : IsR x → IsR y → IsR (x + y) := by
  rintro ⟨a, rfl⟩ ⟨b, rfl⟩; exact ⟨a + b, (EReal.coe_add a b).symm⟩
theorem IsR.mul {x y : EReal} : IsR x → IsR y → IsR (x * y) := by
  rintro ⟨a, rfl⟩ ⟨b, rfl⟩; exact ⟨a * b, (EReal.coe_mul a b).symm⟩
theorem IsR.zero : IsR 0 := ⟨0, rfl⟩
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]
theorem IsR.sum {ι : Type} {s : Finset ι} {f : ι → EReal} (h : ∀ i ∈ s, IsR (f i)) : IsR (∑ i ∈ s, f i) :=
  Finset.sum_induction _ IsR (fun _ _ => IsR.add) IsR.zero h
theorem IsR.div {x y : EReal} : IsR x → IsR y → y ≠ 0 → IsR (Ideal.div x y) := by
  rintro ⟨a, rfl⟩ ⟨b, rfl⟩ h
  unfold Ideal.div
  rw [if_neg h, ← EReal.coe_inv]
  exact ⟨a * b⁻¹, (EReal.coe_mul _ _).symm⟩
theorem IsR.max {x y : EReal} (hx : IsR x) (hy : IsR y) : IsR (max x y) := by
  rcases max_choice x y with h | h <;> rw [h] <;> assumption
theorem IsR.exp {x : EReal} : IsR x → IsR (Ideal.exp x) := by
  rintro ⟨a, rfl⟩; exact ⟨Real.exp a, rfl⟩
theorem IsR.sub {x y : EReal} : IsR x → IsR y → IsR (x - y) := by
  rintro ⟨a, rfl⟩ ⟨b, rfl⟩; exact ⟨a - b, (EReal.coe_sub a b).symm⟩
theorem IsR.sqrt {x : EReal} (h0 : 0 ≤ x) : IsR x → IsR (Ideal.sqrt x) := by
  rintro ⟨a, rfl⟩
  refine ⟨Real.sqrt a, ?_⟩
  show (if a < 0 then ⊥ else (Real.sqrt a : EReal)) = _
  rw [if_neg (not_lt.mpr (EReal.coe_nonneg.mp h0))]
theorem IsR.ne_bot {x : EReal} : IsR x → x ≠ ⊥ := by
  rintro ⟨a, rfl⟩; exact EReal.coe_ne_bot a
theorem IsR.mul_self_nonneg {x : EReal} : IsR x → 0 ≤ x * x := by
  rintro ⟨a, rfl⟩; rw [← EReal.coe_mul]; exact EReal.coe_nonneg.mpr (_root_.mul_self_nonneg a)

theorem isR_raw {w : _} {x : _} (hw : ∀ i, IsR (w i)) (hx : ∀ i, IsR (x i)) (o : Fin 1152) (a b : ℕ) : IsR (raw w x o a b) := by
  unfold raw
  split
  · exact IsR.sum fun c _ => (hw _).mul (hx _)
  · exact IsR.zero

theorem isR_conv {w : _} {x : _} {d : _} (hw : ∀ i, IsR (w i)) (hx : ∀ i, IsR (x i)) (hd : ∀ i, IsR (d i)) (o : Fin 1152) (i j : ℕ) : IsR (conv w x d o i j) := by
  have ht : ∀ a b, IsR (tap w x d o i j a b) := fun a b => (hd _).mul (isR_raw hw hx _ _ _)
  exact (((((((((IsR.zero.add (ht _ _)).add (ht _ _)).add (ht _ _)).add (ht _ _)).add (ht _ _)).add (ht _ _)).add (ht _ _)).add (ht _ _)).add (ht _ _))

theorem isR_nrm {f : Fin 224 → Fin 224 → EReal} (hf : ∀ i j, IsR (f i j)) : IsR (nrm f) := by
  obtain ⟨e, _, he⟩ := Cert.KernelIdeal.Val.eps_real
  refine IsR.max (IsR.sqrt ?_ (IsR.sum fun i _ => IsR.sum fun j _ => (hf i j).mul (hf i j))) ⟨e, he⟩
  exact Finset.sum_nonneg fun i _ => Finset.sum_nonneg fun j _ => (hf i j).mul_self_nonneg

theorem isR_score {w : _} {x : _} {dw : _} {t : EReal} (hw : ∀ i, IsR (w i)) (hx : ∀ i, IsR (x i)) (hd : ∀ i, IsR (dw i)) (ht : IsR t) (c d : Fin 384) :
    IsR (score w x dw t c d) := by
  refine IsR.mul (IsR.sum fun i _ => IsR.sum fun j _ => IsR.mul ?_ ?_) ht
  · exact (isR_conv hw hx hd _ _ _).div (isR_nrm fun i j => isR_conv hw hx hd _ _ _) (Cert.KernelIdeal.Val.nrm_ne _)
  · exact (isR_conv hw hx hd _ _ _).div (isR_nrm fun i j => isR_conv hw hx hd _ _ _) (Cert.KernelIdeal.Val.nrm_ne _)

/-! ### One column -/

/-- A column of the kernel's scores holds one row of one head and nothing else. -/
structure Holds (u : Fin 384 → EReal) (h : Fin 8) (a : Fin 48 → EReal) : Prop where
  at_ch : ∀ i, u (ch h i) = a i
  off : ∀ d, (∀ i, ch h i ≠ d) → u d = ⊥
  isR : ∀ i, IsR (a i)
  inj : Function.Injective a

theorem ch_inj (h : Fin 8) : Function.Injective (ch h) := fun i j e => by
  have := congrArg Fin.val e
  simp only [ch] at this
  exact Fin.ext (by omega)

variable {u : Fin 384 → EReal} {h : Fin 8} {a : Fin 48 → EReal}

theorem Holds.on (H : Holds u h a) (d : Fin 384) (hd : u d ≠ ⊥) : ∃ i, ch h i = d := by
  by_contra hc
  exact hd (H.off d fun i e => hc ⟨i, e⟩)

theorem Holds.dist (H : Holds u h a) : Top.Dist u := by
  intro d d' hd e
  obtain ⟨i, rfl⟩ := H.on d hd
  obtain ⟨i', rfl⟩ := H.on d' (e ▸ hd)
  rw [H.at_ch, H.at_ch] at e
  rw [H.inj e]

theorem Holds.mx (H : Holds u h a) : Top.mx u = Finset.univ.sup a := by
  refine le_antisymm (Finset.sup_le fun d _ => ?_) (Finset.sup_le fun i _ => ?_)
  · by_cases hd : u d = ⊥
    · rw [hd]; exact bot_le
    · obtain ⟨i, rfl⟩ := H.on d hd
      rw [H.at_ch]; exact Finset.le_sup (f := a) (Finset.mem_univ i)
  · rw [← H.at_ch i]; exact Top.le_mx u _

theorem exists_top (a : Fin 48 → EReal) : ∃ i, a i = Finset.univ.sup a ∧ above a i = 0 := by
  obtain ⟨i, _, hi⟩ := Finset.exists_max_image (Finset.univ : Finset (Fin 48)) a ⟨0, Finset.mem_univ _⟩
  refine ⟨i, le_antisymm (Finset.le_sup (f := a) (Finset.mem_univ i)) (Finset.sup_le hi), ?_⟩
  unfold above
  rw [Finset.card_eq_zero, Finset.filter_eq_empty_iff]
  exact fun j hj => not_lt.mpr (hi j hj)

theorem kept_le (a : Fin 48 → EReal) (i : Fin 48) : kept a i ≤ a i := by
  unfold kept
  split
  · exact le_rfl
  · exact bot_le

theorem sup_kept (a : Fin 48 → EReal) : Finset.univ.sup (kept a) = Finset.univ.sup a := by
  refine le_antisymm (Finset.sup_mono_fun fun i _ => kept_le a i) ?_
  obtain ⟨i, hi, h0⟩ := exists_top a
  have hk : kept a i = a i := by unfold kept; rw [h0, if_pos (by decide)]
  rw [← hi, ← hk]
  exact Finset.le_sup (f := kept a) (Finset.mem_univ i)

theorem exp_bot_sub (m : EReal) : Ideal.exp (⊥ - m) = 0 := by
  rw [EReal.bot_sub]; rfl

theorem Holds.ex_at (H : Holds u h a) (i : Fin 48) : ex7 u (ch h i) = Ideal.exp (kept a i - Finset.univ.sup (kept a)) := by
  have hne : u (ch h i) ≠ ⊥ := by rw [H.at_ch]; exact (H.isR i).ne_bot
  have ht := Top.thr_iff H.dist (ch h i) 6
  have hr : Top.rank u (ch h i) = above a i := Top.rank_embed u a (ch h) (ch_inj h) H.at_ch H.on i
  rw [hr] at ht
  unfold ex7
  rw [sup_kept, H.mx, H.at_ch] at *
  unfold kept
  by_cases hc : above a i < 7
  · rw [if_pos hc, if_pos (ht.mpr ⟨hc, hne⟩).1]
  · rw [if_neg hc, if_neg (fun hl => hc (ht.mp ⟨hl, hne⟩).1), exp_bot_sub]

theorem Holds.ex_off (H : Holds u h a) (d : Fin 384) (hd : ∀ i, ch h i ≠ d) : ex7 u d = 0 := by
  unfold ex7
  rw [H.off d hd, exp_bot_sub]
  exact ite_self _

theorem sum_block (h : Fin 8) (f : Fin 48 → EReal) (g : Fin 384 → EReal) (hon : ∀ i, f i = g (ch h i)) (hoff : ∀ d, (∀ i, ch h i ≠ d) → g d = 0) :
    ∑ i, f i = ∑ d, g d :=
  Finset.sum_of_injOn (ch h) (fun _ _ _ _ e => ch_inj h e) (fun _ _ => Finset.mem_coe.mpr (Finset.mem_univ _))
    (fun d _ hd => hoff d fun i e => hd ⟨i, Finset.mem_coe.mpr (Finset.mem_univ i), e⟩) (fun i _ => hon i)

theorem isR_exp_kept (hr : ∀ i, IsR (a i)) (i : Fin 48) : IsR (Ideal.exp (kept a i - Finset.univ.sup (kept a))) := by
  obtain ⟨j, hj, _⟩ := exists_top a
  rw [sup_kept, ← hj]
  unfold kept
  split
  · exact ((hr i).sub (hr j)).exp
  · rw [exp_bot_sub]; exact IsR.zero

theorem exp_nonneg (x : EReal) : 0 ≤ Ideal.exp x := by
  induction x with
  | bot => exact le_rfl
  | top => exact le_top
  | coe r => exact EReal.coe_nonneg.mpr (Real.exp_pos r).le

theorem total_ne (hr : ∀ i, IsR (a i)) : ∑ e, Ideal.exp (kept a e - Finset.univ.sup (kept a)) ≠ 0 := by
  obtain ⟨j, hj, h0⟩ := exists_top a
  refine (lt_of_lt_of_le ?_ (Finset.single_le_sum (f := fun e => Ideal.exp (kept a e - Finset.univ.sup (kept a))) (fun e _ => exp_nonneg _) (Finset.mem_univ j))).ne'
  obtain ⟨r, hr⟩ := hr j
  have hk : kept a j = a j := by unfold kept; rw [h0, if_pos (by decide)]
  show 0 < Ideal.exp (kept a j - Finset.univ.sup (kept a))
  rw [sup_kept, hk, ← hj, hr, ← EReal.coe_sub]
  exact EReal.coe_pos.mpr (Real.exp_pos _)

theorem isR_soft (hr : ∀ i, IsR (a i)) (i : Fin 48) : IsR (soft (kept a) i) :=
  (isR_exp_kept hr i).div (IsR.sum fun e _ => isR_exp_kept hr e) (total_ne hr)

theorem Holds.total (H : Holds u h a) : ∑ d, ex7 u d = ∑ e, Ideal.exp (kept a e - Finset.univ.sup (kept a)) :=
  (sum_block h _ _ (fun i => (H.ex_at i).symm) H.ex_off).symm

theorem Holds.wt_at (H : Holds u h a) (i : Fin 48) : wt u (ch h i) = soft (kept a) i := by
  unfold wt soft
  rw [H.total, H.ex_at]

theorem Holds.wt_off (H : Holds u h a) (d : Fin 384) (hd : ∀ i, ch h i ≠ d) : wt u d = 0 := by
  unfold wt Ideal.div
  rw [H.total, if_neg (total_ne H.isR), H.ex_off d hd, zero_mul]

theorem Holds.isR_wt (H : Holds u h a) (d : Fin 384) : IsR (wt u d) := by
  by_cases hd : ∀ i, ch h i ≠ d
  · rw [H.wt_off d hd]; exact IsR.zero
  · obtain ⟨i, rfl⟩ := not_forall_not.mp hd
    rw [H.wt_at]; exact isR_soft H.isR i

/-! ### The order of summing -/

theorem reorder (v : Fin 384 → EReal) (w : Fin 384 → Fin 384 → EReal) (p : Fin 384 → EReal) (hv : ∀ d, IsR (v d)) (hw : ∀ c d, IsR (w c d)) (hp : ∀ c, IsR (p c)) :
    ∑ d, v d * ∑ c, w c d * p c = ∑ c, p c * ∑ d, w c d * v d := by
  choose v' hv' using hv
  choose w' hw' using hw
  choose p' hp' using hp
  simp only [hv', hw', hp', ← EReal.coe_mul, ← coe_sum]
  congr 1
  simp only [Finset.mul_sum]
  rw [Finset.sum_comm]
  exact Finset.sum_congr rfl fun c _ => Finset.sum_congr rfl fun d _ => by ring

/-- The kernel's sum of the values by the folded weights is the reference's projection of the weighted values. -/
theorem sums_eq (u : Fin 384 → Fin 384 → EReal) (hd : Fin 384 → Fin 8) (a : Fin 384 → Fin 48 → EReal) (H : ∀ c, Holds (u c) (hd c) (a c))
    (v p : Fin 384 → EReal) (hv : ∀ d, IsR (v d)) (hp : ∀ c, IsR (p c)) :
    ∑ d, v d * ∑ c, wt (u c) d * p c = ∑ c, p c * ∑ i, soft (kept (a c)) i * v (ch (hd c) i) := by
  rw [reorder v (fun c d => wt (u c) d) p hv (fun c d => (H c).isR_wt d) hp]
  refine Finset.sum_congr rfl fun c _ => congrArg _ ?_
  symm
  refine sum_block (hd c) _ _ (fun i => ?_) (fun d hoff => ?_)
  · rw [(H c).wt_at]
  · rw [(H c).wt_off d hoff, zero_mul]

end Cert.Glue

end
-- ==== Proof.I.PreK.lean ====
module

public import proofs.«01_k».proof.Proof.I.RefB
public import proofs.«01_k».proof.Proof.I.Glue
public import proofs.«01_k».proof.Proof.Gen.Pre_finite_no_ties

@[expose] public section

/-! What the precondition says of the arguments. -/

set_option maxRecDepth 16384

noncomputable section

namespace Cert.ReferenceIdeal.Val

open Cert.ReferenceIdeal Cert.ReferenceIdeal.Gen Cert.ReferenceIdeal.Value Idealize.ShloMosaic.TcCoe Idealize.SL.Sem
  Idealize.ShloMosaic.StableHlo Idealize.ShloMosaic.ValueIdx Cert.Maths Cert.Glue
open Idealize.ShloMosaic hiding ix1 ix2 ix3 ix4 ix5
open scoped BigOperators

theorem pinf : Ideal.ofBits .f32 0x7F800000#32 = ⊤ := by simp [Ideal.ofBits, Ideal.ieee]

theorem bit_one {p : Prop} [Decidable p] (h : BitVec.ofBool (decide p) = 1#1) : p := by
  by_contra hc
  rw [decide_eq_false hc] at h
  exact absurd h (by decide)

theorem isR_of_abs {x : EReal} (h : BitVec.ofBool (decide (max x (-x) < Ideal.ofBits .f32 0x7F800000#32)) = 1#1) : IsR x := by
  have h := bit_one h
  rw [pinf] at h
  induction x with
  | bot => exact absurd h (by simp)
  | top => exact absurd h (by simp)
  | coe r => exact ⟨r, rfl⟩

variable (V : Valuation τ sig (Elt Ideal))

/-- The precondition's six arrays at a valuation's arguments. -/
abbrev pre := Cert.Pre_finite_no_ties.fn (F := Ideal) (X V) (W V) (D V) (P V) (T V)

theorem pre0 (h : (pre V).1 = fun _ => 1#1) (i : _) : IsR (X V i) := isR_of_abs (congrFun h i)
theorem pre1 (h : (pre V).2.1 = fun _ => 1#1) (i : _) : IsR (W V i) := isR_of_abs (congrFun h i)
theorem pre2 (h : (pre V).2.2.1 = fun _ => 1#1) (i : _) : IsR (D V i) := isR_of_abs (congrFun h i)
theorem pre3 (h : (pre V).2.2.2.1 = fun _ => 1#1) (i : _) : IsR (P V i) := isR_of_abs (congrFun h i)
theorem pre4 (h : (pre V).2.2.2.2.1 = fun _ => 1#1) (i : _) : IsR (T V i) := isR_of_abs (congrFun h i)

open Cert.Pre_finite_no_ties in
/-- Equal places, or different entries. -/
def apart (A : Cert.ReferenceIdeal.S8x48x48.Idx → EReal) : S8x48x48x48.Idx → BitVec 1 :=
  ori (cmpi .eq (iotaInDim S8x48x48x48 32 2) (iotaInDim S8x48x48x48 32 3))
    (cmpf (F := Ideal) (φ := .f32) .une (broadcastInDim S8x48x48x48 ![0, 1, 2, 3] Cert.Pre_finite_no_ties.Gen.bcast_S8x48x48x1_S8x48x48x48_0_1_2_3 (broadcastInDim S8x48x48x1 ![0, 1, 2] Cert.Pre_finite_no_ties.Gen.bcast_S8x48x48_S8x48x48x1_0_1_2 A))
      (broadcastInDim S8x48x48x48 ![0, 1, 2, 3] Cert.Pre_finite_no_ties.Gen.bcast_S8x48x1x48_S8x48x48x48_0_1_2_3 (broadcastInDim S8x48x1x48 ![0, 1, 3] Cert.Pre_finite_no_ties.Gen.bcast_S8x48x48_S8x48x1x48_0_1_3 A)))

theorem pre5_eq : (pre V).2.2.2.2.2 = apart (res_main_v93 V) := rfl

theorem apart_inj {A : S8x48x48.Idx → EReal} (hA : apart A = fun _ => 1#1) (h : Fin 8) (a : Fin 48) : Function.Injective fun d : Fin 48 => A (ix3 h a d) := by
  intro i j hij
  by_contra hne
  have hk : apart A (ix4 h a i j) = 1#1 := congrFun hA _
  have h1 : apart A (ix4 h a i j) = IntOp.ori (BitVec.ofBool (BitVec.ofNat 32 i.val == BitVec.ofNat 32 j.val)) (BitVec.ofBool (decide (A (ix3 h a i) ≠ A (ix3 h a j)))) := by
    refine congrArg₂ IntOp.ori rfl (congrArg₂ (fun p q : EReal => BitVec.ofBool (decide (p ≠ q))) ?_ ?_)
    · refine (broadcastInDim_apply _ _ _ _ (ix4 h a i (0 : Fin 1)) (by intro e; match e with | ⟨0, _⟩ => rfl | ⟨1, _⟩ => rfl | ⟨2, _⟩ => rfl | ⟨3, _⟩ => rfl)).trans ?_
      exact broadcastInDim_apply _ _ _ _ (ix3 h a i) (by intro e; match e with | ⟨0, _⟩ => rfl | ⟨1, _⟩ => rfl | ⟨2, _⟩ => rfl)
    · refine (broadcastInDim_apply _ _ _ _ (ix4 h a (0 : Fin 1) j) (by intro e; match e with | ⟨0, _⟩ => rfl | ⟨1, _⟩ => rfl | ⟨2, _⟩ => rfl | ⟨3, _⟩ => rfl)).trans ?_
      exact broadcastInDim_apply _ _ _ _ (ix3 h a j) (by intro e; match e with | ⟨0, _⟩ => rfl | ⟨1, _⟩ => rfl | ⟨2, _⟩ => rfl)
  have h2 : (BitVec.ofNat 32 i.val == BitVec.ofNat 32 j.val) = false := by
    rw [beq_eq_false_iff_ne]
    intro he
    have := congrArg BitVec.toNat he
    simp only [BitVec.toNat_ofNat] at this
    exact hne (Fin.ext (by omega))
  rw [h1, h2, decide_eq_false (not_not.mpr hij)] at hk
  exact absurd hk (by decide)

theorem scores_inj (h5 : (pre V).2.2.2.2.2 = fun _ => 1#1) (h : Fin 8) (a : Fin 48) : Function.Injective (sc V h a) := by
  have := apart_inj ((pre5_eq V).symm.trans h5) h a
  rwa [show (fun d : Fin 48 => res_main_v93 V (ix3 h a d)) = sc V h a from funext fun d => v93_at V h a d] at this

end Cert.ReferenceIdeal.Val

end
-- ==== Proof.I.Same.lean ====
module

public import proofs.«01_k».proof.Proof.I.OutK
public import proofs.«01_k».proof.Proof.I.RefC
public import proofs.«01_k».proof.Proof.I.PreK

@[expose] public section

/-! The kernel's result is the reference's. -/

set_option maxRecDepth 16384

noncomputable section

namespace Cert.Same

open Cert.Maths Cert.Glue
open Cert.KernelIdeal.Val (aX aW aD aP aT col outAt out_at cv_pix)
open Cert.KernelIdeal.Pa (W4)
open Cert.ReferenceIdeal.Val (X W D P T sc res res_at pre pre0 pre1 pre2 pre3 pre4 scores_inj)
open Idealize.ShloMosaic hiding ix1 ix2 ix3 ix4 ix5
open Idealize.ShloMosaic.TcCoe Idealize.ShloMosaic.ValueIdx Idealize.SL.Sem Idealize.ShloMosaic.StableHlo
open scoped BigOperators

variable (m : (ℓ : Loc Cert.KernelIdeal.nD Cert.KernelIdeal.τ Cert.KernelIdeal.sig) → Buf (Elt Ideal) ℓ) (c₀ : Dev Cert.KernelIdeal.nD)
variable (V : Valuation Cert.ReferenceIdeal.τ Cert.ReferenceIdeal.sig (Elt Ideal))

/-- The reference's arguments are the kernel's. -/
structure Agree : Prop where
  x : X V = aX m c₀
  w : W V = aW m c₀
  d : D V = aD m c₀
  p : P V = aP m c₀
  t : T V = aT m c₀

/-- The precondition of the reference's arguments. -/
structure Fit : Prop where
  x : ∀ i, IsR (X V i)
  w : ∀ i, IsR (W V i)
  d : ∀ i, IsR (D V i)
  p : ∀ i, IsR (P V i)
  t : ∀ i, IsR (T V i)
  inj : ∀ h a, Function.Injective (sc V h a)

variable {m c₀ V}

theorem holds (A : Agree m c₀ V) (hf : Fit V) (c : Fin 384) :
    Holds (col m c₀ c) ⟨c.val / 48, by omega⟩ (sc V ⟨c.val / 48, by omega⟩ ⟨c.val % 48, by omega⟩) := by
  have hc : ch ⟨c.val / 48, by omega⟩ ⟨c.val % 48, by omega⟩ = c := Fin.ext (by simp only [ch]; omega)
  refine ⟨fun i => ?_, fun d hd => ?_, fun i => isR_score hf.w hf.x hf.d (hf.t _) _ _, hf.inj _ _⟩
  · unfold col sc
    rw [if_pos (by simp only [ch]; omega), hc, A.w, A.x, A.d, A.t]
  · unfold col
    rw [if_neg]
    intro he
    refine hd ⟨d.val % 48, by omega⟩ (Fin.ext ?_)
    simp only [ch]
    omega

theorem sums (A : Agree m c₀ V) (hf : Fit V) (o : Fin 384) (i j : Fin 224) :
    outAt m c₀ (224 * i.val + j.val) o = ∑ c : Fin 384, P V (ix4 o c 0 0) * ∑ d : Fin 48, soft (kept (sc V ⟨c.val / 48, by omega⟩ ⟨c.val % 48, by omega⟩)) d
      * conv (W V) (X V) (D V) (vc (ch ⟨c.val / 48, by omega⟩ d)) i.val j.val := by
  unfold outAt
  refine Eq.trans ?_ (sums_eq (col m c₀) (fun c => ⟨c.val / 48, by omega⟩) (fun c => sc V ⟨c.val / 48, by omega⟩ ⟨c.val % 48, by omega⟩) (holds A hf)
    (fun d => conv (W V) (X V) (D V) (vc d) i.val j.val) (fun c => P V (ix4 o c 0 0)) (fun d => isR_conv hf.w hf.x hf.d _ _ _) (fun c => hf.p _))
  refine Finset.sum_congr rfl fun d _ => congrArg₂ (· * ·) ?_ (Finset.sum_congr rfl fun c _ => congrArg _ ?_)
  · rw [cv_pix, A.w, A.x, A.d]
  · rw [A.p]

theorem at_idx (A : Agree m c₀ V) (hf : Fit V) (o : Fin 384) (i j : Fin 224) :
    W4 m c₀ Cert.KernelIdeal.main_v18 (ix4 0 o i j) = res V (ix4 0 o i j) :=
  (out_at m c₀ o i j).trans ((sums A hf o i j).trans (res_at V hf.inj o i j).symm)

theorem all (A : Agree m c₀ V) (hf : Fit V) : W4 m c₀ Cert.KernelIdeal.main_v18 = res V := by
  funext y
  have hy : y = ix4 (0 : Fin 1) (y 1) (y 2) (y 3) := by
    funext e
    match e with
    | ⟨0, _⟩ => exact Fin.ext (by have := (y 0).isLt; have h1 : (y 0).val < 1 := this; show (y 0).val = 0; omega)
    | ⟨1, _⟩ => rfl
    | ⟨2, _⟩ => rfl
    | ⟨3, _⟩ => rfl
  rw [hy]
  exact at_idx A hf _ _ _

end Cert.Same

end
-- ==== Proof.lean ====
/-
  The claims of the certificate, put together from the runs of the three programs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_no_ties
public import proofs.«01_k».proof.Proof.RegE
public import proofs.«01_k».proof.Proof.I.RegE
public import proofs.«01_k».proof.Proof.I.Same
public import Idealize.ShloMosaic.Adequacy
public import Idealize.ShloMosaic.Init

@[expose] public section

noncomputable section

namespace Cert.Proof

open Idealize.ShloMosaic Idealize.ShloMosaic.StableHlo Idealize.SL.Sem

theorem kernel_frame : Cert.quiescent_Kernel (hKernel := Cert.Kernel.Gen.facts) := fun m g _ =>
  (θ_run _ _ _).mono (fun _ h => ⟨fun c => (h.1 c).2, h.2⟩) (Cert.Kernel.Pa.run_main m g)

theorem ideal_frame : Cert.quiescent_KernelIdeal (hKernelIdeal := Cert.KernelIdeal.Gen.facts) := fun m g _ =>
  (θ_run _ _ _).mono (fun _ h => ⟨fun c => (h.1 c).2, h.2⟩) (Cert.KernelIdeal.Pa.run_main m g)

theorem reference_frame : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩) (Cert.ReferenceIdeal.Value.run (F := Ideal) m g)

/-- The reference's arguments, on a device, as the precondition finds them. -/
theorem fit (V : Valuation Cert.ReferenceIdeal.τ Cert.ReferenceIdeal.sig (Elt Ideal))
    (h : (Cert.ReferenceIdeal.Val.pre V).1 = (fun _ => 1#1) ∧ (Cert.ReferenceIdeal.Val.pre V).2.1 = (fun _ => 1#1) ∧ (Cert.ReferenceIdeal.Val.pre V).2.2.1 = (fun _ => 1#1)
      ∧ (Cert.ReferenceIdeal.Val.pre V).2.2.2.1 = (fun _ => 1#1) ∧ (Cert.ReferenceIdeal.Val.pre V).2.2.2.2.1 = (fun _ => 1#1) ∧ (Cert.ReferenceIdeal.Val.pre V).2.2.2.2.2 = (fun _ => 1#1)) :
    Cert.Same.Fit V :=
  ⟨Cert.ReferenceIdeal.Val.pre0 V h.1, Cert.ReferenceIdeal.Val.pre1 V h.2.1, Cert.ReferenceIdeal.Val.pre2 V h.2.2.1, Cert.ReferenceIdeal.Val.pre3 V h.2.2.2.1,
    Cert.ReferenceIdeal.Val.pre4 V h.2.2.2.2.1, Cert.ReferenceIdeal.Val.scores_inj V h.2.2.2.2.2⟩

theorem value : Cert.algebraic_KernelIdeal_ReferenceIdeal_pre_finite_no_ties (hKernelIdeal := Cert.KernelIdeal.Gen.facts)
    (hReferenceIdeal := Cert.ReferenceIdeal.Gen.facts) (hPre_finite_no_ties := Cert.Pre_finite_no_ties.Gen.facts) := by
  intro m g m' g' hpre hag
  refine ⟨fun c => Cert.KernelIdeal.Pa.W4 m c (Proc.devRef .tc Cert.KernelIdeal.main_v18), ?_, ?_⟩
  · exact (θ_run _ _ _).mono (fun _ h => h.1) (Cert.KernelIdeal.Pa.run_main m g)
  · refine (θ_run _ _ _).mono (fun r h c => ⟨(h c).1.trans ?_, (h c).2⟩) (Cert.ReferenceIdeal.Value.run (F := Ideal) m' g')
    obtain ⟨h0, h1, h2, h3, h4⟩ := hag c
    have hp := hpre c
    rw [← h0, ← h1, ← h2, ← h3, ← h4] at hp
    exact (Cert.Same.all (m := m) (c₀ := c) (V := launchContents m' c) ⟨h0, h1, h2, h3, h4⟩ (fit _ hp)).symm

theorem claim : Cert.Claim :=
  ⟨Cert.Kernel.Gen.facts, Cert.KernelIdeal.Gen.facts, Cert.ReferenceIdeal.Gen.facts, Cert.Pre_finite_no_ties.Gen.facts,
    kernel_frame, ideal_frame, fun m g _ => ideal_frame m g trivial, reference_frame, fun m g _ => reference_frame m g trivial, trivial, value⟩

end Cert.Proof

end
